-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![4096, 4096]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 2048]⟩ ⟨2, ![4096, 2048]⟩ 0 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S1024x2048 : Shape := ⟨2, ![1024, 2048]⟩
abbrev S4096x2048 : Shape := ⟨2, ![4096, 2048]⟩
abbrev S2x1024x1024 : Shape := ⟨3, ![2, 1024, 1024]⟩
abbrev S2x2x1024x1024 : Shape := ⟨4, ![2, 2, 1024, 1024]⟩
abbrev S2x3x1024x1024 : Shape := ⟨4, ![2, 3, 1024, 1024]⟩
abbrev S4x8x128 : Shape := ⟨3, ![4, 8, 128]⟩
abbrev S2 : Shape := ⟨1, ![2]⟩
abbrev S2x2 : Shape := ⟨2, ![2, 2]⟩
abbrev S2x3 : Shape := ⟨2, ![2, 3]⟩
abbrev S3 : Shape := ⟨1, ![3]⟩
abbrev S4 : Shape := ⟨1, ![4]⟩
abbrev S_ : Shape := ⟨0, ![]⟩
abbrev S1 : Shape := ⟨1, ![1]⟩
abbrev S1x1024x1024 : Shape := ⟨3, ![1, 1024, 1024]⟩
abbrev S1024x1024 : Shape := ⟨2, ![1024, 1024]⟩
abbrev S1x1x1024x1024 : Shape := ⟨4, ![1, 1, 1024, 1024]⟩
abbrev S1x1 : Shape := ⟨2, ![1, 1]⟩
abbrev S1x1x1 : Shape := ⟨3, ![1, 1, 1]⟩
abbrev S8x128 : Shape := ⟨2, ![8, 128]⟩
abbrev S1x8x128 : Shape := ⟨3, ![1, 8, 128]⟩
abbrev S1x4x8x128 : Shape := ⟨4, ![1, 4, 8, 128]⟩
abbrev S1x1x1x1 : Shape := ⟨4, ![1, 1, 1, 1]⟩

abbrev nBuf : Space → Nat
  | .hbm => 3
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1024x2048, .f32⟩
  | .hbm, ⟨2, _⟩ => ⟨S4096x2048, .bf16⟩
  | .local _ .vmem, ⟨0, _⟩ => ⟨S4096x1024, .bf16⟩
  | .local _ .vmem, ⟨1, _⟩ => ⟨S1024x2048, .bf16⟩
  | .local _ .vmem, ⟨2, _⟩ => ⟨S2x1024x1024, .f32⟩
  | .local _ .vmem, ⟨3, _⟩ => ⟨S1024x2048, .f32⟩
  | .local _ .vmem, ⟨4, _⟩ => ⟨S1024x2048, .bf16⟩
  | .local _ .vmem, ⟨5, _⟩ => ⟨S2x2x1024x1024, .bf16⟩
  | .local _ .vmem, ⟨6, _⟩ => ⟨S2x3x1024x1024, .bf16⟩
  | .local _ .vmem, ⟨7, _⟩ => ⟨S1024x2048, .fp8e4m3⟩
  | .local _ .vmem, ⟨8, _⟩ => ⟨S2x3x1024x1024, .fp8e4m3⟩
  | .local _ .vmem, ⟨9, _⟩ => ⟨S4x8x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  (ofTc nBuf bufTy 1 34 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_scratch8 : Ref sig .tc := ⟨.vmem, 8, rfl⟩
abbrev cc0_scratch9 : Ref sig .tc := ⟨.vmem, 9, rfl⟩
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_8 : BitVec 32 := 1#32
  let v11 : BitVec 32 := Scalar.muli v7 c1_i32_8
  let v12 : BitVec 32 := Scalar.addi c0_i32_9 v11
  v12.toNat
def k0_off1 (d0 : Dev nD) (c3_i32 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v13 : BitVec 32 := Scalar.addi v2 c3_i32
  let c4_i32_10 : BitVec 32 := 4#32
  let v14 : BitVec 32 := Scalar.remsi v13 c4_i32_10
  let c1024_i32 : BitVec 32 := 1024#32
  let v21 : BitVec 32 := Scalar.muli v14 c1024_i32
  let c0_i32_45 : BitVec 32 := 0#32
  ![v21.toNat, 0]
def k0_off2 (d0 : Dev nD) (c3_i32 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v13 : BitVec 32 := Scalar.addi v2 c3_i32
  let c4_i32_10 : BitVec 32 := 4#32
  let v14 : BitVec 32 := Scalar.remsi v13 c4_i32_10
  let c1024_i32_68 : BitVec 32 := 1024#32
  let v75 : BitVec 32 := Scalar.muli v14 c1024_i32_68
  let v76 : Index := Scalar.indexCast v75
  let c0_69 : Index := 0#32
  ![v76.toNat, 0]
def k0_off3 (d0 : Dev nD) (c0_i32_92 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v103 : BitVec 32 := Scalar.addi v2 c8_i32
  let c1_i32_91 : BitVec 32 := 1#32
  let v104 : BitVec 32 := Scalar.subi v103 c1_i32_91
  let v105 : BitVec 32 := Scalar.subi v104 c0_i32_92
  let c4_i32_93 : BitVec 32 := 4#32
  let v106 : BitVec 32 := Scalar.remsi v105 c4_i32_93
  let c1024_i32_94 : BitVec 32 := 1024#32
  let v107 : BitVec 32 := Scalar.muli v106 c1024_i32_94
  let v108 : Index := Scalar.indexCast v107
  let c0_95 : Index := 0#32
  ![v108.toNat, 0]
def k0_off4 (d0 : Dev nD) (c0_i32_99 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_98 : BitVec 32 := 1#32
  let v112 : BitVec 32 := Scalar.addi v2 c1_i32_98
  let v113 : BitVec 32 := Scalar.addi v112 c0_i32_99
  let c4_i32_100 : BitVec 32 := 4#32
  let v114 : BitVec 32 := Scalar.remsi v113 c4_i32_100
  let c1024_i32_101 : BitVec 32 := 1024#32
  let v115 : BitVec 32 := Scalar.muli v114 c1024_i32_101
  let v116 : Index := Scalar.indexCast v115
  let c0_102 : Index := 0#32
  ![v116.toNat, 0]
def k0_dev3 (d0 : Dev nD) : Nat :=
  let c0_i32_119 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_118 : BitVec 32 := 1#32
  let v124 : BitVec 32 := Scalar.muli v7 c1_i32_118
  let v125 : BitVec 32 := Scalar.addi c0_i32_119 v124
  v125.toNat
def k0_dev4 (d0 : Dev nD) : Nat :=
  let c0_i32_137 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_136 : BitVec 32 := 1#32
  let v138 : BitVec 32 := Scalar.muli v5 c1_i32_136
  let v139 : BitVec 32 := Scalar.addi c0_i32_137 v138
  v139.toNat
def k0_dev5 (d0 : Dev nD) : Nat :=
  let c0_i32_214 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_213 : BitVec 32 := 1#32
  let v202 : BitVec 32 := Scalar.muli v7 c1_i32_213
  let v203 : BitVec 32 := Scalar.addi c0_i32_214 v202
  v203.toNat
def k0_dev6 (d0 : Dev nD) : Nat :=
  let c0_i32_236 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_235 : BitVec 32 := 1#32
  let v220 : BitVec 32 := Scalar.muli v5 c1_i32_235
  let v221 : BitVec 32 := Scalar.addi c0_i32_236 v220
  v221.toNat
def k0_dev7 (d0 : Dev nD) : Nat :=
  let c0_i32_326 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_325 : BitVec 32 := 1#32
  let v290 : BitVec 32 := Scalar.muli v7 c1_i32_325
  let v291 : BitVec 32 := Scalar.addi c0_i32_326 v290
  v291.toNat
def k0_dev8 (d0 : Dev nD) : Nat :=
  let c0_i32_361 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_360 : BitVec 32 := 1#32
  let v314 : BitVec 32 := Scalar.muli v5 c1_i32_360
  let v315 : BitVec 32 := Scalar.addi c0_i32_361 v314
  v315.toNat
def k0_off5 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v386 : Index := Scalar.indexCast v2
  let c0_427 : Index := 0#32
  let c0_428 : Index := 0#32
  ![v386.toNat, 0, 0]
def k0_off6 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![v2.toNat]
def k0_off7 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_434 : BitVec 32 := 0#32
  let c0_i32_435 : BitVec 32 := 0#32
  ![v2.toNat, 0, 0]
def k0_dev9 (d0 : Dev nD) : Nat :=
  let c0_i32_433 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_429 : BitVec 32 := 1#32
  let v390 : BitVec 32 := Scalar.addi v2 c1_i32_429
  let c4_i32_430 : BitVec 32 := 4#32
  let v391 : BitVec 32 := Scalar.remsi v390 c4_i32_430
  let c1_i32_432 : BitVec 32 := 1#32
  let v392 : BitVec 32 := Scalar.muli v391 c1_i32_432
  let v393 : BitVec 32 := Scalar.addi c0_i32_433 v392
  v393.toNat
def k0_dev10 (d0 : Dev nD) : Nat :=
  let c0_i32_442 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_438 : BitVec 32 := 2#32
  let v402 : BitVec 32 := Scalar.addi v2 c2_i32_438
  let c4_i32_439 : BitVec 32 := 4#32
  let v403 : BitVec 32 := Scalar.remsi v402 c4_i32_439
  let c1_i32_441 : BitVec 32 := 1#32
  let v404 : BitVec 32 := Scalar.muli v403 c1_i32_441
  let v405 : BitVec 32 := Scalar.addi c0_i32_442 v404
  v405.toNat
def k0_dev11 (d0 : Dev nD) : Nat :=
  let c0_i32_451 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_447 : BitVec 32 := 3#32
  let v414 : BitVec 32 := Scalar.addi v2 c3_i32_447
  let c4_i32_448 : BitVec 32 := 4#32
  let v415 : BitVec 32 := Scalar.remsi v414 c4_i32_448
  let c1_i32_450 : BitVec 32 := 1#32
  let v416 : BitVec 32 := Scalar.muli v415 c1_i32_450
  let v417 : BitVec 32 := Scalar.addi c0_i32_451 v416
  v417.toNat
def k0_off8 (d0 : Dev nD) (c1_i32_456 : BitVec 32) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v426 : BitVec 32 := Scalar.addi v2 c1_i32_456
  let c4_i32_457 : BitVec 32 := 4#32
  let v427 : BitVec 32 := Scalar.remsi v426 c4_i32_457
  ![v427.toNat]
def k0_off9 (d0 : Dev nD) (c1_i32_456 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v426 : BitVec 32 := Scalar.addi v2 c1_i32_456
  let c4_i32_457 : BitVec 32 := 4#32
  let v427 : BitVec 32 := Scalar.remsi v426 c4_i32_457
  let c0_i32_461 : BitVec 32 := 0#32
  let c0_i32_462 : BitVec 32 := 0#32
  ![v427.toNat, 0, 0]
def k0_dev12 (d0 : Dev nD) : Nat :=
  let c0_i32_500 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_499 : BitVec 32 := 1#32
  let v471 : BitVec 32 := Scalar.muli v7 c1_i32_499
  let v472 : BitVec 32 := Scalar.addi c0_i32_500 v471
  v472.toNat
def k0_dev13 (d0 : Dev nD) : Nat :=
  let c0_i32_517 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_516 : BitVec 32 := 1#32
  let v489 : BitVec 32 := Scalar.muli v5 c1_i32_516
  let v490 : BitVec 32 := Scalar.addi c0_i32_517 v489
  v490.toNat
def k0_off10 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_526 : BitVec 32 := 1024#32
  let v506 : BitVec 32 := Scalar.muli v2 c1024_i32_526
  let c0_i32_527 : BitVec 32 := 0#32
  ![v506.toNat, 0]
def k0_dev14 (d0 : Dev nD) : Nat :=
  let c0_i32_561 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_560 : BitVec 32 := 1#32
  let v522 : BitVec 32 := Scalar.muli v7 c1_i32_560
  let v523 : BitVec 32 := Scalar.addi c0_i32_561 v522
  v523.toNat
def k0_dev15 (d0 : Dev nD) : Nat :=
  let c0_i32_575 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_574 : BitVec 32 := 1#32
  let v532 : BitVec 32 := Scalar.muli v5 c1_i32_574
  let v533 : BitVec 32 := Scalar.addi c0_i32_575 v532
  v533.toNat
def k0_off11 (d0 : Dev nD) (c0_i32_583 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32_581 : BitVec 32 := 8#32
  let v543 : BitVec 32 := Scalar.addi v2 c8_i32_581
  let c1_i32_582 : BitVec 32 := 1#32
  let v544 : BitVec 32 := Scalar.subi v543 c1_i32_582
  let v545 : BitVec 32 := Scalar.subi v544 c0_i32_583
  let c4_i32_584 : BitVec 32 := 4#32
  let v546 : BitVec 32 := Scalar.remsi v545 c4_i32_584
  let c1024_i32_591 : BitVec 32 := 1024#32
  let v556 : BitVec 32 := Scalar.muli v546 c1024_i32_591
  let c0_i32_593 : BitVec 32 := 0#32
  ![v556.toNat, 0]
def k0_off12 (d0 : Dev nD) (c0_i32_597 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_596 : BitVec 32 := 1#32
  let v561 : BitVec 32 := Scalar.addi v2 c1_i32_596
  let v562 : BitVec 32 := Scalar.addi v561 c0_i32_597
  let c4_i32_598 : BitVec 32 := 4#32
  let v563 : BitVec 32 := Scalar.remsi v562 c4_i32_598
  let c1024_i32_605 : BitVec 32 := 1024#32
  let v573 : BitVec 32 := Scalar.muli v563 c1024_i32_605
  let c1024_i32_607 : BitVec 32 := 1024#32
  ![v573.toNat, 1024]
def k0_dev16 (d0 : Dev nD) : Nat :=
  let c0_i32_647 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_646 : BitVec 32 := 1#32
  let v594 : BitVec 32 := Scalar.muli v7 c1_i32_646
  let v595 : BitVec 32 := Scalar.addi c0_i32_647 v594
  v595.toNat
def k0_dev17 (d0 : Dev nD) : Nat :=
  let c0_i32_661 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_660 : BitVec 32 := 1#32
  let v604 : BitVec 32 := Scalar.muli v5 c1_i32_660
  let v605 : BitVec 32 := Scalar.addi c0_i32_661 v604
  v605.toNat
-- ==== ReferenceIdeal.lean ====
abbrev S4096x4096 : Shape := ⟨2, ![4096, 4096]⟩
abbrev S4096x2048 : Shape := ⟨2, ![4096, 2048]⟩
abbrev S_ : Shape := ⟨0, ![]⟩
abbrev S1x1 : Shape := ⟨2, ![1, 1]⟩

abbrev nBuf : Space → Nat
  | .hbm => 13
  | .vmem => 2
  | .smem => 1
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .hbm, ⟨3, _⟩ => ⟨S_, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S1x1, .f32⟩
  | .hbm, ⟨12, _⟩ => ⟨S4096x2048, .bf16⟩
  | .local _ .vmem, ⟨0, _⟩ => ⟨S4096x2048, .f32⟩
  | .local _ .vmem, ⟨1, _⟩ => ⟨S4096x2048, .bf16⟩
  | .local _ .smem, ⟨0, _⟩ => ⟨S1x1, .f32⟩
  | _, _ => ⟨S4096x4096, .f32⟩

abbrev bufScoped : (cs : CoreSpace) → Fin (nBuf (.core cs)) → Bool
  | .vmem, ⟨0, _⟩ => true
  | .vmem, ⟨1, _⟩ => true
  | .smem, ⟨0, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg2_0 : Ref sig .tc := ⟨.vmem, 1, rfl⟩
abbrev cc0_stg1_0 : Ref sig .tc := ⟨.smem, 0, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S4096x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.Steps.lean ====
/-
# Windows and steps

A window of a buffer is a unit-stride slice of it; a device that owns a window knows what it reads through it
(`owns`). This module states the few steps the kernel's body takes in terms of windows: a load, a dead load followed
by a store, a copy inside the device started and finished, and how a window with leading axes of length one is the
same as its squeezed form.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Transfers
public import Idealize.ShloMosaic.Lib.Tactic

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)

variable {F : FTy → Type} [FloatOps F]

/-! ## The resource algebra: the pipeline's copy, the protocol's rounds, and the counters of local copies -/

abbrev UB : Type := URounds (GSem nD τ sig) Bool
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR
abbrev EC : UEmb Counters (MT nD τ sig Unit (Elt F) ℕ UU ℕ) := countersEmb

abbrev 𝒱₀ : Variants := Variants.none

/-- A program of the kernel's thread, run by device `c` to the postcondition `Q`. -/
abbrev WP {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-! ## Windows -/

variable {sp sp' : Space} {s s' : Shape} {e : EltTy}

/-- Device `c` owns the memref at share `q` and reads `X` through it. -/
abbrev own1 (c : Dev nD) (M : Memref sig .tc sp s e) (q : PosShare TreeShare) (X : s.Idx → Elt F e) : sProp 𝕄 :=
  owns (c : Thread nD τ) M q X

/-- Device `c` owns the memref outright, at contents nobody knows. -/
def ownAny (c : Dev nD) (M : Memref sig .tc sp s e) : sProp 𝕄 := iprop(∃ X : s.Idx → Elt F e, own1 c M fullShare X)

instance ownAny_storable (c : Dev nD) (M : Memref sig .tc sp s e) :
    BI.Storable (upEmb : UEmb _ 𝕄) (ownAny (F := F) c M) := by unfold ownAny; infer_instance

/-- The unit-stride window of `M` at `off` of extent `sz`. -/
abbrev win (M : Memref sig .tc sp s e) (off sz : Fin s.rank → ℕ) (inb : ∀ a, off a + sz a ≤ s.size a) :
    Memref sig .tc sp ⟨s.rank, sz⟩ e :=
  M.slice (Rect.unit off sz inb) (fun _ => rfl)

omit [FloatOps F] in
theorem own1_any (c : Dev nD) (M : Memref sig .tc sp s e) (X : s.Idx → Elt F e) :
    (own1 c M fullShare X : sProp 𝕄) ⊢ ownAny c M := by
  unfold ownAny; iintro H; iexists X; iexact H

omit [FloatOps F] in
/-- Owning a squeezed memref is owning the memref, the values read in the same row-major order. -/
theorem owns_squeeze (c : Dev nD) (M : Memref sig .tc sp s e) (h : s.Squeezes s') (q : PosShare TreeShare)
    (Y : s'.Idx → Elt F e) :
    (own1 c (M.squeeze s' h) q Y : sProp 𝕄) = own1 c M q (fun j => Y ((Shape.reshapeEquiv h.numel_eq).symm j)) := by
  have key : ∀ f, ((M.squeeze s' h).view.read (Elt F) f = Y) ↔
      (M.view.read (Elt F) f = fun j => Y ((Shape.reshapeEquiv h.numel_eq).symm j)) := by
    intro f
    constructor
    · intro hf; funext j; rw [← hf]
      show _ = M.view.read (Elt F) f (Shape.reshapeEquiv h.numel_eq _)
      rw [Equiv.apply_symm_apply]
    · intro hf; funext j
      show M.view.read (Elt F) f (Shape.reshapeEquiv h.numel_eq j) = _
      rw [hf]; exact congrArg Y (Equiv.symm_apply_apply _ _)
  unfold own1 owns
  have hset : (M.squeeze s' h).view.set = M.view.set := View.set_reshape _ _
  refine congrArg BIBase.exists (funext fun f => ?_)
  simp only [key f]
  rw [hset]

omit [FloatOps F] in
/-- Two squeezed windows of one shape hold the same values exactly when the windows do. -/
theorem owns_squeezed (c : Dev nD) (M : Memref sig .tc sp s e) (h : s.Squeezes s') (q : PosShare TreeShare)
    (X : s.Idx → Elt F e) :
    (own1 c (M.squeeze s' h) q (fun j => X (Shape.reshapeEquiv h.numel_eq j)) : sProp 𝕄) = own1 c M q X := by
  rw [owns_squeeze]; congr 1; funext j; exact congrArg X (Equiv.apply_symm_apply _ _)

/-! ## Loads and stores -/

variable {α : Type}

/-- A load through a window that is owned, at any share: the window is read and stays. -/
theorem step_load (c : Dev nD) {cs : CoreSpace} {M : Memref sig .tc cs s e} {off off' sz : Fin s.rank → ℕ}
    {inb : ∀ a, off a + sz a ≤ s.size a} {inb' : ∀ a, off' a + sz a ≤ s.size a} (ho : off' = off)
    {q : PosShare TreeShare} {X : (⟨s.rank, sz⟩ : Shape).Idx → Elt F e}
    {hl : M.view.LoadsAt (Rect.unit off' sz inb').toLoadRect}
    {k : ((Rect.unit off' sz inb').toLoadRect.shape.Idx → Elt F e) → Prog (TpuEff nD τ sig (Elt F) Λ₀ .tc) α} {Q : α → sProp 𝕄} :
    (own1 c (win M off sz inb) q X : sProp 𝕄)
      ⊢ iprop((own1 c (win M off sz inb) q X -∗ WP c (k X) Q)
          -∗ WP c (.op (.load M (Rect.unit off' sz inb').toLoadRect hl) k) Q) := by
  subst ho
  unfold own1 owns
  iintro ⟨%f, %hf, H⟩ Hk
  iapply (wp_load_rect 𝒱₀ (c : Thread nD τ) none Set.univ (m := M) (r := Rect.unit off' sz inb') (Finset.Subset.refl _)) $$ H
  iintro H
  have hx : (M.access (Rect.unit off' sz inb')).read (Elt F) f = X := hf
  rw [hx]
  iapply Hk
  iexists f
  isplitr; · ipureintro; exact hf
  iexact H

/-- A store through a window owned outright: the window holds what was stored. -/
theorem step_store (c : Dev nD) {cs : CoreSpace} {M : Memref sig .tc cs s e} {off off' sz : Fin s.rank → ℕ}
    {inb : ∀ a, off a + sz a ≤ s.size a} {inb' : ∀ a, off' a + sz a ≤ s.size a} (ho : off' = off)
    {w : (⟨s.rank, sz⟩ : Shape).Idx → Elt F e}
    {hx : (M.access (Rect.unit off' sz inb')).Stores Finset.univ} {hm}
    {k : PUnit → Prog (TpuEff nD τ sig (Elt F) Λ₀ .tc) α} {Q : α → sProp 𝕄} :
    (ownAny c (win M off sz inb) : sProp 𝕄)
      ⊢ iprop((own1 c (win M off sz inb) fullShare w -∗ WP c (k ⟨⟩) Q)
          -∗ WP c (.op (.store M (Rect.unit off' sz inb') w Finset.univ hx hm) k) Q) := by
  subst ho
  unfold ownAny own1 owns
  iintro ⟨%X, %f, %hf, H⟩ Hk
  iapply (wp_store 𝒱₀ (c : Thread nD τ) none Set.univ (m := M) (r := Rect.unit off' sz inb') (Mk := Finset.univ)
    (S := (win M off' sz inb').view.set) (f := f) (Finset.Subset.refl _)) $$ H
  iintro H
  iapply Hk
  iexists (M.access (Rect.unit off' sz inb')).write (Elt F) f w Finset.univ
  isplitr
  · ipureintro; exact View.read_write_univ _ _
  · iexact H

/-- The dead load and the store that follows it, through one window. -/
theorem step_put (c : Dev nD) {cs : CoreSpace} {M : Memref sig .tc cs s e} {off off' sz : Fin s.rank → ℕ}
    {inb : ∀ a, off a + sz a ≤ s.size a} {inb' : ∀ a, off' a + sz a ≤ s.size a} (ho : off' = off)
    {w : (⟨s.rank, sz⟩ : Shape).Idx → Elt F e}
    {hl : M.view.LoadsAt (Rect.unit off' sz inb').toLoadRect}
    {hx : (M.access (Rect.unit off' sz inb')).Stores Finset.univ} {hm}
    {k : PUnit → Prog (TpuEff nD τ sig (Elt F) Λ₀ .tc) α} {Q : α → sProp 𝕄} :
    (ownAny c (win M off sz inb) : sProp 𝕄)
      ⊢ iprop((own1 c (win M off sz inb) fullShare w -∗ WP c (k ⟨⟩) Q)
          -∗ WP c (.op (.load M (Rect.unit off' sz inb').toLoadRect hl)
              (fun _ => .op (.store M (Rect.unit off' sz inb') w Finset.univ hx hm) k)) Q) := by
  unfold ownAny
  iintro ⟨%X, H⟩ Hk
  iapply (step_load c ho) $$ H
  iintro H
  iapply (step_store c ho) $$ [H]
  · iapply (own1_any c) $$ H
  iexact Hk

/-! ## Copies inside the device -/

omit [FloatOps F] in
/-- What a local copy delivers, read as two owned memrefs. -/
theorem flight_out (c : Dev nD) {src : Memref sig .tc sp s e} {dst : Memref sig .tc sp' s e} (q : PosShare TreeShare)
    (X : s.Idx → Elt F e) (f : Buf (Elt F) (src.view.loc (c : Thread nD τ))) (g : Buf (Elt F) (dst.view.loc (c : Thread nD τ)))
    (hf : src.view.read (Elt F) f = X) :
    (iprop((dst.view.loc (c : Thread nD τ) ↦[dst.view.set]{fullShare}
        (dst.view.write (Elt F) g (ReadAs.same.apply (src.view.read (Elt F) f)) Finset.univ))
      ∗ (src.view.loc (c : Thread nD τ) ↦[src.view.set]{q} f)) : sProp 𝕄)
    ⊢ iprop((∃ f', ⌜dst.view.read (Elt F) f' = X⌝ ∗ (dst.view.loc (c : Thread nD τ) ↦[dst.view.set]{fullShare} f'))
        ∗ (∃ f', ⌜src.view.read (Elt F) f' = X⌝ ∗ (src.view.loc (c : Thread nD τ) ↦[src.view.set]{q} f'))) := by
  iintro ⟨HB, HA⟩
  isplitl [HB]
  · iexists dst.view.write (Elt F) g (ReadAs.same.apply (src.view.read (Elt F) f)) Finset.univ
    isplitr
    · ipureintro
      exact (View.read_write_univ _ _).trans hf
    · iexact HB
  · iexists f
    isplitr; · ipureintro; exact hf
    iexact HA

/-- A local copy started: its source (at a share) and its destination are in flight until the wait. -/
theorem step_copy (c : Dev nD) {src : Memref sig .tc sp s e} {dst : Memref sig .tc sp' s e} {sm : SemLoc sig}
    {hsrc : src.view.WordExact} {hdst : dst.view.WordExact} {hsem : DmaTarget.Typed (nD := nD) (p := (Dev.tc c : Thread nD τ).2) sp sm (.here dst)}
    {k : PUnit → Prog (TpuEff nD τ sig (Elt F) Λ₀ .tc) α} {Q : α → sProp 𝕄} (q : PosShare TreeShare) (X : s.Idx → Elt F e)
    (N : ℕ) (hN : dst.view.amount sm = N) (hN0 : 0 < N) {A B : sProp 𝕄}
    (hA : A ⊢ own1 c src q X) (hB : B ⊢ ownAny c dst) :
    (iprop(A ∗ B ∗ semVal ((c : Thread nD τ), sm) 0) : sProp 𝕄)
      ⊢ iprop((Flight EC (c : Thread nD τ) sm () N iprop(own1 c dst fullShare X ∗ own1 c src q X) -∗ WP c (k ⟨⟩) Q)
          -∗ WP c (.op (.enqueueDma src (.here dst) sm hsrc hdst hsem) k) Q) := by
  iintro ⟨HA, HB, Hv⟩ Hk
  ihave HA := hA $$ HA
  ihave HB := hB $$ HB
  unfold ownAny own1 owns
  icases HA with ⟨%f, %hf, HA⟩
  icases HB with ⟨%Y, %g, %hg, HB⟩
  iapply (Transfers.wp_dmaLocal EC 𝒱₀ (c : Thread nD τ) none (src := src) (dst := dst) () N hN hN0 (Finset.Subset.refl _)) $$ [HA HB Hv]
  · isplitl [HA]; · iexact HA
    isplitl [HB]; · iexact HB
    iexact Hv
  iintro HF
  iapply Hk
  iapply (Transfers.Flight_mono EC (c : Thread nD τ) (flight_out c q X f g hf)) $$ HF

end Cert.KernelIdeal.Run

end
-- ==== Proof.Contents.lean ====
/-
# The ring, the windows and the values

Direction 0 sends to the next device of the ring, direction 1 to the previous one. The values are functions of the
memory at launch.
-/
module

public import proofs.«01_k».proof.Proof.Steps

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The ring -/

set_option backward.proofsInPublic true in
/-- The device `k` places after `c`. -/
def fwd (k : ℕ) (c : Dev nD) : Dev nD := ⟨(c.val + k) % 4, Nat.mod_lt _ (by decide)⟩
abbrev nxt (c : Dev nD) : Dev nD := fwd 1 c
abbrev opp (c : Dev nD) : Dev nD := fwd 2 c
abbrev prv (c : Dev nD) : Dev nD := fwd 3 c

/-- The neighbour direction `r` sends to, and the one it receives from. -/
def tgt (r : Fin 2) (c : Dev nD) : Dev nD := if r = 0 then nxt c else prv c
def src (r : Fin 2) (c : Dev nD) : Dev nD := if r = 0 then prv c else nxt c

theorem src_tgt (r : Fin 2) (c : Dev nD) : src r (tgt r c) = c := by revert r c; decide
theorem tgt_src (r : Fin 2) (c : Dev nD) : tgt r (src r c) = c := by revert r c; decide

/-! ## The windows -/

variable {sp : Space} {e : EltTy}

theorem rows_inb (k : Fin 4) : ∀ a, (![1024 * k.val, 0] : Fin 2 → ℕ) a + S1024x1024.size a ≤ S4096x1024.size a := by
  revert k; decide
theorem half_inb (r : Fin 2) : ∀ a, (![0, 1024 * r.val] : Fin 2 → ℕ) a + S1024x1024.size a ≤ S1024x2048.size a := by
  revert r; decide
theorem stage_inb (i : Fin 2) : ∀ a, (![i.val, 0, 0] : Fin 3 → ℕ) a + S1x1024x1024.size a ≤ S2x1024x1024.size a := by
  revert i; decide
theorem slot22_inb (r s : Fin 2) : ∀ a, (![r.val, s.val, 0, 0] : Fin 4 → ℕ) a + S1x1x1024x1024.size a ≤ S2x2x1024x1024.size a := by
  revert r s; decide
theorem slot23_inb (r : Fin 2) (s : Fin 3) : ∀ a, (![r.val, s.val, 0, 0] : Fin 4 → ℕ) a + S1x1x1024x1024.size a ≤ S2x3x1024x1024.size a := by
  revert r s; decide
theorem amx_inb (k : Fin 4) : ∀ a, (![k.val, 0, 0] : Fin 3 → ℕ) a + S1x8x128.size a ≤ S4x8x128.size a := by
  revert k; decide
theorem outRow_inb (k : Fin 4) : ∀ a, (![1024 * k.val, 0] : Fin 2 → ℕ) a + S1024x2048.size a ≤ S4096x2048.size a := by
  revert k; decide
theorem outB_inb (k : Fin 4) (r : Fin 2) : ∀ a, (![1024 * k.val, 1024 * r.val] : Fin 2 → ℕ) a + S1024x1024.size a ≤ S4096x2048.size a := by
  revert k r; decide

/-- Row chunk `k` of a buffer of 4096 rows of 1024. -/
abbrev rowsW (M : Memref sig .tc sp S4096x1024 e) (k : Fin 4) : Memref sig .tc sp S1024x1024 e := win M ![1024 * k.val, 0] S1024x1024.size (rows_inb k)
/-- Column half `r` of a buffer of 1024 rows of 2048. -/
abbrev halfW (M : Memref sig .tc sp S1024x2048 e) (r : Fin 2) : Memref sig .tc sp S1024x1024 e := win M ![0, 1024 * r.val] S1024x1024.size (half_inb r)
/-- The same buffer as a window of itself. -/
abbrev fullW (M : Memref sig .tc sp S1024x2048 e) : Memref sig .tc sp S1024x2048 e := win M ![0, 0] S1024x2048.size inb_S1024x2048_S1024x2048_0_0
abbrev stageW (M : Memref sig .tc sp S2x1024x1024 e) (i : Fin 2) : Memref sig .tc sp S1x1024x1024 e := win M ![i.val, 0, 0] S1x1024x1024.size (stage_inb i)
abbrev slot22 (M : Memref sig .tc sp S2x2x1024x1024 e) (r s : Fin 2) : Memref sig .tc sp S1x1x1024x1024 e := win M ![r.val, s.val, 0, 0] S1x1x1024x1024.size (slot22_inb r s)
abbrev slot23 (M : Memref sig .tc sp S2x3x1024x1024 e) (r : Fin 2) (s : Fin 3) : Memref sig .tc sp S1x1x1024x1024 e := win M ![r.val, s.val, 0, 0] S1x1x1024x1024.size (slot23_inb r s)
abbrev amxW (M : Memref sig .tc sp S4x8x128 e) (k : Fin 4) : Memref sig .tc sp S1x8x128 e := win M ![k.val, 0, 0] S1x8x128.size (amx_inb k)
abbrev amxAll (M : Memref sig .tc sp S4x8x128 e) : Memref sig .tc sp S4x8x128 e := win M ![0, 0, 0] S4x8x128.size inb_S4x8x128_S4x8x128_0_0_0
/-- Row chunk `k` of the result, and its column half `r`. -/
abbrev outRow (M : Memref sig .tc sp S4096x2048 e) (k : Fin 4) : Memref sig .tc sp S1024x2048 e := win M ![1024 * k.val, 0] S1024x2048.size (outRow_inb k)
abbrev outB (M : Memref sig .tc sp S4096x2048 e) (k : Fin 4) (r : Fin 2) : Memref sig .tc sp S1024x1024 e := win M ![1024 * k.val, 1024 * r.val] S1024x1024.size (outB_inb k r)

abbrev xM : Memref sig .tc .hbm S4096x1024 .f32 := Memref.whole main_arg0
abbrev wM : Memref sig .tc .hbm S1024x2048 .f32 := Memref.whole main_arg1
abbrev oM : Memref sig .tc .hbm S4096x2048 .bf16 := Memref.whole main_v1
abbrev xbM : Memref sig .tc .vmem S4096x1024 .bf16 := Memref.whole cc0_scratch0
abbrev wbM : Memref sig .tc .vmem S1024x2048 .bf16 := Memref.whole cc0_scratch1
abbrev stM : Memref sig .tc .vmem S2x1024x1024 .f32 := Memref.whole cc0_scratch2
abbrev acM : Memref sig .tc .vmem S1024x2048 .f32 := Memref.whole cc0_scratch3
abbrev osM : Memref sig .tc .vmem S1024x2048 .bf16 := Memref.whole cc0_scratch4
abbrev srM : Memref sig .tc .vmem S2x2x1024x1024 .bf16 := Memref.whole cc0_scratch5
abbrev rrM : Memref sig .tc .vmem S2x3x1024x1024 .bf16 := Memref.whole cc0_scratch6
abbrev qM : Memref sig .tc .vmem S1024x2048 .fp8e4m3 := Memref.whole cc0_scratch7
abbrev agM : Memref sig .tc .vmem S2x3x1024x1024 .fp8e4m3 := Memref.whole cc0_scratch8
abbrev amM : Memref sig .tc .vmem S4x8x128 .f32 := Memref.whole cc0_scratch9

/-! ## The values, as functions of the memory at launch -/

variable (m : (ℓ : Loc nD τ sig) → Buf (Elt F) ℓ)

/-- A plain block read through a window with leading axes of length one. -/
def lift3 {α : Type} (X : S1024x1024.Idx → α) : S1x1024x1024.Idx → α :=
  fun j => X ((Shape.reshapeEquiv squeezes_S1x1024x1024_S1024x1024.numel_eq).symm j)
def lift4 {α : Type} (X : S1024x1024.Idx → α) : S1x1x1024x1024.Idx → α :=
  fun j => X ((Shape.reshapeEquiv squeezes_S1x1x1024x1024_S1024x1024.numel_eq).symm j)

/-- Row chunk `k` of `x` and column half `r` of `w` on device `c`. -/
def xv (c : Dev nD) (k : Fin 4) : S1024x1024.Idx → Elt F .f32 := (rowsW xM k).view.read (Elt F) (m ((c : Thread nD τ).loc main_arg0))
def wv (c : Dev nD) (r : Fin 2) : S1024x1024.Idx → Elt F .f32 := (halfW wM r).view.read (Elt F) (m ((c : Thread nD τ).loc main_arg1))
/-- The same, rounded. -/
def xb (c : Dev nD) (k : Fin 4) : FVec F S1024x1024 .bf16 := k0_pay3 (lift3 (xv m c k))
def wb (c : Dev nD) (r : Fin 2) : FVec F S1024x1024 .bf16 := k0_pay1 (lift3 (wv m c r))
/-- The local product of row chunk `k` with column half `r`. -/
def prod (c : Dev nD) (k : Fin 4) (r : Fin 2) : FVec F S1024x1024 .f32 := k0_pay5 (xb m c k) (wb m c r)
/-- The row chunk that direction `r` sends at step `s`. -/
def chunk (r : Fin 2) (s : ℕ) (c : Dev nD) : Fin 4 := fwd (if r = 0 then 3 - s else 1 + s) c
/-- What device `c` sends in direction `r` at step `s` of the reduce-scatter. -/
def sV (r : Fin 2) : ℕ → Dev nD → FVec F S1x1x1024x1024 .bf16
  | 0, c => k0_pay6 (prod m c (chunk r 0 c) r)
  | s + 1, c => k0_pay11 (prod m c (chunk r (s + 1) c) r) (sV r s (src r c))
/-- Half `r` of the reduced row chunk `c`, clipped below at zero. -/
def acc (c : Dev nD) (r : Fin 2) : FVec F S1024x1024 .f32 := k0_pay22 (prod m c (fwd 0 c) r) (sV m r 2 (src r c))
/-- The device's maximum, in every place of its slot. -/
def amx (c : Dev nD) : FVec F S1x8x128 .f32 :=
  k0_pay26 (prod m c (fwd 0 c) 1) (k0_pay23 (prod m c (fwd 0 c) 0) (sV m 0 2 (src 0 c))) (sV m 1 2 (src 1 c))
def amxA : FVec F S4x8x128 .f32 := fun i => amx m (i 0) (fun a => match a with | 0 => (0 : Fin 1) | 1 => i 1 | 2 => i 2)
def scale : F .f32 := k0_pay27 (amxA m)
/-- Half `r` of the quantised row chunk `c`. -/
def qv (c : Dev nD) (r : Fin 2) : FVec F S1024x1024 .fp8e4m3 := k0_pay30 (scale m) (acc m c r)
def lo10 (i : Fin 2048) : Fin 1024 := ⟨i.val % 1024, Nat.mod_lt _ (by decide)⟩
def hi10 (i : Fin 2048) : Fin 2 := ⟨i.val / 1024, by omega⟩
def qw (c : Dev nD) : FVec F S1024x2048 .fp8e4m3 := fun i => qv m c (hi10 (i 1)) (fun a => match a with | 0 => i 0 | 1 => lo10 (i 1))
/-- Whose half block arrives in direction `r` at step `t` of the all-gather. -/
def org (r : Fin 2) : ℕ → Dev nD → Dev nD
  | 0, c => src r c
  | t + 1, c => org r t (src r c)
def agV (r : Fin 2) (t : ℕ) (c : Dev nD) : FVec F S1x1x1024x1024 .fp8e4m3 := lift4 (qv m (org r t c) r)
/-- The result's row chunk `p`: whole, and its halves as they are written. -/
def outW (p : Dev nD) : FVec F S1024x2048 .bf16 := k0_pay31 (scale m) (qw m p)
def outH (p : Dev nD) (r : Fin 2) : FVec F S1024x1024 .bf16 := k0_pay32 (scale m) (lift4 (qv m p r))

end Cert.KernelIdeal.Run

end
-- ==== Proof.Protocol.lean ====
/-
# The protocol: cells, values, schedule, levels

Direction 0 sends to the next device of the ring, direction 1 to the previous one.

* Barrier cell of device `c`: two duties of one unit. The device after `c` pays the first by its first signal and hands
  over its landing buffers of direction 0 and the slots of its maxima that `c` and the device before `c` write. The
  device before `c` pays the second by its second signal and hands over its landing buffers of direction 1 and the
  slot of its maxima that `c` writes.
* Reduce-scatter: step `s` of direction `r` lands a partial sum at the neighbour. The first one of direction 1 also
  carries the slot of the device two away, which the sender got at its barrier.
* Maxima: every device lands its maximum in its own slot of the three others.
* All-gather: step `t` of direction `r` lands a quantised half block.
* A send cell hands the source back.
-/
module

public import proofs.«01_k».proof.Proof.Contents

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The cells -/

/-- The protocol's cells of one device. -/
inductive Cl where
  | bar | rsS (r s : Fin 2) | rsR (r : Fin 2) (s : Fin 3) | agS (r : Fin 2) (t : Fin 3) | agR (r : Fin 2) (t : Fin 3) | amS (o : Fin 3) | amR (p : Fin 4)
deriving DecidableEq

set_option backward.proofsInPublic true in
/-- The cells numbered. -/
def Cl.num : Cl → Fin 30
  | .bar => 0
  | .rsS r s => ⟨1 + 2 * r + s, by omega⟩
  | .rsR r s => ⟨5 + 3 * r + s, by omega⟩
  | .agS r t => ⟨11 + 3 * r + t, by omega⟩
  | .agR r t => ⟨17 + 3 * r + t, by omega⟩
  | .amS o => ⟨23 + o, by omega⟩
  | .amR p => ⟨26 + p, by omega⟩

abbrev barS : Sem sig := (SemArray.scalar (sig.barrier 0 rfl) : Sems sig S_).sem

/-- The cell of number `n`. -/
def cl : Fin 30 → Cl := ![.bar, .rsS 0 0, .rsS 0 1, .rsS 1 0, .rsS 1 1, .rsR 0 0, .rsR 0 1, .rsR 0 2, .rsR 1 0, .rsR 1 1, .rsR 1 2,
  .agS 0 0, .agS 0 1, .agS 0 2, .agS 1 0, .agS 1 1, .agS 1 2, .agR 0 0, .agR 0 1, .agR 0 2, .agR 1 0, .agR 1 1, .agR 1 2,
  .amS 0, .amS 1, .amS 2, .amR 0, .amR 1, .amR 2, .amR 3]

theorem cl_num (k : Cl) : cl k.num = k := by
  cases k with
  | bar => rfl
  | rsS r s => revert r s; decide
  | rsR r s => revert r s; decide
  | agS r s => revert r s; decide
  | agR r s => revert r s; decide
  | amS s => revert s; decide
  | amR s => revert s; decide
theorem num_cl (n : Fin 30) : (cl n).num = n := by revert n; decide

set_option backward.proofsInPublic true in
/-- The semaphore of the cell numbered `n`: the barrier's, or the DMA semaphore after it. -/
def csem (n : Fin 30) : SemLoc sig := if n.val = 0 then .reg barS else .dma ⟨n.val + 1, by have := n.isLt; show _ < 34; omega⟩

theorem csem_inj : Function.Injective csem := by decide

abbrev kcell (ck : Dev nD × Fin 30) : GSem nD τ sig := ((ck.1 : Thread nD τ), csem ck.2)

theorem kcell_inj : Function.Injective kcell := by
  rintro ⟨c, k⟩ ⟨c', k'⟩ h
  have h1 : c = c' := by have := congrArg (fun g : GSem nD τ sig => g.1.1) h; exact this
  have h2 : csem k = csem k' := congrArg Prod.snd h
  rw [h1, csem_inj h2]

/-- Cell `k` of device `c`. -/
abbrev cell (c : Dev nD) (k : Cl) : GSem nD τ sig := kcell (c, k.num)

/-- The cell a semaphore belongs to, if it is one of the protocol's. -/
def dec : SemLoc sig → Option Cl
  | .reg _ => some .bar
  | .dma i => if h : 2 ≤ i.val ∧ i.val ≤ 30 then some (cl ⟨i.val - 1, by omega⟩) else none

theorem dec_csem (k : Cl) : dec (csem k.num) = some k := by
  have h : ∀ n : Fin 30, dec (csem n) = some (cl n) := by decide
  rw [h, cl_num]

/-! ## The schedule -/

/-- The units of a copy into a landing buffer, an all-gather buffer, a slot of the maxima. -/
def Nb : ℕ := (slot23 rrM 0 0).view.dmaCredit
def Nq : ℕ := (slot23 agM 0 0).view.dmaCredit
def Na : ℕ := (amxW amM 0).view.dmaCredit
theorem Nb_pos : 0 < Nb := View.dmaCredit_pos _ (by decide)
theorem Nq_pos : 0 < Nq := View.dmaCredit_pos _ (by decide)
theorem Na_pos : 0 < Na := View.dmaCredit_pos _ (by decide)

def amt : Cl → ℕ
  | .bar => 1 | .rsS _ _ => Nb | .rsR _ _ => Nb | .agS _ _ => Nq | .agR _ _ => Nq | .amS _ => Na | .amR _ => Na

theorem amt_pos : ∀ k : Cl, 0 < amt k
  | .bar => Nat.one_pos | .rsS _ _ => Nb_pos | .rsR _ _ => Nb_pos | .agS _ _ => Nq_pos | .agR _ _ => Nq_pos
  | .amS _ => Na_pos | .amR _ => Na_pos

/-- The rounds of a cell: a send slot of the reduce-scatter used twice has two, a device's own slot none. -/
def nr (c : Dev nD) : Cl → ℕ
  | .rsS _ s => if s = 0 then 2 else 1
  | .amR p => if p = c then 0 else 1
  | _ => 1

def dut (c : Dev nD) (k : Cl) (r : ℕ) : Finset Bool := if r < nr c k then (if k = .bar then Finset.univ else {false}) else ∅

/-- The share of its own slot that each of the three copies of a device's maximum reads. -/
def shA : Fin 3 → PosShare TreeShare
  | 0 => fullShare.right.left
  | 1 => fullShare.right.right.left
  | 2 => fullShare.right.right.right

/-- What the device after `c` hands to `c` with its first signal, the device before it with its second. -/
def barPay (c : Dev nD) : Bool → sProp 𝕄
  | false => iprop((ownAny (tgt 0 c) (slot23 rrM 0 0) ∗ ownAny (tgt 0 c) (slot23 rrM 0 1) ∗ ownAny (tgt 0 c) (slot23 rrM 0 2))
      ∗ (ownAny (tgt 0 c) (slot23 agM 0 0) ∗ ownAny (tgt 0 c) (slot23 agM 0 1) ∗ ownAny (tgt 0 c) (slot23 agM 0 2))
      ∗ ownAny (nxt c) (amxW amM c) ∗ ownAny (nxt c) (amxW amM (prv c)))
  | true => iprop((ownAny (tgt 1 c) (slot23 rrM 1 0) ∗ ownAny (tgt 1 c) (slot23 rrM 1 1) ∗ ownAny (tgt 1 c) (slot23 rrM 1 2))
      ∗ (ownAny (tgt 1 c) (slot23 agM 1 0) ∗ ownAny (tgt 1 c) (slot23 agM 1 1) ∗ ownAny (tgt 1 c) (slot23 agM 1 2))
      ∗ ownAny (prv c) (amxW amM c))

/-- What travels with the landing of direction `r`, step `s`. -/
def rider (c : Dev nD) (r : Fin 2) (s : Fin 3) : sProp 𝕄 := if r = 1 ∧ s = 0 then ownAny (opp c) (amxW amM c) else iprop(emp)

/-- The source of the all-gather's copy of direction `r`, step `t`, at the share the copy reads. -/
def agSrc (c : Dev nD) (r : Fin 2) : Fin 3 → sProp 𝕄
  | 0 => own1 c (halfW qM r) fullShare.right (qv m c r)
  | 1 => own1 c (slot23 agM r 0) fullShare.right (agV m r 0 c)
  | 2 => own1 c (slot23 agM r 1) fullShare.right (agV m r 1 c)

def pay (c : Dev nD) : Cl → Bool → sProp 𝕄
  | .bar, b => barPay c b
  | .rsS r s, _ => ownAny c (slot22 srM r s)
  | .rsR r s, _ => iprop(own1 c (slot23 rrM r s) fullShare (sV m r s (src r c)) ∗ rider c r s)
  | .agS r t, _ => agSrc m c r t
  | .agR r t, _ => own1 c (slot23 agM r t) fullShare (agV m r t c)
  | .amS o, _ => own1 c (amxW amM c) (shA o) (amx m c)
  | .amR p, _ => own1 c (amxW amM p) fullShare (amx m p)

instance rider_storable (c : Dev nD) (r : Fin 2) (s : Fin 3) : BI.Storable (upEmb : UEmb _ 𝕄) (rider (F := F) c r s) := by
  unfold rider; split <;> infer_instance

instance agSrc_storable (c : Dev nD) (r : Fin 2) (t : Fin 3) : BI.Storable (upEmb : UEmb _ 𝕄) (agSrc m c r t) := by
  match t with
  | 0 => exact inferInstanceAs (BI.Storable _ (own1 _ _ _ _))
  | 1 => exact inferInstanceAs (BI.Storable _ (own1 _ _ _ _))
  | 2 => exact inferInstanceAs (BI.Storable _ (own1 _ _ _ _))

instance pay_storable (c : Dev nD) (k : Cl) (b : Bool) : BI.Storable (upEmb : UEmb _ 𝕄) (pay m c k b) := by
  cases k with
  | bar => cases b <;> exact inferInstanceAs (BI.Storable _ iprop(_ ∗ _ ∗ _))
  | rsS r s => exact ownAny_storable _ _
  | rsR r s => exact inferInstanceAs (BI.Storable _ iprop(_ ∗ _))
  | agS r t => exact agSrc_storable m c r t
  | agR r t => exact inferInstanceAs (BI.Storable _ (own1 _ _ _ _))
  | amS o => exact inferInstanceAs (BI.Storable _ (own1 _ _ _ _))
  | amR p => exact inferInstanceAs (BI.Storable _ (own1 _ _ _ _))

def Rd : Rounds.Schedule (GSem nD τ sig) Bool 𝕄 where
  duties g r := match dec g.2 with | some k => dut g.1.1 k r | none => ∅
  unitless _ := False
  amount g _ _ := match dec g.2 with | some k => amt k | none => 1
  payload g _ b := match dec g.2 with | some k => pay m g.1.1 k b | none => iprop(emp)
  amount_pos g _ _ _ := by split; exacts [amt_pos _, Nat.one_pos]

instance Rd_storable (g : GSem nD τ sig) (r : ℕ) (b : Bool) : BI.Storable (upEmb : UEmb _ 𝕄) ((Rd (F := F) m).payload g r b) := by
  dsimp only [Rd]; split <;> infer_instance

section Tables
variable (c : Dev nD) (k : Cl)

theorem duties_eq (r : ℕ) : (Rd (F := F) m).duties (cell c k) r = dut c k r := by
  dsimp only [Rd, cell, kcell]; rw [dec_csem]
theorem amount_eq (r : ℕ) (b : Bool) : (Rd (F := F) m).amount (cell c k) r b = amt k := by
  dsimp only [Rd, cell, kcell]; rw [dec_csem]
theorem payload_eq (r : ℕ) (b : Bool) : (Rd (F := F) m).payload (cell c k) r b = pay m c k b := by
  dsimp only [Rd, cell, kcell]; rw [dec_csem]
/-- What a wait on the cell is for. -/
def want : Cl → ℕ | .bar => 2 | k => amt k
theorem expect_eq (r : ℕ) (hr : r < nr c k) : (Rd (F := F) m).expect (cell c k) r = want k := by
  unfold Schedule.expect Schedule.amountOf
  rw [duties_eq, Finset.sum_congr rfl fun b _ => amount_eq m c k r b, Finset.sum_const, dut, if_pos hr]
  by_cases hk : k = .bar
  · subst hk; rfl
  · rw [if_neg hk, Finset.card_singleton, one_smul]
    cases k <;> first | rfl | exact absurd rfl hk
theorem duties_later (r : ℕ) (hr : nr c k ≤ r) : (Rd (F := F) m).duties (cell c k) r = ∅ := by
  rw [duties_eq, dut, if_neg (by omega)]
/-- What a wait on a cell other than the barrier's hands over. -/
theorem rest_eq (r : ℕ) (hr : r < nr c k) (hk : k ≠ .bar) :
    bigSep ((Rd (F := F) m).duties (cell c k) r \ ∅) (fun b => (Rd (F := F) m).payload (cell c k) r b) = pay m c k false := by
  rw [Finset.sdiff_empty, duties_eq, dut, if_pos hr, if_neg hk, bigSep_singleton, payload_eq]
theorem rest_bar :
    bigSep ((Rd (F := F) m).duties (cell c .bar) 0 \ ∅) (fun b => (Rd (F := F) m).payload (cell c .bar) 0 b)
      = iprop(barPay c false ∗ barPay c true) := by
  rw [Finset.sdiff_empty, duties_eq, dut, if_pos (show 0 < nr c .bar from Nat.one_pos), if_pos rfl, bigSep_univ_eq_bigSepL [false, true] (by decide) (by decide),
    bigSepL_cons_cons, bigSepL_singleton, payload_eq, payload_eq]
  rfl
end Tables

/-! ## Debts and levels -/

/-- A list of debts, the next one first: a cell of a device, for the units of one copy (or one signal). -/
def debt : List (Dev nD × Cl) → CellTallies nD τ sig Unit
  | [] => 0
  | p :: l => debt l + tallyAt (cell p.1 p.2) () (amt p.2)

/-! What device `c` still owes after `n` of its seventeen payments, in the order it pays: `todo0` is the debt at launch. -/

abbrev todo17 (_ : Dev nD) : List (Dev nD × Cl) := []
abbrev todo16 (c : Dev nD) : List (Dev nD × Cl) := (tgt 1 c, .agR 1 2) :: todo17 c
abbrev todo15 (c : Dev nD) : List (Dev nD × Cl) := (tgt 0 c, .agR 0 2) :: todo16 c
abbrev todo14 (c : Dev nD) : List (Dev nD × Cl) := (tgt 1 c, .agR 1 1) :: todo15 c
abbrev todo13 (c : Dev nD) : List (Dev nD × Cl) := (tgt 0 c, .agR 0 1) :: todo14 c
abbrev todo12 (c : Dev nD) : List (Dev nD × Cl) := (tgt 1 c, .agR 1 0) :: todo13 c
abbrev todo11 (c : Dev nD) : List (Dev nD × Cl) := (tgt 0 c, .agR 0 0) :: todo12 c
abbrev todo10 (c : Dev nD) : List (Dev nD × Cl) := (fwd 3 c, .amR c) :: todo11 c
abbrev todo9 (c : Dev nD) : List (Dev nD × Cl) := (fwd 2 c, .amR c) :: todo10 c
abbrev todo8 (c : Dev nD) : List (Dev nD × Cl) := (fwd 1 c, .amR c) :: todo9 c
abbrev todo7 (c : Dev nD) : List (Dev nD × Cl) := (tgt 1 c, .rsR 1 2) :: todo8 c
abbrev todo6 (c : Dev nD) : List (Dev nD × Cl) := (tgt 0 c, .rsR 0 2) :: todo7 c
abbrev todo5 (c : Dev nD) : List (Dev nD × Cl) := (tgt 1 c, .rsR 1 1) :: todo6 c
abbrev todo4 (c : Dev nD) : List (Dev nD × Cl) := (tgt 0 c, .rsR 0 1) :: todo5 c
abbrev todo3 (c : Dev nD) : List (Dev nD × Cl) := (tgt 1 c, .rsR 1 0) :: todo4 c
abbrev todo2 (c : Dev nD) : List (Dev nD × Cl) := (tgt 0 c, .rsR 0 0) :: todo3 c
abbrev todo1 (c : Dev nD) : List (Dev nD × Cl) := (nxt c, .bar) :: todo2 c
abbrev todo0 (c : Dev nD) : List (Dev nD × Cl) := (prv c, .bar) :: todo1 c

def lvC : Cl → ℕ
  | .bar => 1 | .rsR _ s => 2 + s | .amR _ => 5 | .agR _ t => 6 + t | _ => 0

def L (g : GSem nD τ sig) : Finset Unit := if g.1.2 = .tc then {()} else ∅
def lv (g : GSem nD τ sig) (_ : Unit) : ℕ := match dec g.2 with | some k => lvC k | none => 0

theorem L_of_ne (g : GSem nD τ sig) (h : g.1.2 ≠ .tc) : L g = ∅ := if_neg h
theorem L_tc (c : Dev nD) (sm : SemLoc sig) : L ((c : Thread nD τ), sm) = {()} := if_pos rfl

theorem lv_cell (c : Dev nD) (k : Cl) : lv (cell c k) () = lvC k := by
  dsimp only [lv, cell, kcell]; rw [dec_csem]

theorem debt_pos {l : List (Dev nD × Cl)} {g : GSem nD τ sig} {u : Unit} (h : 0 < debt l g u) : ∃ p ∈ l, g = cell p.1 p.2 := by
  induction l with
  | nil => exact absurd h (Nat.lt_irrefl 0)
  | cons p l ih =>
    unfold debt at h
    rw [Pi.add_apply, Finsupp.add_apply, tallyAt_apply] at h
    by_cases hg : g = cell p.1 p.2
    · exact ⟨p, List.mem_cons_self, hg⟩
    · rw [if_neg (fun h' => hg h'.1)] at h
      obtain ⟨q, hq, hgq⟩ := ih h
      exact ⟨q, List.mem_cons_of_mem _ hq, hgq⟩

/-- Every debt of the list lies on a cell of a level above `n`. -/
def above (n : ℕ) (l : List (Dev nD × Cl)) : Bool := l.all fun p => decide (n < lvC p.2)

/-- A device may wait on a cell when every debt left lies on a cell of a higher level. -/
theorem mayWait (c : Dev nD) (sm : SemLoc sig) (n : ℕ) (l : List (Dev nD × Cl))
    (h0 : lv ((c : Thread nD τ), sm) () ≤ n) (hl : above n l = true) :
    (levAts L lv : sProp 𝕄) ⊢ MayWait (c : Thread nD τ) sm () (debt l) :=
  MayOwe.of_cut (L := L) (lev := lv) n
    (fun p hp => by rw [Finset.mem_singleton.mp hp, L_tc]; exact Finset.mem_singleton_self _)
    (fun g u hg => by
      obtain ⟨p, hp, rfl⟩ := debt_pos hg
      rw [L_tc]; exact Finset.mem_singleton_self _)
    (fun p hp => by rw [Finset.mem_singleton.mp hp]; exact h0)
    (fun g u hg => by
      obtain ⟨p, hp, rfl⟩ := debt_pos hg
      rw [lv_cell]
      exact of_decide_eq_true (List.all_eq_true.mp hl p hp))

theorem mem_dut {c : Dev nD} {k : Cl} {r : ℕ} (h : r < nr c k) : false ∈ dut c k r := by
  unfold dut; rw [if_pos h]; split <;> simp

end Cert.KernelIdeal.Run

end
-- ==== Proof.Moves.lean ====
/-
# The steps of the protocol

A signal, a remote copy, a wait, a close, each at any cell.
-/
module

public import proofs.«01_k».proof.Proof.Protocol

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)

variable {F : FTy → Type} [FloatOps F]

local notation "𝕄" => MT nD τ sig Unit (Elt F) ℕ UU ℕ

variable (m : (ℓ : Loc nD τ sig) → Buf (Elt F) ℓ)

variable (K : Dev nD × Fin 30 → ℕ)

/-- What every device knows: the cells' invariants, round 0 of each reached, the levels. -/
def Ctx : sProp 𝕄 :=
  iprop((bigSep Finset.univ fun ck : Dev nD × Fin 30 => cellInv ER (Rd m) (K ck) (kcell ck))
    ∗ (bigSep Finset.univ fun ck : Dev nD × Fin 30 => reached ER (kcell ck) 0) ∗ levAts L lv)

instance Ctx_persistent : BI.Persistent (Ctx m K) := by unfold Ctx; infer_instance

theorem Ctx_inv (c : Dev nD) (k : Cl) : Ctx m K ⊢ cellInv ER (Rd m) (K (c, k.num)) (cell c k) := by
  have h : (bigSep Finset.univ fun ck : Dev nD × Fin 30 => (cellInv ER (Rd m) (K ck) (kcell ck) : sProp 𝕄)) ⊢ cellInv ER (Rd m) (K (c, k.num)) (cell c k) :=
    bigSep_elim (Finset.mem_univ (c, k.num))
  unfold Ctx
  iintro ⟨H, -, -⟩
  iapply h $$ H
theorem Ctx_reached (c : Dev nD) (k : Cl) : Ctx m K ⊢ reached ER (cell c k) 0 := by
  have h : (bigSep Finset.univ fun ck : Dev nD × Fin 30 => (reached ER (kcell ck) 0 : sProp 𝕄)) ⊢ reached ER (cell c k) 0 :=
    bigSep_elim (Finset.mem_univ (c, k.num))
  unfold Ctx
  iintro ⟨-, H, -⟩
  iapply h $$ H
theorem Ctx_levAts : Ctx m K ⊢ (levAts L lv : sProp 𝕄) := by
  unfold Ctx
  iintro ⟨-, -, H⟩
  iexact H

/-- The debts of a device, whatever it has waited for. -/
def Owe (c : Dev nD) (l : List (Dev nD × Cl)) : sProp 𝕄 := iprop(∃ W, owes (c : Thread nD τ) (debt l) W)

variable {s s' : Shape} {sp' : Space} {sp : Space} {e e' : EltTy} {α : Type}

/-- A signal to a barrier cell. -/
theorem step_signal (c : Dev nD) {n n' : Dev nD} (hn : n' = n) (b : Bool) (l : List (Dev nD × Cl))
    {k : PUnit → Prog (TpuEff nD τ sig (Elt F) Λ₀ .tc) α} {Q : α → sProp 𝕄} :
    iprop(Ctx m K ∗ Owe c ((n, .bar) :: l) ∗ dutyTok ER (cell n .bar) 0 b ∗ barPay n b)
      ⊢ iprop((Owe c l -∗ WP c (k ⟨⟩) Q) -∗ WP c (.op (.semSignal (Dev.tc n' : Thread nD τ) barS 1) k) Q) := by
  subst hn
  unfold Owe
  iintro ⟨#HC, ⟨%W, HO⟩, Ht, Hp⟩ Hk
  ihave #Hi := (Ctx_inv m K n' .bar) $$ HC
  ihave #Hr := (Ctx_reached m K n' .bar) $$ HC
  iapply (Rounds.wp_signal 𝒱₀ ER (Rd m) (c : Thread nD τ) none (dst := (Dev.tc n' : Thread nD τ)) (sem := barS) (r := 0) (d := b) (κ := K (n', Cl.bar.num))
    (by rw [show (((Dev.tc n' : Thread nD τ), SemLoc.reg barS) : GSem nD τ sig) = cell n' .bar from rfl, duties_eq]; unfold dut; rw [if_pos (show 0 < nr n' .bar from Nat.one_pos), if_pos rfl]; exact Finset.mem_univ _)
    (amount_eq m n' .bar 0 b) () (O₀ := debt ((n', .bar) :: l)) (debt l) rfl) $$ [HO Ht Hp]
  · isplitr; · iexact Hi
    isplitl [HO]; · iexact HO
    isplitl [Ht]; · iexact Ht
    isplitl [Hp]
    · rw [show (((Dev.tc n' : Thread nD τ), SemLoc.reg barS) : GSem nD τ sig) = cell n' .bar from rfl, payload_eq]; unfold pay; iexact Hp
    iexact Hr
  iintro HO
  iapply Hk
  iexists W
  iexact HO

/-- A remote copy: the source goes to the send cell's duty, the destination rewritten to the receive cell's. -/
theorem step_send (c : Dev nD) {n n' : Dev nD} (hn : n' = n) (k₁ k₂ : Cl) {sS sem : SemLoc sig} (hs₁ : sS = csem k₁.num) (hs₂ : sem = csem k₂.num)
    (r₁ : ℕ) (h₁ : r₁ < nr c k₁) (h₂ : 0 < nr n k₂) (hk : amt k₁ = amt k₂)
    {src : Memref sig .tc sp s e} {dst : Memref sig .tc sp' s e} {hsc : dst.view.ref.isScScratch = false}
    {hsrc : src.view.WordExact} {hdst : dst.view.WordExact} {hsem : DmaTarget.Typed (nD := nD) (p := (c : Thread nD τ).2) sp sem (.remote (Dev.tc n' : Thread nD τ) dst sS hsc)}
    (hN : dst.view.amount sem = amt k₂)
    (q : PosShare TreeShare) (v : s.Idx → Elt F e) (A B R : sProp 𝕄)
    (hA : A ⊢ own1 c src q v) (hp₁ : own1 c src q v ⊢ pay m c k₁ false)
    (hB : B ⊢ ownAny n dst) (hp₂ : iprop(own1 n dst fullShare v ∗ R) ⊢ pay m n k₂ false) (l : List (Dev nD × Cl))
    {k : PUnit → Prog (TpuEff nD τ sig (Elt F) Λ₀ .tc) α} {Q : α → sProp 𝕄} :
    iprop(Ctx m K ∗ reached ER (cell c k₁) r₁ ∗ A ∗ B ∗ R ∗ Owe c ((n, k₂) :: l) ∗ dutyTok ER (cell c k₁) r₁ false ∗ dutyTok ER (cell n k₂) 0 false)
      ⊢ iprop(((cred (tallyAt (cell c k₁) () (amt k₁)) ∗ Owe c l) -∗ WP c (k ⟨⟩) Q)
          -∗ WP c (.op (.enqueueDma src (.remote (Dev.tc n' : Thread nD τ) dst sS hsc) sem hsrc hdst hsem) k) Q) := by
  subst hn hs₁ hs₂
  unfold Owe
  iintro ⟨#HC, #Hr₁, HA, HB, HR, ⟨%W, HO⟩, Ht₁, Ht₂⟩ Hk
  ihave #Hi₁ := (Ctx_inv m K c k₁) $$ HC
  ihave #Hi₂ := (Ctx_inv m K n' k₂) $$ HC
  ihave #Hr₂ := (Ctx_reached m K n' k₂) $$ HC
  ihave HA := hA $$ HA
  ihave HB := hB $$ HB
  unfold ownAny own1 owns
  icases HA with ⟨%fs, %hfs, HA⟩
  icases HB with ⟨%X, ⟨%fd, -, HB⟩⟩
  iapply (Rounds.wp_send_pointsTo_with 𝒱₀ ER (Rd m) (c : Thread nD τ) none (c' := (Dev.tc n' : Thread nD τ)) (src := src) (dst := dst) (F := R) (r₁ := r₁) (r₂ := 0) (d₁ := false) (d₂ := false)
    (κ₁ := K (c, k₁.num)) (κ₂ := K (n', k₂.num)) (q := q) (fs := fs) (fd := fd)
    (by rw [show (((c : Thread nD τ), csem k₁.num) : GSem nD τ sig) = cell c k₁ from rfl, duties_eq]; exact mem_dut h₁)
    (by rw [show (((Dev.tc n' : Thread nD τ), csem k₂.num) : GSem nD τ sig) = cell n' k₂ from rfl, duties_eq]; exact mem_dut h₂)
    () () (amt k₂) hN ((amount_eq m c k₁ r₁ false).trans hk) (amount_eq m n' k₂ 0 false) (O₀ := debt ((n', k₂) :: l)) (debt l) rfl
    (by
      rw [show (((c : Thread nD τ), csem k₁.num) : GSem nD τ sig) = cell c k₁ from rfl, payload_eq]
      refine BIBase.Entails.trans ?_ hp₁
      unfold own1 owns
      iintro H
      iexists fs
      isplitr; · ipureintro; exact hfs
      iexact H)
    (by
      rw [show (((Dev.tc n' : Thread nD τ), csem k₂.num) : GSem nD τ sig) = cell n' k₂ from rfl, payload_eq]
      refine BIBase.Entails.trans (sep_mono_left ?_) hp₂
      unfold own1 owns
      iintro H
      iexists (dst.view.write (Elt F) fd (src.view.read (Elt F) fs) Finset.univ)
      isplitr; · ipureintro; rw [hfs]; exact View.read_write_univ _ _
      iexact H)) $$ [HO Ht₁ Ht₂ HA HB HR]
  · isplitr; · iexact Hi₁
    isplitr; · iexact Hi₂
    isplitl [HA]; · iexact HA
    isplitl [HB HR]
    · isplitl [HB]; · iexact HB
      iexact HR
    isplitl [HO]; · iexact HO
    isplitl [Ht₁]; · iexact Ht₁
    isplitr; · iexact Hr₁
    isplitl [Ht₂]; · iexact Ht₂
    iexact Hr₂
  iintro ⟨Hcr, HO⟩
  iapply Hk
  isplitl [Hcr]; · rw [hk]; iexact Hcr
  iexists W
  iexact HO

/-- A wait for a copy on a cell of one landing. -/
theorem step_wait' (c : Dev nD) (k₁ : Cl) (hb : k₁ ≠ .bar) {sem : DmaSem sig} (hs : SemLoc.dma sem = csem k₁.num) (r : ℕ) (hr : r < nr c k₁)
    {src : Memref sig .tc sp s e} {dst : Memref sig .tc sp' s' e'} {hsrc : src.view.WordExact} {hdst : dst.view.WordExact}
    (hN : dst.view.dmaCredit = amt k₁) (l : List (Dev nD × Cl)) (hl : above (lvC k₁) l = true) {P : sProp 𝕄} (hP : pay m c k₁ false ⊢ P)
    {k : PUnit → Prog (TpuEff nD τ sig (Elt F) Λ₀ .tc) α} {Q : α → sProp 𝕄} :
    iprop(Ctx m K ∗ cred (tallyAt (cell c k₁) () (amt k₁)) ∗ Owe c l ∗ atPos ER (cell c k₁) r ∅ 0)
      ⊢ iprop(((Owe c l ∗ P ∗ atPos ER (cell c k₁) (r + 1) ∅ 0 ∗ reached ER (cell c k₁) (r + 1)) -∗ WP c (k ⟨⟩) Q)
          -∗ WP c (.op (.waitDma2 sem src dst hsrc hdst) k) Q) := by
  unfold Owe
  iintro ⟨#HC, Hcr, ⟨%W, HO⟩, Hat⟩ Hk
  ihave #Hi := (Ctx_inv m K c k₁) $$ HC
  ihave #Hl := (Ctx_levAts m K) $$ HC
  ihave #Hm := (mayWait (F := F) c (csem k₁.num) (lvC k₁) l (le_of_eq (lv_cell c k₁)) hl) $$ Hl
  iapply (Rounds.wp_wait_rest_token 𝒱₀ ER (Rd m) (c : Thread nD τ) none (sm := csem k₁.num) (k' := amt k₁) (κ := K (c, k₁.num))
    (by intro K'; rw [wpE_waitDma2_eq 𝒱₀ (c : Thread nD τ) none Set.univ, hs, hN]) (Set.mem_univ _) () (O := debt l) (W := W) (R := r) (m := 0) (T := ∅)
    (by rw [show (((c : Thread nD τ), csem k₁.num) : GSem nD τ sig) = cell c k₁ from rfl, expect_eq m c k₁ r hr, Nat.zero_add]
        cases k₁ <;> first | rfl | exact absurd rfl hb)) $$ [Hcr HO Hat]
  · isplitr; · iexact Hi
    isplitl [Hcr]; · iexact Hcr
    isplitl [HO]; · iexact HO
    isplitr; · iexact Hm
    iexact Hat
  rw [show (((c : Thread nD τ), csem k₁.num) : GSem nD τ sig) = cell c k₁ from rfl, rest_eq m c k₁ r hr hb]
  iintro ⟨HO, Hat, Hre, Hp⟩
  iapply Hk
  isplitl [HO]
  · iexists (insert (csem k₁.num, ()) W); iexact HO
  isplitl [Hp]; · iapply hP $$ Hp
  isplitl [Hat]; · iexact Hat
  iexact Hre

/-- A cell past its last round is left at zero. -/
theorem close (c : Dev nD) (k₁ : Cl) (r : ℕ) (hr : nr c k₁ ≤ r) :
    iprop(Ctx m K ∗ atPos ER (cell c k₁) r ∅ 0) ⊢ iprop(|={Set.univ}=> semVal (cell c k₁) 0 : sProp 𝕄) := by
  iintro ⟨#HC, Hat⟩
  ihave #Hi := (Ctx_inv m K c k₁) $$ HC
  iapply (Rounds.cell_close ER (Rd m) (Set.mem_univ (K (c, k₁.num))) (fun h => h) (R := r) (fun r' h => duties_later m c k₁ r' (hr.trans h)))
  isplitr; · iexact Hi
  iexact Hat

/-- The last wait on a cell, which leaves it at zero. -/
theorem step_wait (c : Dev nD) (k₁ : Cl) (hb : k₁ ≠ .bar) {sem : DmaSem sig} (hs : SemLoc.dma sem = csem k₁.num) (r : ℕ) (hr : nr c k₁ = r + 1)
    {src : Memref sig .tc sp s e} {dst : Memref sig .tc sp' s' e'} {hsrc : src.view.WordExact} {hdst : dst.view.WordExact}
    (hN : dst.view.dmaCredit = amt k₁) (l : List (Dev nD × Cl)) (hl : above (lvC k₁) l = true) {P : sProp 𝕄} (hP : pay m c k₁ false ⊢ P)
    {k : PUnit → Prog (TpuEff nD τ sig (Elt F) Λ₀ .tc) α} {Q : α → sProp 𝕄} :
    iprop(Ctx m K ∗ cred (tallyAt (cell c k₁) () (amt k₁)) ∗ Owe c l ∗ atPos ER (cell c k₁) r ∅ 0)
      ⊢ iprop(((Owe c l ∗ P ∗ semVal (cell c k₁) 0) -∗ WP c (k ⟨⟩) Q)
          -∗ WP c (.op (.waitDma2 sem src dst hsrc hdst) k) Q) := by
  iintro ⟨#HC, Hcr, HO, Hat⟩ Hk
  iapply (step_wait' m K c k₁ hb hs r (by omega) hN l hl hP) $$ [Hcr HO Hat]
  · isplitr; · iexact HC
    isplitl [Hcr]; · iexact Hcr
    isplitl [HO]; · iexact HO
    iexact Hat
  iintro ⟨HO, Hp, Hat, -⟩
  imod (close m K c k₁ (r + 1) (le_of_eq hr)) $$ [Hat] with Hz
  · isplitr; · iexact HC
    iexact Hat
  iapply Hk
  isplitl [HO]; · iexact HO
  isplitl [Hp]; · iexact Hp
  iexact Hz

/-- The barrier's wait, for both neighbours. -/
theorem step_bar (c : Dev nD) (l : List (Dev nD × Cl)) (hl : above 1 l = true)
    {k : PUnit → Prog (TpuEff nD τ sig (Elt F) Λ₀ .tc) α} {Q : α → sProp 𝕄} :
    iprop(Ctx m K ∗ cred (tallyAt (cell c .bar) () 2) ∗ Owe c l ∗ atPos ER (cell c .bar) 0 ∅ 0)
      ⊢ iprop(((Owe c l ∗ barPay c false ∗ barPay c true ∗ semVal (cell c .bar) 0) -∗ WP c (k ⟨⟩) Q)
          -∗ WP c (.op (.semWait barS 2) k) Q) := by
  unfold Owe
  iintro ⟨#HC, Hcr, ⟨%W, HO⟩, Hat⟩ Hk
  ihave #Hi := (Ctx_inv m K c .bar) $$ HC
  ihave #Hl := (Ctx_levAts m K) $$ HC
  ihave #Hm := (mayWait (F := F) c (csem Cl.bar.num) 1 l (le_of_eq (lv_cell c .bar)) hl) $$ Hl
  iapply (Rounds.wp_wait_rest_token 𝒱₀ ER (Rd m) (c : Thread nD τ) none (sm := csem Cl.bar.num) (k' := 2) (κ := K (c, Cl.bar.num))
    (wpE_semWait_eq 𝒱₀ (c : Thread nD τ) none Set.univ) (Set.mem_univ _) () (O := debt l) (W := W) (R := 0) (m := 0) (T := ∅)
    (by rw [show (((c : Thread nD τ), csem Cl.bar.num) : GSem nD τ sig) = cell c .bar from rfl, expect_eq m c .bar 0 Nat.one_pos]; rfl)) $$ [Hcr HO Hat]
  · isplitr; · iexact Hi
    isplitl [Hcr]; · iexact Hcr
    isplitl [HO]; · iexact HO
    isplitr; · iexact Hm
    iexact Hat
  rw [show (((c : Thread nD τ), csem Cl.bar.num) : GSem nD τ sig) = cell c .bar from rfl, rest_bar m c]
  iintro ⟨HO, Hat, -, Hp, Hp'⟩
  imod (close m K c .bar (0 + 1) (le_of_eq rfl)) $$ [Hat] with Hz
  · isplitr; · iexact HC
    iexact Hat
  iapply Hk
  isplitl [HO]
  · iexists (insert (csem Cl.bar.num, ()) W); iexact HO
  isplitl [Hp]; · iexact Hp
  isplitl [Hp']; · iexact Hp'
  iexact Hz

/-- A wait for a local copy. -/
theorem step_local (c : Dev nD) {sem : DmaSem sig} (h0 : dec (SemLoc.dma sem) = none) {N : ℕ}
    {src : Memref sig .tc sp s e} {dst : Memref sig .tc sp' s' e'} {hsrc : src.view.WordExact} {hdst : dst.view.WordExact}
    (hN : dst.view.dmaCredit = N) (D : sProp 𝕄) (l : List (Dev nD × Cl)) (hl : above 0 l = true)
    {k : PUnit → Prog (TpuEff nD τ sig (Elt F) Λ₀ .tc) α} {Q : α → sProp 𝕄} :
    iprop(Ctx m K ∗ Flight EC (c : Thread nD τ) (SemLoc.dma sem) () N D ∗ Owe c l)
      ⊢ iprop(((D ∗ semVal ((c : Thread nD τ), SemLoc.dma sem) 0 ∗ Owe c l) -∗ WP c (k ⟨⟩) Q)
          -∗ WP c (.op (.waitDma2 sem src dst hsrc hdst) k) Q) := by
  unfold Owe
  iintro ⟨#HC, Hf, ⟨%W, HO⟩⟩ Hk
  ihave #Hl := (Ctx_levAts m K) $$ HC
  ihave #Hm := (mayWait (F := F) c (SemLoc.dma sem) 0 l (le_of_eq (by unfold lv; dsimp only; rw [h0])) hl) $$ Hl
  iapply (Transfers.wp_waitLocalO EC 𝒱₀ (c : Thread nD τ) none () hN (O := debt l) (W := W)) $$ [Hf HO]
  · isplitl [Hf]; · iexact Hf
    isplitl [HO]; · iexact HO
    iexact Hm
  iintro ⟨HD, Hv, HO⟩
  iapply Hk
  isplitl [HD]; · iexact HD
  isplitl [Hv]; · iexact Hv
  iexists (insert (SemLoc.dma sem, ()) W)
  iexact HO

end Cert.KernelIdeal.Run

end
-- ==== Proof.Copies.lean ====
/-
# The kernel's copies

The general step at the windows and cells the kernel uses.
-/
module

public import proofs.«01_k».proof.Proof.Moves

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)

variable {F : FTy → Type} [FloatOps F]

local notation "𝕄" => MT nD τ sig Unit (Elt F) ℕ UU ℕ

variable (m : (ℓ : Loc nD τ sig) → Buf (Elt F) ℓ)

variable (K : Dev nD × Fin 30 → ℕ)

variable {s s' : Shape} {sp' : Space} {sp : Space} {e e' : EltTy} {α : Type}

/-! ## Resources given one by one -/

omit [FloatOps F] in
theorem curry2 {A₁ A₂ D : sProp 𝕄} (h : iprop(A₁ ∗ A₂) ⊢ D) : A₁ ⊢ iprop(A₂ -∗ D) := BIClass.wand_intro h
omit [FloatOps F] in
theorem curry3 {A₁ A₂ A₃ D : sProp 𝕄} (h : iprop(A₁ ∗ A₂ ∗ A₃) ⊢ D) : A₁ ⊢ iprop(A₂ -∗ A₃ -∗ D) :=
  BIClass.wand_intro (BIClass.wand_intro (sep_assoc.trans h))
omit [FloatOps F] in
theorem curry4 {A₁ A₂ A₃ A₄ D : sProp 𝕄} (h : iprop(A₁ ∗ A₂ ∗ A₃ ∗ A₄) ⊢ D) : A₁ ⊢ iprop(A₂ -∗ A₃ -∗ A₄ -∗ D) :=
  BIClass.wand_intro (curry3 (sep_assoc.trans h))
omit [FloatOps F] in
theorem curry6 {A₁ A₂ A₃ A₄ A₅ A₆ D : sProp 𝕄} (h : iprop(A₁ ∗ A₂ ∗ A₃ ∗ A₄ ∗ A₅ ∗ A₆) ⊢ D) : A₁ ⊢ iprop(A₂ -∗ A₃ -∗ A₄ -∗ A₅ -∗ A₆ -∗ D) :=
  BIClass.wand_intro (BIClass.wand_intro (curry4 (sep_assoc.trans (sep_assoc.trans h))))
omit [FloatOps F] in
theorem curry7 {A₁ A₂ A₃ A₄ A₅ A₆ A₇ D : sProp 𝕄} (h : iprop(A₁ ∗ A₂ ∗ A₃ ∗ A₄ ∗ A₅ ∗ A₆ ∗ A₇) ⊢ D) : A₁ ⊢ iprop(A₂ -∗ A₃ -∗ A₄ -∗ A₅ -∗ A₆ -∗ A₇ -∗ D) :=
  BIClass.wand_intro (curry6 (sep_assoc.trans h))
omit [FloatOps F] in
theorem curry8 {A₁ A₂ A₃ A₄ A₅ A₆ A₇ A₈ D : sProp 𝕄} (h : iprop(A₁ ∗ A₂ ∗ A₃ ∗ A₄ ∗ A₅ ∗ A₆ ∗ A₇ ∗ A₈) ⊢ D) :
    A₁ ⊢ iprop(A₂ -∗ A₃ -∗ A₄ -∗ A₅ -∗ A₆ -∗ A₇ -∗ A₈ -∗ D) :=
  BIClass.wand_intro (BIClass.wand_intro (curry6 (sep_assoc.trans (sep_assoc.trans h))))

/-! ## Local copies -/

/-- The units of a copy into the staging buffer, of a half block and of a whole row chunk into the result. -/
def Nst : ℕ := ((stageW stM 0).squeeze S1024x1024 squeezes_S1x1024x1024_S1024x1024).view.dmaCredit
def Noh : ℕ := (outB oM 0 0).view.dmaCredit
def Nor : ℕ := (outRow oM 0).view.dmaCredit
theorem units_st (i : Fin 2) : ((stageW stM i).squeeze S1024x1024 squeezes_S1x1024x1024_S1024x1024).view.dmaCredit = Nst := rfl
theorem units_oh {off : Fin 2 → ℕ} {inb} : (win oM off S1024x1024.size inb).view.dmaCredit = Noh := rfl
theorem units_or {off : Fin 2 → ℕ} {inb} : (win oM off S1024x2048.size inb).view.dmaCredit = Nor := rfl
theorem Nst_pos : 0 < Nst := View.dmaCredit_pos _ (by decide)
theorem Noh_pos : 0 < Noh := View.dmaCredit_pos _ (by decide)
theorem Nor_pos : 0 < Nor := View.dmaCredit_pos _ (by decide)

omit [FloatOps F] in
theorem any_squeeze (c : Dev nD) (M : Memref sig .tc sp s e) (h : s.Squeezes s') :
    (ownAny c M : sProp 𝕄) ⊢ ownAny c (M.squeeze s' h) := by
  unfold ownAny
  iintro ⟨%X, H⟩
  iexists (fun j => X (Shape.reshapeEquiv h.numel_eq j))
  rw [owns_squeezed]; iexact H

/-- A row chunk of `x` goes into a stage slot. -/
theorem step_x (c : Dev nD) (i : Fin 2) (p : Fin 4) {off' : Fin 2 → ℕ} {inb'} (ho : off' = ![1024 * p.val, 0]) {sm : DmaSem sig} {hsrc} {hdst} {hsem}
    {k : PUnit → Prog (TpuEff nD τ sig (Elt F) Λ₀ .tc) α} {Q : α → sProp 𝕄} :
    (iprop(own1 c (rowsW xM p) fullShare (xv m c p) ∗ ownAny c (stageW stM i) ∗ semVal ((c : Thread nD τ), SemLoc.dma sm) 0) : sProp 𝕄)
      ⊢ iprop((Flight EC (c : Thread nD τ) (SemLoc.dma sm) () Nst iprop(own1 c (stageW stM i) fullShare (lift3 (xv m c p)) ∗ own1 c (rowsW xM p) fullShare (xv m c p)) -∗ WP c (k ⟨⟩) Q)
          -∗ WP c (.op (.enqueueDma (win xM off' S1024x1024.size inb') (.here ((stageW stM i).squeeze S1024x1024 squeezes_S1x1024x1024_S1024x1024)) (SemLoc.dma sm) hsrc hdst hsem) k) Q) :=
  by
  subst ho
  have H := step_copy (F := F) c (src := rowsW xM p) (dst := (stageW stM i).squeeze S1024x1024 squeezes_S1x1024x1024_S1024x1024) (sm := SemLoc.dma sm) (hsrc := hsrc) (hdst := hdst) (hsem := hsem) (k := k) (Q := Q) fullShare (xv m c p) Nst (units_st i) Nst_pos
    (A := own1 c (rowsW xM p) fullShare (xv m c p)) (B := ownAny c (stageW stM i)) (BIBase.Entails.rfl) (any_squeeze c (stageW stM i) _)
  rw [owns_squeeze] at H
  exact H

/-- A column half of `w` goes into a stage slot. -/
theorem step_w (c : Dev nD) (i r : Fin 2) {sm : DmaSem sig} {hsrc} {hdst} {hsem}
    {k : PUnit → Prog (TpuEff nD τ sig (Elt F) Λ₀ .tc) α} {Q : α → sProp 𝕄} :
    (iprop(own1 c (halfW wM r) fullShare (wv m c r) ∗ ownAny c (stageW stM i) ∗ semVal ((c : Thread nD τ), SemLoc.dma sm) 0) : sProp 𝕄)
      ⊢ iprop((Flight EC (c : Thread nD τ) (SemLoc.dma sm) () Nst iprop(own1 c (stageW stM i) fullShare (lift3 (wv m c r)) ∗ own1 c (halfW wM r) fullShare (wv m c r)) -∗ WP c (k ⟨⟩) Q)
          -∗ WP c (.op (.enqueueDma (halfW wM r) (.here ((stageW stM i).squeeze S1024x1024 squeezes_S1x1024x1024_S1024x1024)) (SemLoc.dma sm) hsrc hdst hsem) k) Q) :=
  by
  have H := step_copy (F := F) c (src := halfW wM r) (dst := (stageW stM i).squeeze S1024x1024 squeezes_S1x1024x1024_S1024x1024) (sm := SemLoc.dma sm) (hsrc := hsrc) (hdst := hdst) (hsem := hsem) (k := k) (Q := Q) fullShare (wv m c r) Nst (units_st i) Nst_pos
    (A := own1 c (halfW wM r) fullShare (wv m c r)) (B := ownAny c (stageW stM i)) (BIBase.Entails.rfl) (any_squeeze c (stageW stM i) _)
  rw [owns_squeeze] at H
  exact H

/-- A half block goes into the result. -/
theorem step_oh (c p : Dev nD) (r : Fin 2) (X : S1024x1024.Idx → Elt F .bf16) {off' : Fin 2 → ℕ} {inb'} (ho : off' = ![1024 * p.val, 1024 * r.val]) {sm : DmaSem sig} {hsrc} {hdst} {hsem}
    {k : PUnit → Prog (TpuEff nD τ sig (Elt F) Λ₀ .tc) α} {Q : α → sProp 𝕄} :
    (iprop(own1 c (halfW osM r) fullShare X ∗ ownAny c (outB oM p r) ∗ semVal ((c : Thread nD τ), SemLoc.dma sm) 0) : sProp 𝕄)
      ⊢ iprop((Flight EC (c : Thread nD τ) (SemLoc.dma sm) () Noh iprop(own1 c (outB oM p r) fullShare X ∗ own1 c (halfW osM r) fullShare X) -∗ WP c (k ⟨⟩) Q)
          -∗ WP c (.op (.enqueueDma (halfW osM r) (.here (win oM off' S1024x1024.size inb')) (SemLoc.dma sm) hsrc hdst hsem) k) Q) := by
  subst ho
  exact step_copy (F := F) c (src := halfW osM r) (dst := outB oM p r) (hsrc := hsrc) (hdst := hdst) (hsem := hsem) (k := k) (Q := Q) fullShare X Noh units_oh Noh_pos
    BIBase.Entails.rfl BIBase.Entails.rfl

/-- A whole row chunk goes into the result. -/
theorem step_or (c p : Dev nD) (X : S1024x2048.Idx → Elt F .bf16) {off' : Fin 2 → ℕ} {inb'} (ho : off' = ![1024 * p.val, 0]) {sm : DmaSem sig} {hsrc} {hdst} {hsem}
    {k : PUnit → Prog (TpuEff nD τ sig (Elt F) Λ₀ .tc) α} {Q : α → sProp 𝕄} :
    (iprop(own1 c osM fullShare X ∗ ownAny c (outRow oM p) ∗ semVal ((c : Thread nD τ), SemLoc.dma sm) 0) : sProp 𝕄)
      ⊢ iprop((Flight EC (c : Thread nD τ) (SemLoc.dma sm) () Nor iprop(own1 c (outRow oM p) fullShare X ∗ own1 c osM fullShare X) -∗ WP c (k ⟨⟩) Q)
          -∗ WP c (.op (.enqueueDma osM (.here (win oM off' S1024x2048.size inb')) (SemLoc.dma sm) hsrc hdst hsem) k) Q) := by
  subst ho
  exact step_copy (F := F) c (src := osM) (dst := outRow oM p) (hsrc := hsrc) (hdst := hdst) (hsem := hsem) (k := k) (Q := Q) fullShare X Nor units_or Nor_pos
    BIBase.Entails.rfl BIBase.Entails.rfl

/-- The end of a program. -/
theorem done (c : Dev nD) {a : α} {Q : α → sProp 𝕄} : Q a ⊢ WP (F := F) c (.ret a) Q := by
  iintro H
  unfold WP; rw [wp_ret]; imodintro; iexact H

/-! ## What the cells hand over -/

theorem pay_rsS (c : Dev nD) (r s : Fin 2) (b : Bool) : pay m c (.rsS r s) b = ownAny c (slot22 srM r s) := rfl
theorem pay_rsR (c : Dev nD) (r : Fin 2) (s : Fin 3) (b : Bool) :
    pay m c (.rsR r s) b = iprop(own1 c (slot23 rrM r s) fullShare (sV m r s (src r c)) ∗ rider c r s) := rfl
theorem pay_agS (c : Dev nD) (r : Fin 2) (t : Fin 3) (b : Bool) : pay m c (.agS r t) b = agSrc m c r t := rfl
theorem pay_agR (c : Dev nD) (r : Fin 2) (t : Fin 3) (b : Bool) :
    pay m c (.agR r t) b = own1 c (slot23 agM r t) fullShare (agV m r t c) := rfl
theorem pay_amS (c : Dev nD) (o : Fin 3) (b : Bool) : pay m c (.amS o) b = own1 c (amxW amM c) (shA o) (amx m c) := rfl
theorem pay_amR (c : Dev nD) (p : Fin 4) (b : Bool) : pay m c (.amR p) b = own1 c (amxW amM p) fullShare (amx m p) := rfl

theorem got_rsS (c : Dev nD) (r s : Fin 2) : pay m c (.rsS r s) false ⊢ ownAny c (slot22 srM r s) := BIBase.Entails.rfl
theorem got_rsR (c : Dev nD) (r : Fin 2) (s : Fin 3) (hr : ¬ (r = 1 ∧ s = 0)) :
    pay m c (.rsR r s) false ⊢ own1 c (slot23 rrM r s) fullShare (sV m r s (src r c)) := by
  rw [pay_rsR]; iintro ⟨H, -⟩; iexact H
theorem got_rsR_am (c : Dev nD) :
    pay m c (.rsR 1 0) false ⊢ iprop(own1 c (slot23 rrM 1 0) fullShare (sV m 1 0 (src 1 c)) ∗ ownAny (opp c) (amxW amM c)) := by
  rw [pay_rsR]; exact BIBase.Entails.rfl
theorem got_agR (c : Dev nD) (r : Fin 2) (t : Fin 3) : pay m c (.agR r t) false ⊢ own1 c (slot23 agM r t) fullShare (agV m r t c) := BIBase.Entails.rfl
theorem got_agS0 (c : Dev nD) (r : Fin 2) : pay m c (.agS r 0) false ⊢ own1 c (halfW qM r) fullShare.right (qv m c r) := BIBase.Entails.rfl
theorem got_agS1 (c : Dev nD) (r : Fin 2) : pay m c (.agS r 1) false ⊢ own1 c (slot23 agM r 0) fullShare.right (agV m r 0 c) := BIBase.Entails.rfl
theorem got_agS2 (c : Dev nD) (r : Fin 2) : pay m c (.agS r 2) false ⊢ own1 c (slot23 agM r 1) fullShare.right (agV m r 1 c) := BIBase.Entails.rfl
theorem got_amS (c : Dev nD) (o : Fin 3) : pay m c (.amS o) false ⊢ own1 c (amxW amM c) (shA o) (amx m c) := BIBase.Entails.rfl
theorem got_amR (c : Dev nD) (p : Fin 4) : pay m c (.amR p) false ⊢ own1 c (amxW amM p) fullShare (amx m p) := BIBase.Entails.rfl

/-! ## Remote copies -/

theorem sV_tgt (r : Fin 2) (s : ℕ) (c : Dev nD) : sV m r s (src r (tgt r c)) = sV m r s c := by rw [src_tgt]
theorem agV_first (r : Fin 2) (c : Dev nD) : agV m r 0 (tgt r c) = lift4 (qv m c r) := by
  show lift4 (qv m (src r (tgt r c)) r) = _
  rw [src_tgt]
theorem agV_next (r : Fin 2) (t : ℕ) (c : Dev nD) : agV m r (t + 1) (tgt r c) = agV m r t c := by
  show lift4 (qv m (org r t (src r (tgt r c))) r) = _
  rw [src_tgt]; rfl

abbrev sq4 (M : Memref sig .tc sp S1x1x1024x1024 e) : Memref sig .tc sp S1024x1024 e := M.squeeze S1024x1024 squeezes_S1x1x1024x1024_S1024x1024

theorem units_rr (r : Fin 2) (s : Fin 3) : (sq4 (slot23 rrM r s)).view.dmaCredit = Nb := rfl
theorem units_ag (r : Fin 2) (s : Fin 3) : (sq4 (slot23 agM r s)).view.dmaCredit = Nq := rfl
theorem units_am {off' : Fin 3 → ℕ} {inb'} : ((win amM off' S1x8x128.size inb').squeeze S8x128 squeezes_S1x8x128_S8x128).view.dmaCredit = Na := rfl
theorem units_sr (r : Fin 2) (s : Fin 2) : (sq4 (slot22 srM r s)).view.dmaCredit = Nb := rfl
theorem units_q (r : Fin 2) : (halfW qM r).view.dmaCredit = Nq := rfl

/-- The reduce-scatter's copy of direction `r`, step `st`, from send slot `sl`. -/
theorem step_rs (c : Dev nD) {n' : Dev nD} (r : Fin 2) (st : Fin 3) (sl : Fin 2) (hn : n' = tgt r c) {sS sem : DmaSem sig}
    (hs₁ : SemLoc.dma sS = csem (Cl.rsS r sl).num) (hs₂ : SemLoc.dma sem = csem (Cl.rsR r st).num)
    (r₁ : ℕ) (h₁ : r₁ < nr c (.rsS r sl)) {hsc} {hsrc} {hdst} {hsem}
    (l : List (Dev nD × Cl))
    {k : PUnit → Prog (TpuEff nD τ sig (Elt F) Λ₀ .tc) α} {Q : α → sProp 𝕄} :
    iprop(Ctx m K ∗ reached ER (cell c (.rsS r sl)) r₁ ∗ own1 c (slot22 srM r sl) fullShare (sV m r st c) ∗ ownAny (tgt r c) (slot23 rrM r st)
        ∗ rider (tgt r c) r st ∗ Owe c ((tgt r c, .rsR r st) :: l) ∗ dutyTok ER (cell c (.rsS r sl)) r₁ false ∗ dutyTok ER (cell (tgt r c) (.rsR r st)) 0 false)
      ⊢ iprop(((cred (tallyAt (cell c (.rsS r sl)) () (amt (.rsS r sl))) ∗ Owe c l) -∗ WP c (k ⟨⟩) Q)
          -∗ WP c (.op (.enqueueDma (sq4 (slot22 srM r sl)) (.remote (Dev.tc n' : Thread nD τ) (sq4 (slot23 rrM r st)) (SemLoc.dma sS) hsc) (SemLoc.dma sem) hsrc hdst hsem) k) Q) :=
  step_send m K c hn (.rsS r sl) (.rsR r st) hs₁ hs₂ r₁ h₁ Nat.one_pos rfl (units_rr r st) fullShare
    (fun j => sV m r st c (Shape.reshapeEquiv squeezes_S1x1x1024x1024_S1024x1024.numel_eq j))
    (own1 c (slot22 srM r sl) fullShare (sV m r st c)) (ownAny (tgt r c) (slot23 rrM r st)) (rider (tgt r c) r st)
    (by rw [owns_squeezed])
    (by rw [owns_squeezed]; exact own1_any c _ _)
    (any_squeeze _ _ _)
    (by rw [owns_squeezed, pay_rsR, sV_tgt]) l

/-- The same copy where nothing travels with the landing. -/
theorem step_rs0 (c : Dev nD) {n' : Dev nD} (r : Fin 2) (st : Fin 3) (sl : Fin 2) (hr : ¬ (r = 1 ∧ st = 0)) (hn : n' = tgt r c) {sS sem : DmaSem sig}
    (hs₁ : SemLoc.dma sS = csem (Cl.rsS r sl).num) (hs₂ : SemLoc.dma sem = csem (Cl.rsR r st).num)
    (r₁ : ℕ) (h₁ : r₁ < nr c (.rsS r sl)) {hsc} {hsrc} {hdst} {hsem}
    (l : List (Dev nD × Cl))
    {k : PUnit → Prog (TpuEff nD τ sig (Elt F) Λ₀ .tc) α} {Q : α → sProp 𝕄} :
    iprop(Ctx m K ∗ reached ER (cell c (.rsS r sl)) r₁ ∗ own1 c (slot22 srM r sl) fullShare (sV m r st c) ∗ ownAny (tgt r c) (slot23 rrM r st)
        ∗ Owe c ((tgt r c, .rsR r st) :: l) ∗ dutyTok ER (cell c (.rsS r sl)) r₁ false ∗ dutyTok ER (cell (tgt r c) (.rsR r st)) 0 false)
      ⊢ iprop(((cred (tallyAt (cell c (.rsS r sl)) () (amt (.rsS r sl))) ∗ Owe c l) -∗ WP c (k ⟨⟩) Q)
          -∗ WP c (.op (.enqueueDma (sq4 (slot22 srM r sl)) (.remote (Dev.tc n' : Thread nD τ) (sq4 (slot23 rrM r st)) (SemLoc.dma sS) hsc) (SemLoc.dma sem) hsrc hdst hsem) k) Q) := by
  have H := step_rs m K c r st sl hn hs₁ hs₂ r₁ h₁ l (hsc := hsc) (hsrc := hsrc) (hdst := hdst) (hsem := hsem) (k := k) (Q := Q)
  unfold rider at H
  rw [if_neg hr] at H
  iintro ⟨#HC, Hr, HA, HB, HO, Ht₁, Ht₂⟩
  iapply H
  isplitr; · iexact HC
  isplitl [Hr]; · iexact Hr
  isplitl [HA]; · iexact HA
  isplitl [HB]; · iexact HB
  isplitr; · iempintro
  isplitl [HO]; · iexact HO
  isplitl [Ht₁]; · iexact Ht₁
  iexact Ht₂

/-- The all-gather's first copy of direction `r`: the device's own half block. -/
theorem step_ag0 (c : Dev nD) {n' : Dev nD} (r : Fin 2) (hn : n' = tgt r c) {sS sem : DmaSem sig}
    (hs₁ : SemLoc.dma sS = csem (Cl.agS r 0).num) (hs₂ : SemLoc.dma sem = csem (Cl.agR r 0).num) {hsc} {hsrc} {hdst} {hsem}
    (l : List (Dev nD × Cl))
    {k : PUnit → Prog (TpuEff nD τ sig (Elt F) Λ₀ .tc) α} {Q : α → sProp 𝕄} :
    iprop(Ctx m K ∗ own1 c (halfW qM r) fullShare.right (qv m c r) ∗ ownAny (tgt r c) (slot23 agM r 0)
        ∗ Owe c ((tgt r c, .agR r 0) :: l) ∗ dutyTok ER (cell c (.agS r 0)) 0 false ∗ dutyTok ER (cell (tgt r c) (.agR r 0)) 0 false)
      ⊢ iprop(((cred (tallyAt (cell c (.agS r 0)) () (amt (.agS r 0))) ∗ Owe c l) -∗ WP c (k ⟨⟩) Q)
          -∗ WP c (.op (.enqueueDma (halfW qM r) (.remote (Dev.tc n' : Thread nD τ) (sq4 (slot23 agM r 0)) (SemLoc.dma sS) hsc) (SemLoc.dma sem) hsrc hdst hsem) k) Q) := by
  have H := step_send m K c hn (.agS r 0) (.agR r 0) hs₁ hs₂ 0 Nat.one_pos Nat.one_pos rfl (hsc := hsc) (hsrc := hsrc) (hdst := hdst) (hsem := hsem) (units_ag r 0) fullShare.right
    (qv m c r)
    (own1 c (halfW qM r) fullShare.right (qv m c r)) (ownAny (tgt r c) (slot23 agM r 0)) iprop(emp)
    BIBase.Entails.rfl BIBase.Entails.rfl
    (any_squeeze _ _ _)
    (by
      rw [owns_squeeze]; unfold pay
      show _ ⊢ own1 (tgt r c) (slot23 agM r 0) fullShare (agV m r 0 (tgt r c))
      rw [agV_first]
      iintro ⟨H, -⟩; iexact H) l (k := k) (Q := Q)
  iintro ⟨#HC, HA, HB, HO, Ht₁, Ht₂⟩ Hk
  ihave #Hr := (Ctx_reached m K c (.agS r 0)) $$ HC
  iapply H $$ [HA HB HO Ht₁ Ht₂]
  · isplitr; · iexact HC
    isplitr; · iexact Hr
    isplitl [HA]; · iexact HA
    isplitl [HB]; · iexact HB
    isplitr; · iempintro
    isplitl [HO]; · iexact HO
    isplitl [Ht₁]; · iexact Ht₁
    iexact Ht₂
  iexact Hk

/-- The source of a forwarding copy as the send cell hands it back. -/
theorem agSrc_next (c : Dev nD) (r : Fin 2) (t : Fin 2) : agSrc m c r t.succ = own1 c (slot23 agM r t.castSucc) fullShare.right (agV m r t c) := by
  match t with
  | 0 => rfl
  | 1 => rfl

/-- A forwarding copy of the all-gather: what arrived at step `t` goes on at step `t + 1`. -/
theorem step_ag (c : Dev nD) {n' : Dev nD} (r : Fin 2) (t : Fin 2) {a b : Fin 3} (ha : t.castSucc = a) (hb : t.succ = b) (hn : n' = tgt r c) {sS sem : DmaSem sig}
    (hs₁ : SemLoc.dma sS = csem (Cl.agS r b).num) (hs₂ : SemLoc.dma sem = csem (Cl.agR r b).num) {hsc} {hsrc} {hdst} {hsem}
    (l : List (Dev nD × Cl))
    {k : PUnit → Prog (TpuEff nD τ sig (Elt F) Λ₀ .tc) α} {Q : α → sProp 𝕄} :
    iprop(Ctx m K ∗ own1 c (slot23 agM r a) fullShare.right (agV m r t c) ∗ ownAny (tgt r c) (slot23 agM r b)
        ∗ Owe c ((tgt r c, .agR r b) :: l) ∗ dutyTok ER (cell c (.agS r b)) 0 false ∗ dutyTok ER (cell (tgt r c) (.agR r b)) 0 false)
      ⊢ iprop(((cred (tallyAt (cell c (.agS r b)) () (amt (.agS r b))) ∗ Owe c l) -∗ WP c (k ⟨⟩) Q)
          -∗ WP c (.op (.enqueueDma (sq4 (slot23 agM r a)) (.remote (Dev.tc n' : Thread nD τ) (sq4 (slot23 agM r b)) (SemLoc.dma sS) hsc) (SemLoc.dma sem) hsrc hdst hsem) k) Q) := by
  subst ha hb
  have H := step_send m K c hn (.agS r t.succ) (.agR r t.succ) hs₁ hs₂ 0 Nat.one_pos Nat.one_pos rfl (hsc := hsc) (hsrc := hsrc) (hdst := hdst) (hsem := hsem) (units_ag r t.succ) fullShare.right
    (fun j => agV m r t c (Shape.reshapeEquiv squeezes_S1x1x1024x1024_S1024x1024.numel_eq j))
    (own1 c (slot23 agM r t.castSucc) fullShare.right (agV m r t c)) (ownAny (tgt r c) (slot23 agM r t.succ)) iprop(emp)
    (by rw [owns_squeezed]) (by rw [owns_squeezed, pay_agS, agSrc_next])
    (any_squeeze _ _ _)
    (by
      rw [owns_squeezed]; unfold pay
      show _ ⊢ own1 (tgt r c) (slot23 agM r t.succ) fullShare (agV m r (t.val + 1) (tgt r c))
      rw [agV_next]
      iintro ⟨H, -⟩; iexact H) l (k := k) (Q := Q)
  iintro ⟨#HC, HA, HB, HO, Ht₁, Ht₂⟩ Hk
  ihave #Hr := (Ctx_reached m K c (.agS r t.succ)) $$ HC
  iapply H $$ [HA HB HO Ht₁ Ht₂]
  · isplitr; · iexact HC
    isplitr; · iexact Hr
    isplitl [HA]; · iexact HA
    isplitl [HB]; · iexact HB
    isplitr; · iempintro
    isplitl [HO]; · iexact HO
    isplitl [Ht₁]; · iexact Ht₁
    iexact Ht₂
  iexact Hk

theorem landing_round (o : Fin 3) (c : Dev nD) : 0 < nr (fwd (o + 1) c) (.amR c) := by revert o c; decide

/-- The copy of the device's maximum to the device `o + 1` places on. -/
theorem step_am (c : Dev nD) {n' : Dev nD} (o : Fin 3) (d : ℕ) (hd : o.val + 1 = d) (hn : n' = fwd d c) {sS sem : DmaSem sig}
    (hs₁ : SemLoc.dma sS = csem (Cl.amS o).num) (hs₂ : SemLoc.dma sem = csem (Cl.amR c).num)
    {off' : Fin 3 → ℕ} {inb'} (ho : off' = ![c.val, 0, 0]) {hsc} {hsrc} {hdst} {hsem}
    (l : List (Dev nD × Cl))
    {k : PUnit → Prog (TpuEff nD τ sig (Elt F) Λ₀ .tc) α} {Q : α → sProp 𝕄} :
    iprop(Ctx m K ∗ own1 c (amxW amM c) (shA o) (amx m c) ∗ ownAny (fwd d c) (amxW amM c)
        ∗ Owe c ((fwd d c, .amR c) :: l) ∗ dutyTok ER (cell c (.amS o)) 0 false ∗ dutyTok ER (cell (fwd d c) (.amR c)) 0 false)
      ⊢ iprop(((cred (tallyAt (cell c (.amS o)) () (amt (.amS o))) ∗ Owe c l) -∗ WP c (k ⟨⟩) Q)
          -∗ WP c (.op (.enqueueDma ((win amM off' S1x8x128.size inb').squeeze S8x128 squeezes_S1x8x128_S8x128)
            (.remote (Dev.tc n' : Thread nD τ) ((win amM off' S1x8x128.size inb').squeeze S8x128 squeezes_S1x8x128_S8x128) (SemLoc.dma sS) hsc) (SemLoc.dma sem) hsrc hdst hsem) k) Q) := by
  subst ho hd
  have hc : 0 < nr (fwd (o.val + 1) c) (.amR c) := landing_round o c
  have H := step_send m K c hn (.amS o) (.amR c) hs₁ hs₂ 0 Nat.one_pos hc rfl (hsc := hsc) (hsrc := hsrc) (hdst := hdst) (hsem := hsem) units_am (shA o)
    (fun j => amx m c (Shape.reshapeEquiv squeezes_S1x8x128_S8x128.numel_eq j))
    (own1 c (amxW amM c) (shA o) (amx m c)) (ownAny (fwd (o.val + 1) c) (amxW amM c)) iprop(emp)
    (by rw [owns_squeezed]) (by rw [owns_squeezed]; unfold pay; exact BIBase.Entails.rfl)
    (any_squeeze _ _ _)
    (by
      rw [owns_squeezed]; unfold pay
      iintro ⟨H, -⟩; iexact H) l (k := k) (Q := Q)
  iintro ⟨#HC, HA, HB, HO, Ht₁, Ht₂⟩ Hk
  ihave #Hr := (Ctx_reached m K c (.amS o)) $$ HC
  iapply H $$ [HA HB HO Ht₁ Ht₂]
  · isplitr; · iexact HC
    isplitr; · iexact Hr
    isplitl [HA]; · iexact HA
    isplitl [HB]; · iexact HB
    isplitr; · iempintro
    isplitl [HO]; · iexact HO
    isplitl [Ht₁]; · iexact Ht₁
    iexact Ht₂
  iexact Hk

end Cert.KernelIdeal.Run

end
-- ==== Proof.Windows.lean ====
/-
# Cutting the buffers

A buffer owned whole is its windows owned, and back.
-/
module

public import proofs.«01_k».proof.Proof.Copies
public import Idealize.ShloMosaic.Lib.MemrefSat

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)

variable {F : FTy → Type} [FloatOps F]

local notation "𝕄" => MT nD τ sig Unit (Elt F) ℕ UU ℕ

variable (m : (ℓ : Loc nD τ sig) → Buf (Elt F) ℓ)

variable {sp : Space} {s : Shape} {e : EltTy}

/-! ## A memref cut into rectangles -/

section Tiles

variable {T : Type} [Fintype T] [DecidableEq T] {r : T → Rect s}

/-- Rectangles told apart by a key that says which of them an index is in. -/
theorem tiles_disjoint (key : s.Idx → T) (hk : ∀ t i, i ∈ (r t).set ↔ key i = t) (t t' : T) (h : t ≠ t') : Disjoint (r t).set (r t').set := by
  rw [Finset.disjoint_left]
  intro i h₁ h₂
  exact h (((hk t i).mp h₁).symm.trans ((hk t' i).mp h₂))

theorem tiles_cover (key : s.Idx → T) (hk : ∀ t i, i ∈ (r t).set ↔ key i = t) : (Finset.univ : Finset T).biUnion (fun t => (r t).set) = Finset.univ := by
  ext i
  simp only [Finset.mem_biUnion, Finset.mem_univ, true_and, iff_true]
  exact ⟨key i, (hk _ i).mpr rfl⟩

variable (c : Dev nD) (M : Memref sig .tc sp s e) (hr : ∀ t a, (r t).stride a = 1) (key : s.Idx → T) (hk : ∀ t i, i ∈ (r t).set ↔ key i = t)
include hk

theorem own1_tiles (q : PosShare TreeShare) (X : s.Idx → Elt F e) :
    (own1 c M q X : sProp 𝕄) = bigSep Finset.univ fun t => own1 c (M.slice (r t) (hr t)) q (fun j => X ((r t).emb j)) :=
  BI.equiv_iff.mp ⟨owns_rects (c : Thread nD τ) M q r hr (tiles_disjoint key hk) (tiles_cover key hk) X,
    owns_of_rects (c : Thread nD τ) M q r hr (tiles_disjoint key hk) (tiles_cover key hk) X⟩

/-- Contents given on each rectangle are the restrictions of one contents. -/
theorem tiles_glue (Xs : ∀ t, (r t).shape.Idx → Elt F e) : ∃ X : s.Idx → Elt F e, ∀ t j, X ((r t).emb j) = Xs t j := by
  have hinj : Function.Injective fun p : (Σ t, (r t).shape.Idx) => (r p.1).emb p.2 := by
    rintro ⟨t, j⟩ ⟨t', j'⟩ h
    have h₁ : key ((r t).emb j) = t := (hk t _).mp ((r t).mem_set.mpr fun a => ⟨(j a).val, (j a).isLt, rfl⟩)
    have h₂ : key ((r t').emb j') = t' := (hk t' _).mp ((r t').mem_set.mpr fun a => ⟨(j' a).val, (j' a).isLt, rfl⟩)
    have ht : t = t' := by rw [← h₁, ← h₂]; exact congrArg key h
    subst ht
    exact congrArg _ ((r t).emb.injective h)
  exact ⟨Function.extend (fun p : (Σ t, (r t).shape.Idx) => (r p.1).emb p.2) (fun p => Xs p.1 p.2) (fun _ => Classical.arbitrary _),
    fun t j => hinj.extend_apply _ _ (⟨t, j⟩ : Σ t, (r t).shape.Idx)⟩

theorem any_tiles : (ownAny c M : sProp 𝕄) = bigSep Finset.univ fun t => ownAny c (M.slice (r t) (hr t)) := by
  refine BI.equiv_iff.mp ⟨?_, ?_⟩
  · show (ownAny c M : sProp 𝕄) ⊢ _
    unfold ownAny
    iintro ⟨%X, H⟩
    have h : (own1 c M fullShare X : sProp 𝕄) ⊢ bigSep Finset.univ fun t => iprop(∃ Y : (r t).shape.Idx → Elt F e, own1 c (M.slice (r t) (hr t)) fullShare Y) := by
      rw [own1_tiles c M hr key hk]
      refine bigSep_mono fun t _ => ?_
      show (own1 c (M.slice (r t) (hr t)) fullShare _ : sProp 𝕄) ⊢ _
      iintro H; iexists _; iexact H
    iapply h $$ H
  · have h₁ : (bigSep Finset.univ fun t => ownAny c (M.slice (r t) (hr t)) : sProp 𝕄)
        ⊢ iprop(∃ Xs : ∀ t, (r t).shape.Idx → Elt F e, bigSep Finset.univ fun t => own1 c (M.slice (r t) (hr t)) fullShare (Xs t)) := by
      unfold ownAny
      exact bigSep_exists_pi Finset.univ fun t (Y : (r t).shape.Idx → Elt F e) => own1 c (M.slice (r t) (hr t)) fullShare Y
    show (bigSep Finset.univ fun t => ownAny c (M.slice (r t) (hr t)) : sProp 𝕄) ⊢ ownAny c M
    refine BIBase.Entails.trans h₁ ?_
    iintro ⟨%Xs, H⟩
    obtain ⟨X, hX⟩ := tiles_glue key hk Xs
    have h₂ : (bigSep Finset.univ fun t => own1 c (M.slice (r t) (hr t)) fullShare (Xs t) : sProp 𝕄) ⊢ own1 c M fullShare X := by
      rw [own1_tiles c M hr key hk]
      refine bigSep_mono fun t _ => ?_
      rw [show (fun j => X ((r t).emb j)) = Xs t from funext (hX t)]
      show (own1 c (M.slice (r t) (hr t)) fullShare (Xs t) : sProp 𝕄) ⊢ own1 c (M.slice (r t) (hr t)) fullShare (Xs t)
      exact BIBase.Entails.rfl
    unfold ownAny
    iexists X
    iapply h₂ $$ H

end Tiles

/-! ## The kernel's cuts -/

omit [FloatOps F] in
/-- Four things listed from the device before `c` on. -/
theorem bigSep_ring (c : Dev nD) (Φ : Fin 4 → sProp 𝕄) : bigSep Finset.univ Φ = iprop(Φ (fwd 0 c) ∗ Φ (fwd 1 c) ∗ Φ (fwd 2 c) ∗ Φ (fwd 3 c)) :=
  bigSep_univ_eq_bigSepL [fwd 0 c, fwd 1 c, fwd 2 c, fwd 3 c] (by revert c; decide) (by revert c; decide) Φ

omit [FloatOps F] in
theorem bigSep_two (Φ : Fin 2 → sProp 𝕄) : bigSep Finset.univ Φ = iprop(Φ 0 ∗ Φ 1) :=
  bigSep_univ_eq_bigSepL [0, 1] (by decide) (by decide) Φ

omit [FloatOps F] in
theorem bigSep_22 (Φ : Fin 2 × Fin 2 → sProp 𝕄) : bigSep Finset.univ Φ = iprop(Φ (0, 0) ∗ Φ (0, 1) ∗ Φ (1, 0) ∗ Φ (1, 1)) :=
  bigSep_univ_eq_bigSepL [(0, 0), (0, 1), (1, 0), (1, 1)] (by decide) (by decide) Φ

omit [FloatOps F] in
theorem bigSep_23 (Φ : Fin 2 × Fin 3 → sProp 𝕄) :
    bigSep Finset.univ Φ = iprop(Φ (0, 0) ∗ Φ (0, 1) ∗ Φ (0, 2) ∗ Φ (1, 0) ∗ Φ (1, 1) ∗ Φ (1, 2)) :=
  bigSep_univ_eq_bigSepL [(0, 0), (0, 1), (0, 2), (1, 0), (1, 1), (1, 2)] (by decide) (by decide) Φ

theorem rows_key (p : Fin 4) (i : S4096x1024.Idx) :
    i ∈ (Rect.unit (s := S4096x1024) ![1024 * p.val, 0] S1024x1024.size (rows_inb p)).set ↔ (⟨(i 0).val / 1024, by have := (i 0).isLt; change (i 0).val < 4096 at this; omega⟩ : Fin 4) = p := by
  rw [Rect.mem_set_unit, Fin.forall_fin_two, Fin.ext_iff]
  have h₀ : (i 0).val < 4096 := (i 0).isLt
  have h₁ : (i 1).val < 1024 := (i 1).isLt
  change (1024 * p.val ≤ (i 0).val ∧ (i 0).val < 1024 * p.val + 1024) ∧ (0 ≤ (i 1).val ∧ (i 1).val < 0 + 1024) ↔ (i 0).val / 1024 = p.val
  omega

theorem half_key (r : Fin 2) (i : S1024x2048.Idx) :
    i ∈ (Rect.unit (s := S1024x2048) ![0, 1024 * r.val] S1024x1024.size (half_inb r)).set ↔ hi10 (i 1) = r := by
  rw [Rect.mem_set_unit, Fin.forall_fin_two, Fin.ext_iff]
  have h₀ : (i 0).val < 1024 := (i 0).isLt
  have h₁ : (i 1).val < 2048 := (i 1).isLt
  change (0 ≤ (i 0).val ∧ (i 0).val < 0 + 1024) ∧ (1024 * r.val ≤ (i 1).val ∧ (i 1).val < 1024 * r.val + 1024) ↔ (i 1).val / 1024 = r.val
  omega

theorem stage_key (p : Fin 2) (i : S2x1024x1024.Idx) :
    i ∈ (Rect.unit (s := S2x1024x1024) ![p.val, 0, 0] S1x1024x1024.size (stage_inb p)).set ↔ (⟨(i 0).val, (i 0).isLt⟩ : Fin 2) = p := by
  rw [Rect.mem_set_unit, Fin.forall_fin_succ, Fin.forall_fin_two, Fin.ext_iff]
  have h₁ : (i 1).val < 1024 := (i 1).isLt
  have h₂ : (i 2).val < 1024 := (i 2).isLt
  change (p.val ≤ (i 0).val ∧ (i 0).val < p.val + 1) ∧ (0 ≤ (i 1).val ∧ (i 1).val < 0 + 1024) ∧ (0 ≤ (i 2).val ∧ (i 2).val < 0 + 1024) ↔ (i 0).val = p.val
  omega

theorem amx_key (p : Fin 4) (i : S4x8x128.Idx) :
    i ∈ (Rect.unit (s := S4x8x128) ![p.val, 0, 0] S1x8x128.size (amx_inb p)).set ↔ (⟨(i 0).val, (i 0).isLt⟩ : Fin 4) = p := by
  rw [Rect.mem_set_unit, Fin.forall_fin_succ, Fin.forall_fin_two, Fin.ext_iff]
  have h₁ : (i 1).val < 8 := (i 1).isLt
  have h₂ : (i 2).val < 128 := (i 2).isLt
  change (p.val ≤ (i 0).val ∧ (i 0).val < p.val + 1) ∧ (0 ≤ (i 1).val ∧ (i 1).val < 0 + 8) ∧ (0 ≤ (i 2).val ∧ (i 2).val < 0 + 128) ↔ (i 0).val = p.val
  omega

theorem slot22_key (p : Fin 2 × Fin 2) (i : S2x2x1024x1024.Idx) :
    i ∈ (Rect.unit (s := S2x2x1024x1024) ![p.1.val, p.2.val, 0, 0] S1x1x1024x1024.size (slot22_inb p.1 p.2)).set ↔ ((⟨(i 0).val, (i 0).isLt⟩, ⟨(i 1).val, (i 1).isLt⟩) : Fin 2 × Fin 2) = p := by
  rw [Rect.mem_set_unit, Fin.forall_fin_succ, Fin.forall_fin_succ, Fin.forall_fin_two, Prod.ext_iff, Fin.ext_iff, Fin.ext_iff]
  have h₁ : (i 2).val < 1024 := (i 2).isLt
  have h₂ : (i 3).val < 1024 := (i 3).isLt
  change (p.1.val ≤ (i 0).val ∧ (i 0).val < p.1.val + 1) ∧ (p.2.val ≤ (i 1).val ∧ (i 1).val < p.2.val + 1) ∧ (0 ≤ (i 2).val ∧ (i 2).val < 0 + 1024) ∧ (0 ≤ (i 3).val ∧ (i 3).val < 0 + 1024)
    ↔ (i 0).val = p.1.val ∧ (i 1).val = p.2.val
  omega

theorem slot23_key (p : Fin 2 × Fin 3) (i : S2x3x1024x1024.Idx) :
    i ∈ (Rect.unit (s := S2x3x1024x1024) ![p.1.val, p.2.val, 0, 0] S1x1x1024x1024.size (slot23_inb p.1 p.2)).set ↔ ((⟨(i 0).val, (i 0).isLt⟩, ⟨(i 1).val, (i 1).isLt⟩) : Fin 2 × Fin 3) = p := by
  rw [Rect.mem_set_unit, Fin.forall_fin_succ, Fin.forall_fin_succ, Fin.forall_fin_two, Prod.ext_iff, Fin.ext_iff, Fin.ext_iff]
  have h₁ : (i 2).val < 1024 := (i 2).isLt
  have h₂ : (i 3).val < 1024 := (i 3).isLt
  change (p.1.val ≤ (i 0).val ∧ (i 0).val < p.1.val + 1) ∧ (p.2.val ≤ (i 1).val ∧ (i 1).val < p.2.val + 1) ∧ (0 ≤ (i 2).val ∧ (i 2).val < 0 + 1024) ∧ (0 ≤ (i 3).val ∧ (i 3).val < 0 + 1024)
    ↔ (i 0).val = p.1.val ∧ (i 1).val = p.2.val
  omega

theorem any_rows (c : Dev nD) (M : Memref sig .tc sp S4096x1024 e) :
    (ownAny c M : sProp 𝕄) = iprop(ownAny c (rowsW M (fwd 0 c)) ∗ ownAny c (rowsW M (fwd 1 c)) ∗ ownAny c (rowsW M (fwd 2 c)) ∗ ownAny c (rowsW M (fwd 3 c))) := by
  rw [any_tiles (s := S4096x1024) c M (r := fun p : Fin 4 => Rect.unit (s := S4096x1024) ![1024 * p.val, 0] S1024x1024.size (rows_inb p)) (fun _ _ => rfl) _ rows_key, bigSep_ring c]

theorem own1_rows (c : Dev nD) (M : Memref sig .tc sp S4096x1024 e) (X : S4096x1024.Idx → Elt F e) :
    (own1 c M fullShare X : sProp 𝕄) = bigSep Finset.univ fun p : Fin 4 => own1 c (rowsW M p) fullShare
      (fun j => X ((Rect.unit (s := S4096x1024) ![1024 * p.val, 0] S1024x1024.size (rows_inb p)).emb j)) :=
  own1_tiles (s := S4096x1024) c M (r := fun p : Fin 4 => Rect.unit (s := S4096x1024) ![1024 * p.val, 0] S1024x1024.size (rows_inb p)) (fun _ _ => rfl) _ rows_key fullShare X

theorem any_halves (c : Dev nD) (M : Memref sig .tc sp S1024x2048 e) :
    (ownAny c M : sProp 𝕄) = iprop(ownAny c (halfW M 0) ∗ ownAny c (halfW M 1)) := by
  rw [any_tiles (s := S1024x2048) c M (r := fun p : Fin 2 => Rect.unit (s := S1024x2048) ![0, 1024 * p.val] S1024x1024.size (half_inb p)) (fun _ _ => rfl) _ half_key, bigSep_two]

theorem own1_halves (c : Dev nD) (M : Memref sig .tc sp S1024x2048 e) (q : PosShare TreeShare) (X : S1024x2048.Idx → Elt F e) :
    (own1 c M q X : sProp 𝕄) = iprop(own1 c (halfW M 0) q (fun j => X ((Rect.unit (s := S1024x2048) ![0, 1024 * (0 : Fin 2).val] S1024x1024.size (half_inb 0)).emb j))
      ∗ own1 c (halfW M 1) q (fun j => X ((Rect.unit (s := S1024x2048) ![0, 1024 * (1 : Fin 2).val] S1024x1024.size (half_inb 1)).emb j))) := by
  rw [own1_tiles (s := S1024x2048) c M (r := fun p : Fin 2 => Rect.unit (s := S1024x2048) ![0, 1024 * p.val] S1024x1024.size (half_inb p)) (fun _ _ => rfl) _ half_key, bigSep_two]
  rfl

theorem any_stage (c : Dev nD) (M : Memref sig .tc sp S2x1024x1024 e) :
    (ownAny c M : sProp 𝕄) = iprop(ownAny c (stageW M 0) ∗ ownAny c (stageW M 1)) := by
  rw [any_tiles (s := S2x1024x1024) c M (r := fun p : Fin 2 => Rect.unit (s := S2x1024x1024) ![p.val, 0, 0] S1x1024x1024.size (stage_inb p)) (fun _ _ => rfl) _ stage_key, bigSep_two]

theorem any_22 (c : Dev nD) (M : Memref sig .tc sp S2x2x1024x1024 e) :
    (ownAny c M : sProp 𝕄) = iprop(ownAny c (slot22 M 0 0) ∗ ownAny c (slot22 M 0 1) ∗ ownAny c (slot22 M 1 0) ∗ ownAny c (slot22 M 1 1)) := by
  rw [any_tiles (s := S2x2x1024x1024) c M (r := fun p : Fin 2 × Fin 2 => Rect.unit (s := S2x2x1024x1024) ![p.1.val, p.2.val, 0, 0] S1x1x1024x1024.size (slot22_inb p.1 p.2)) (fun _ _ => rfl) _ slot22_key, bigSep_22]

theorem any_23 (c : Dev nD) (M : Memref sig .tc sp S2x3x1024x1024 e) :
    (ownAny c M : sProp 𝕄) = iprop(ownAny c (slot23 M 0 0) ∗ ownAny c (slot23 M 0 1) ∗ ownAny c (slot23 M 0 2)
      ∗ ownAny c (slot23 M 1 0) ∗ ownAny c (slot23 M 1 1) ∗ ownAny c (slot23 M 1 2)) := by
  rw [any_tiles (s := S2x3x1024x1024) c M (r := fun p : Fin 2 × Fin 3 => Rect.unit (s := S2x3x1024x1024) ![p.1.val, p.2.val, 0, 0] S1x1x1024x1024.size (slot23_inb p.1 p.2)) (fun _ _ => rfl) _ slot23_key, bigSep_23]

theorem any_amx (c : Dev nD) (M : Memref sig .tc sp S4x8x128 e) :
    (ownAny c M : sProp 𝕄) = iprop(ownAny c (amxW M (fwd 0 c)) ∗ ownAny c (amxW M (fwd 1 c)) ∗ ownAny c (amxW M (fwd 2 c)) ∗ ownAny c (amxW M (fwd 3 c))) := by
  rw [any_tiles (s := S4x8x128) c M (r := fun p : Fin 4 => Rect.unit (s := S4x8x128) ![p.val, 0, 0] S1x8x128.size (amx_inb p)) (fun _ _ => rfl) _ amx_key, bigSep_ring c]

/-! ## A buffer as a window of itself -/

theorem own1_full (c : Dev nD) (M : Memref sig .tc sp S1024x2048 e) (q : PosShare TreeShare) (X : S1024x2048.Idx → Elt F e) :
    (own1 c M q X : sProp 𝕄) = own1 c (fullW M) q X := by
  rw [own1_tiles (s := S1024x2048) c M (T := Unit) (r := fun _ => Rect.unit (s := S1024x2048) ![0, 0] S1024x2048.size inb_S1024x2048_S1024x2048_0_0) (fun _ _ => rfl) (fun _ => ()) (fun t i => by
    rw [Rect.mem_set_unit, Fin.forall_fin_two]
    have h₀ : (i 0).val < 1024 := (i 0).isLt
    have h₁ : (i 1).val < 2048 := (i 1).isLt
    change (0 ≤ (i 0).val ∧ (i 0).val < 0 + 1024) ∧ (0 ≤ (i 1).val ∧ (i 1).val < 0 + 2048) ↔ _
    simp only [eq_iff_true_of_subsingleton, iff_true]; omega), BI.bigSep_univ_of_subsingleton ()]
  refine congrArg (fun Y => own1 c (fullW M) q Y) (funext fun j => congrArg X (funext fun a => Fin.ext ?_))
  match a with
  | 0 => show 0 + 1 * (j 0).val = (j 0).val; omega
  | 1 => show 0 + 1 * (j 1).val = (j 1).val; omega

theorem own1_amxAll (c : Dev nD) (M : Memref sig .tc sp S4x8x128 e) (q : PosShare TreeShare) (X : S4x8x128.Idx → Elt F e) :
    (own1 c M q X : sProp 𝕄) = own1 c (amxAll M) q X := by
  rw [own1_tiles (s := S4x8x128) c M (T := Unit) (r := fun _ => Rect.unit (s := S4x8x128) ![0, 0, 0] S4x8x128.size inb_S4x8x128_S4x8x128_0_0_0) (fun _ _ => rfl) (fun _ => ()) (fun t i => by
    rw [Rect.mem_set_unit, Fin.forall_fin_succ, Fin.forall_fin_two]
    have h₀ : (i 0).val < 4 := (i 0).isLt
    have h₁ : (i 1).val < 8 := (i 1).isLt
    have h₂ : (i 2).val < 128 := (i 2).isLt
    change (0 ≤ (i 0).val ∧ (i 0).val < 0 + 4) ∧ (0 ≤ (i 1).val ∧ (i 1).val < 0 + 8) ∧ (0 ≤ (i 2).val ∧ (i 2).val < 0 + 128) ↔ _
    simp only [eq_iff_true_of_subsingleton, iff_true]; omega), BI.bigSep_univ_of_subsingleton ()]
  refine congrArg (fun Y => own1 c (amxAll M) q Y) (funext fun j => congrArg X (funext fun a => Fin.ext ?_))
  match a with
  | 0 => show 0 + 1 * (j 0).val = (j 0).val; omega
  | 1 => show 0 + 1 * (j 1).val = (j 1).val; omega
  | 2 => show 0 + 1 * (j 2).val = (j 2).val; omega

/-! ## The device's quantised chunk and the table of maxima -/

theorem qw_half (c : Dev nD) (r : Fin 2) (j : S1024x1024.Idx) :
    qw m c ((Rect.unit (s := S1024x2048) ![0, 1024 * r.val] S1024x1024.size (half_inb r)).emb j) = qv m c r j := by
  have h₁ : (j 1).val < 1024 := (j 1).isLt
  have hh : hi10 (((Rect.unit (s := S1024x2048) ![0, 1024 * r.val] S1024x1024.size (half_inb r)).emb j) 1) = r := by
    apply Fin.ext; show (1024 * r.val + 1 * (j 1).val) / 1024 = r.val; omega
  unfold qw
  rw [hh]
  refine congrArg (qv m c r) (funext fun a => Fin.ext ?_)
  match a with
  | 0 => show 0 + 1 * (j 0).val = (j 0).val; omega
  | 1 => show (1024 * r.val + 1 * (j 1).val) % 1024 = (j 1).val; omega

/-- The two halves of the quantised chunk, read as one. -/
theorem own1_qw (c : Dev nD) (q : PosShare TreeShare) :
    (iprop(own1 c (halfW qM 0) q (qv m c 0) ∗ own1 c (halfW qM 1) q (qv m c 1)) : sProp 𝕄) = own1 c (fullW qM) q (qw m c) := by
  rw [← own1_full, own1_halves]
  simp only [qw_half m c]

theorem amxA_slot (p : Fin 4) (j : S1x8x128.Idx) :
    amxA m ((Rect.unit (s := S4x8x128) ![p.val, 0, 0] S1x8x128.size (amx_inb p)).emb j) = amx m p j := by
  have h₀ : (j 0).val < 1 := (j 0).isLt
  have hh : (((Rect.unit (s := S4x8x128) ![p.val, 0, 0] S1x8x128.size (amx_inb p)).emb j) 0 : Fin 4) = p := by
    apply Fin.ext; show p.val + 1 * (j 0).val = p.val; omega
  unfold amxA
  rw [hh]
  refine congrArg (amx m p) (funext fun a => Fin.ext ?_)
  match a with
  | 0 => show 0 = (j 0).val; omega
  | 1 => show 0 + 1 * (j 1).val = (j 1).val; omega
  | 2 => show 0 + 1 * (j 2).val = (j 2).val; omega

/-- The four slots of the table of maxima, read as one. -/
theorem own1_amxA (c : Dev nD) (q : PosShare TreeShare) :
    (iprop(own1 c (amxW amM (fwd 0 c)) q (amx m (fwd 0 c)) ∗ own1 c (amxW amM (fwd 1 c)) q (amx m (fwd 1 c)) ∗ own1 c (amxW amM (fwd 2 c)) q (amx m (fwd 2 c))
      ∗ own1 c (amxW amM (fwd 3 c)) q (amx m (fwd 3 c))) : sProp 𝕄) = own1 c (amxAll amM) q (amxA m) := by
  rw [← own1_amxAll, own1_tiles (s := S4x8x128) c amM (r := fun p : Fin 4 => Rect.unit (s := S4x8x128) ![p.val, 0, 0] S1x8x128.size (amx_inb p)) (fun _ _ => rfl) _ amx_key, bigSep_ring c]
  simp only [amxA_slot m]

/-! ## Shares -/

theorem own1_split (c : Dev nD) (M : Memref sig .tc sp s e) (q : PosShare TreeShare) (X : s.Idx → Elt F e) :
    (own1 c M q X : sProp 𝕄) ⊢ iprop(own1 c M q.left X ∗ own1 c M q.right X) := (ownsSat_share (c : Thread nD τ) M (· = X) (PosShare.mem_left_op_right q)).1

theorem own1_join (c : Dev nD) (M : Memref sig .tc sp s e) (q : PosShare TreeShare) (X : s.Idx → Elt F e) :
    (iprop(own1 c M q.left X ∗ own1 c M q.right X) : sProp 𝕄) ⊢ own1 c M q X := (ownsSat_share (c : Thread nD τ) M (· = X) (PosShare.mem_left_op_right q)).2

theorem fwd_zero (c : Dev nD) : fwd 0 c = c := by revert c; decide

end Cert.KernelIdeal.Run

end
-- ==== Proof.Places.lean ====
/-
# Where the program's offsets point, and small moves

The printed offsets in the ring's terms, and the regroupings the body makes between its steps.
-/
module

public import proofs.«01_k».proof.Proof.Windows

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)

variable {F : FTy → Type} [FloatOps F]

local notation "𝕄" => MT nD τ sig Unit (Elt F) ℕ UU ℕ

variable (m : (ℓ : Loc nD τ sig) → Buf (Elt F) ℓ)

/-! ## Where the program's offsets and semaphores point -/

theorem off3_at : ∀ (c : Dev nD) (r : Fin 4), k0_off3 c (BitVec.ofNat 32 r.val) = ![1024 * (fwd (3 - r.val) c).val, 0] := by
  intro c r; rw [k0_off3_eq]; revert c r; decide
theorem off4_at : ∀ (c : Dev nD) (r : Fin 4), k0_off4 c (BitVec.ofNat 32 r.val) = ![1024 * (fwd ((r.val + 1) % 4) c).val, 0] := by
  intro c r; rw [k0_off4_eq]; revert c r; decide
theorem off11_at : ∀ (c : Dev nD) (t : Fin 3), k0_off11 c (BitVec.ofNat 32 t.val) = ![1024 * (org 0 t.val c).val, 1024 * (0 : Fin 2).val] := by
  intro c r; rw [k0_off11_eq]; revert c r; decide
theorem off12_at : ∀ (c : Dev nD) (t : Fin 3), k0_off12 c (BitVec.ofNat 32 t.val) = ![1024 * (org 1 t.val c).val, 1024 * (1 : Fin 2).val] := by
  intro c r; rw [k0_off12_eq]; revert c r; decide

theorem sem_amR : ∀ c : Dev nD,
    SemLoc.dma ((cc0_scratch16.slice (Rect.unit (s := S4) (k0_off6 c) S1.size (k0_off6_inb c))).squeeze S_ squeezes_S1_S_).sem = csem (Cl.amR c).num := by
  decide +kernel
theorem sem_amR1 : ∀ c : Dev nD,
    SemLoc.dma ((cc0_scratch16.slice (Rect.unit (s := S4) (k0_off8 c 1#32) S1.size (k0_off8_inb c 0))).squeeze S_ squeezes_S1_S_).sem = csem (Cl.amR (fwd 1 c)).num := by
  decide +kernel
theorem sem_amR2 : ∀ c : Dev nD,
    SemLoc.dma ((cc0_scratch16.slice (Rect.unit (s := S4) (k0_off8 c 2#32) S1.size (k0_off8_inb c 1))).squeeze S_ squeezes_S1_S_).sem = csem (Cl.amR (fwd 2 c)).num := by
  decide +kernel
theorem sem_amR3 : ∀ c : Dev nD,
    SemLoc.dma ((cc0_scratch16.slice (Rect.unit (s := S4) (k0_off8 c 3#32) S1.size (k0_off8_inb c 2))).squeeze S_ squeezes_S1_S_).sem = csem (Cl.amR (fwd 3 c)).num := by
  decide +kernel

theorem nr_am1 : ∀ c : Dev nD, nr c (.amR (fwd 1 c)) = 1 := by decide
theorem nr_am2 : ∀ c : Dev nD, nr c (.amR (fwd 2 c)) = 1 := by decide
theorem nr_am3 : ∀ c : Dev nD, nr c (.amR (fwd 3 c)) = 1 := by decide
theorem nr_am0 : ∀ c : Dev nD, nr c (.amR c) ≤ 0 := by decide

/-! ## Small moves -/

variable {sp : Space} {s : Shape} {e : EltTy}

/-- Contents renamed. -/
theorem as1 {c : Dev nD} {M : Memref sig .tc sp s e} {q : PosShare TreeShare} {X Y : s.Idx → Elt F e} (h : X = Y) :
    (own1 c M q X : sProp 𝕄) ⊢ own1 c M q Y := by rw [h]

theorem table_all (c : Dev nD) (q : PosShare TreeShare) :
    (iprop(own1 c (amxW amM c) q (amx m c) ∗ own1 c (amxW amM (fwd 1 c)) q (amx m (fwd 1 c)) ∗ own1 c (amxW amM (fwd 2 c)) q (amx m (fwd 2 c))
      ∗ own1 c (amxW amM (fwd 3 c)) q (amx m (fwd 3 c))) : sProp 𝕄) = own1 c (amxAll amM) q (amxA m) := by
  have h := own1_amxA m c q
  rwa [fwd_zero] at h

theorem table_join (c : Dev nD) (q : PosShare TreeShare) :
    (own1 c (amxW amM c) q (amx m c) : sProp 𝕄) ⊢ iprop(own1 c (amxW amM (fwd 1 c)) q (amx m (fwd 1 c)) -∗ own1 c (amxW amM (fwd 2 c)) q (amx m (fwd 2 c))
      -∗ own1 c (amxW amM (fwd 3 c)) q (amx m (fwd 3 c)) -∗ own1 c (amxAll amM) q (amxA m)) :=
  curry4 (by rw [table_all])

theorem chunk_join (c : Dev nD) (q : PosShare TreeShare) :
    (own1 c (halfW qM 0) q (qv m c 0) : sProp 𝕄) ⊢ iprop(own1 c (halfW qM 1) q (qv m c 1) -∗ own1 c (fullW qM) q (qw m c)) :=
  curry2 (by rw [own1_qw])

theorem chunk_split (c : Dev nD) (q : PosShare TreeShare) :
    (own1 c (fullW qM) q (qw m c) : sProp 𝕄) ⊢ iprop(own1 c (halfW qM 0) q (qv m c 0) ∗ own1 c (halfW qM 1) q (qv m c 1)) := by
  rw [own1_qw]

/-- The shares of a device's own slot: one stays, one for each of three copies. -/
theorem own1_four (c : Dev nD) (M : Memref sig .tc sp s e) (X : s.Idx → Elt F e) :
    (own1 c M fullShare X : sProp 𝕄) ⊢ iprop(own1 c M fullShare.left X ∗ own1 c M (shA 0) X ∗ own1 c M (shA 1) X ∗ own1 c M (shA 2) X) := by
  iintro H
  ihave ⟨Ha, H⟩ := (own1_split c M fullShare X) $$ H
  ihave ⟨Hb, H⟩ := (own1_split c M fullShare.right X) $$ H
  ihave ⟨Hc, Hd⟩ := (own1_split c M fullShare.right.right X) $$ H
  isplitl [Ha]; · iexact Ha
  isplitl [Hb]; · iexact Hb
  isplitl [Hc]; · iexact Hc
  iexact Hd

theorem full_osM (c : Dev nD) (X : S1024x2048.Idx → Elt F .bf16) : (own1 c (fullW osM) fullShare X : sProp 𝕄) ⊢ own1 c osM fullShare X := by
  rw [← own1_full]

theorem osM_halves (c : Dev nD) (X : S1024x2048.Idx → Elt F .bf16) :
    (own1 c osM fullShare X : sProp 𝕄) ⊢ iprop(ownAny c (halfW osM 0) ∗ ownAny c (halfW osM 1)) := by
  rw [← any_halves]; exact own1_any c _ _

theorem rider_pay (c : Dev nD) : (ownAny (nxt c) (amxW amM (prv c)) : sProp 𝕄) ⊢ rider (tgt 1 c) 1 0 := by
  have h : opp (tgt 1 c) = nxt c := by revert c; decide
  have h' : tgt 1 c = prv c := by revert c; decide
  unfold rider
  rw [if_pos ⟨rfl, rfl⟩, h, h']

end Cert.KernelIdeal.Run

end
-- ==== Proof.BodyA.lean ====
/-
# The body, part by part: the rounding of the inputs and the first copies

Each lemma says what one part of the program takes and what it leaves.
-/
module

public import proofs.«01_k».proof.Proof.Places

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)

variable {F : FTy → Type} [FloatOps F]

local notation "𝕄" => MT nD τ sig Unit (Elt F) ℕ UU ℕ

variable (m : (ℓ : Loc nD τ sig) → Buf (Elt F) ℓ)

variable (K : Dev nD × Fin 30 → ℕ)

theorem bar_first (c : Dev nD) : (barPay c false : sProp 𝕄) ⊢ iprop((ownAny (tgt 0 c) (slot23 rrM 0 0) ∗ ownAny (tgt 0 c) (slot23 rrM 0 1) ∗ ownAny (tgt 0 c) (slot23 rrM 0 2))
      ∗ (ownAny (tgt 0 c) (slot23 agM 0 0) ∗ ownAny (tgt 0 c) (slot23 agM 0 1) ∗ ownAny (tgt 0 c) (slot23 agM 0 2))
      ∗ ownAny (nxt c) (amxW amM c) ∗ ownAny (nxt c) (amxW amM (prv c))) := BIBase.Entails.rfl
theorem bar_second (c : Dev nD) : (barPay c true : sProp 𝕄) ⊢ iprop((ownAny (tgt 1 c) (slot23 rrM 1 0) ∗ ownAny (tgt 1 c) (slot23 rrM 1 1) ∗ ownAny (tgt 1 c) (slot23 rrM 1 2))
      ∗ (ownAny (tgt 1 c) (slot23 agM 1 0) ∗ ownAny (tgt 1 c) (slot23 agM 1 1) ∗ ownAny (tgt 1 c) (slot23 agM 1 2))
      ∗ ownAny (prv c) (amxW amM c)) := BIBase.Entails.rfl

theorem part1 (c : Dev nD) (Q : _ → sProp 𝕄) :
    Ctx m K ⊢ iprop(Owe c (todo0 c) -∗
      dutyTok ER (cell (prv c) .bar) 0 false -∗
      barPay (prv c) false -∗
      dutyTok ER (cell (nxt c) .bar) 0 true -∗
      barPay (nxt c) true -∗
      (∀ (w2 w5 w7 w14 w16 w18 w20 : BitVec 32), (Owe c (todo2 c)) -∗ Q ⟨c, w2, w5, w7, SemArray.scalar (sig.barrier 0 (by decide)), w14, w16, w18, w20⟩)
      -∗ WP c (k0_part1 (F := F) xM (Memref.isWhole_whole _) wM (Memref.isWhole_whole _) oM (Memref.isWhole_whole _) xbM (Memref.isWhole_whole _) wbM (Memref.isWhole_whole _) stM (Memref.isWhole_whole _) acM (Memref.isWhole_whole _) osM (Memref.isWhole_whole _) srM (Memref.isWhole_whole _) rrM (Memref.isWhole_whole _) qM (Memref.isWhole_whole _) agM (Memref.isWhole_whole _) amM (Memref.isWhole_whole _) cc0_scratch10 cc0_scratch11 cc0_scratch12 cc0_scratch13 cc0_scratch14 cc0_scratch15 cc0_scratch16 cc0_scratch17 cc0_scratch18) Q) := by
  simp only [k0_part1_eq_skeleton]; unfold k0_part1_skel
  simp only [semSignalWord, semWaitWord, Prog.lift, Prog.bind_op, Prog.bind_ret, Prog.pure_eq_ret, wp_deviceId]
  iintro #HC HO Htb0 Hbp0 Htb1 Hbp1 Hk
  iapply (curry4 (step_signal m K c (n := prv c) (Fin.ext (k0_dev1_eq c)) false (todo1 c))) $$ HC HO Htb0 Hbp0
  iintro HO
  iapply (curry4 (step_signal m K c (n := nxt c) (Fin.ext (k0_dev2_eq c)) true (todo2 c))) $$ HC HO Htb1 Hbp1
  iintro HO
  iapply (done c)
  iapply Hk
  iexact HO

theorem part2 (c : Dev nD) (Q : _ → sProp 𝕄) :
    Ctx m K ⊢ iprop(own1 c (halfW wM 0) fullShare (wv m c 0) -∗
      ownAny c (stageW stM 0) -∗
      semVal ((c : Thread nD τ), SemLoc.dma 0) 0 -∗
      own1 c (halfW wM 1) fullShare (wv m c 1) -∗
      ownAny c (stageW stM 1) -∗
      semVal ((c : Thread nD τ), SemLoc.dma 1) 0 -∗
      Owe c (todo2 c) -∗
      ownAny c (halfW wbM 0) -∗
      own1 c (rowsW xM (fwd 3 c)) fullShare (xv m c (fwd 3 c)) -∗
      ((own1 c (halfW wM 0) fullShare (wv m c 0)
        ∗ Flight EC (c : Thread nD τ) (SemLoc.dma 0) () Nst iprop(own1 c (stageW stM 0) fullShare (lift3 (xv m c (fwd 3 c))) ∗ own1 c (rowsW xM (fwd 3 c)) fullShare (xv m c (fwd 3 c)))
        ∗ Flight EC (c : Thread nD τ) (SemLoc.dma 1) () Nst iprop(own1 c (stageW stM 1) fullShare (lift3 (wv m c 1)) ∗ own1 c (halfW wM 1) fullShare (wv m c 1))
        ∗ Owe c (todo2 c)
        ∗ own1 c (halfW wbM 0) fullShare (wb m c 0)) -∗ Q ⟨⟩)
      -∗ WP c (k0_part2 (F := F) xM (Memref.isWhole_whole _) wM (Memref.isWhole_whole _) oM (Memref.isWhole_whole _) xbM (Memref.isWhole_whole _) wbM (Memref.isWhole_whole _) stM (Memref.isWhole_whole _) acM (Memref.isWhole_whole _) osM (Memref.isWhole_whole _) srM (Memref.isWhole_whole _) rrM (Memref.isWhole_whole _) qM (Memref.isWhole_whole _) agM (Memref.isWhole_whole _) amM (Memref.isWhole_whole _) cc0_scratch10 cc0_scratch11 cc0_scratch12 cc0_scratch13 cc0_scratch14 cc0_scratch15 cc0_scratch16 cc0_scratch17 cc0_scratch18 c) Q) := by
  simp only [k0_part2_eq_skeleton]; unfold k0_part2_skel
  simp only [semSignalWord, semWaitWord, Prog.lift, Prog.bind_op, Prog.bind_ret, Prog.pure_eq_ret]
  iintro #HC Hw0 Hst0 Hz0 Hw1 Hst1 Hz1 HO Hwb0 Hx3 Hk
  iapply (curry3 (step_w m c 0 0)) $$ Hw0 Hst0 Hz0
  iintro Hf0
  iapply (curry3 (step_w m c 1 1)) $$ Hw1 Hst1 Hz1
  iintro Hf1
  iapply (curry3 (step_local m K c rfl (units_st 0) _ (todo2 c) rfl)) $$ HC Hf0 HO
  iintro ⟨⟨Hst0, Hw0⟩, Hz0, HO⟩
  iapply (step_load c rfl) $$ Hst0
  iintro Hst0
  iapply (step_put c rfl) $$ Hwb0
  iintro Hwb0
  ihave Hwb0 := (as1 (Y := wb m c 0) rfl) $$ Hwb0
  ihave Hst0 := (own1_any c _ _) $$ Hst0
  iapply (curry3 (step_x m c 0 (fwd 3 c) (k0_off1_eq c 3))) $$ Hx3 Hst0 Hz0
  iintro Hf0
  iapply (done c (a := PUnit.unit))
  iapply Hk
  isplitl [Hw0]; · iexact Hw0
  isplitl [Hf0]; · iexact Hf0
  isplitl [Hf1]; · iexact Hf1
  isplitl [HO]; · iexact HO
  iexact Hwb0

theorem part3 (c : Dev nD) (w14 : BitVec 32) (Q : _ → sProp 𝕄) :
    Ctx m K ⊢ iprop(Flight EC (c : Thread nD τ) (SemLoc.dma 1) () Nst iprop(own1 c (stageW stM 1) fullShare (lift3 (wv m c 1)) ∗ own1 c (halfW wM 1) fullShare (wv m c 1)) -∗
      Owe c (todo2 c) -∗
      ownAny c (halfW wbM 1) -∗
      own1 c (rowsW xM (fwd 1 c)) fullShare (xv m c (fwd 1 c)) -∗
      Flight EC (c : Thread nD τ) (SemLoc.dma 0) () Nst iprop(own1 c (stageW stM 0) fullShare (lift3 (xv m c (fwd 3 c))) ∗ own1 c (rowsW xM (fwd 3 c)) fullShare (xv m c (fwd 3 c))) -∗
      ownAny c (rowsW xbM (fwd 3 c)) -∗
      ((Flight EC (c : Thread nD τ) (SemLoc.dma 1) () Nst iprop(own1 c (stageW stM 1) fullShare (lift3 (xv m c (fwd 1 c))) ∗ own1 c (rowsW xM (fwd 1 c)) fullShare (xv m c (fwd 1 c)))
        ∗ Owe c (todo2 c)
        ∗ own1 c (halfW wM 1) fullShare (wv m c 1)
        ∗ own1 c (halfW wbM 1) fullShare (wb m c 1)
        ∗ own1 c (stageW stM 0) fullShare (lift3 (xv m c (fwd 3 c)))
        ∗ own1 c (rowsW xM (fwd 3 c)) fullShare (xv m c (fwd 3 c))
        ∗ semVal ((c : Thread nD τ), SemLoc.dma 0) 0
        ∗ own1 c (rowsW xbM (fwd 3 c)) fullShare (xb m c (fwd 3 c))) -∗ Q ⟨⟩)
      -∗ WP c (k0_part3 (F := F) xM (Memref.isWhole_whole _) wM (Memref.isWhole_whole _) oM (Memref.isWhole_whole _) xbM (Memref.isWhole_whole _) wbM (Memref.isWhole_whole _) stM (Memref.isWhole_whole _) acM (Memref.isWhole_whole _) osM (Memref.isWhole_whole _) srM (Memref.isWhole_whole _) rrM (Memref.isWhole_whole _) qM (Memref.isWhole_whole _) agM (Memref.isWhole_whole _) amM (Memref.isWhole_whole _) cc0_scratch10 cc0_scratch11 cc0_scratch12 cc0_scratch13 cc0_scratch14 cc0_scratch15 cc0_scratch16 cc0_scratch17 cc0_scratch18 c w14) Q) := by
  simp only [k0_part3_eq_skeleton]; unfold k0_part3_skel
  simp only [semSignalWord, semWaitWord, Prog.lift, Prog.bind_op, Prog.bind_ret, Prog.pure_eq_ret]
  iintro #HC Hf1 HO Hwb1 Hx1 Hf0 Hxb3 Hk
  iapply (curry3 (step_local m K c rfl (units_st 1) _ (todo2 c) rfl)) $$ HC Hf1 HO
  iintro ⟨⟨Hst1, Hw1⟩, Hz1, HO⟩
  iapply (step_load c rfl) $$ Hst1
  iintro Hst1
  iapply (step_put c rfl) $$ Hwb1
  iintro Hwb1
  ihave Hwb1 := (as1 (Y := wb m c 1) rfl) $$ Hwb1
  ihave Hst1 := (own1_any c _ _) $$ Hst1
  iapply (curry3 (step_x m c 1 (fwd 1 c) (k0_off1_eq c 1))) $$ Hx1 Hst1 Hz1
  iintro Hf1
  iapply (curry3 (step_local m K c rfl (units_st 0) _ (todo2 c) rfl)) $$ HC Hf0 HO
  iintro ⟨⟨Hst0, Hx3⟩, Hz0, HO⟩
  iapply (step_load c rfl) $$ Hst0
  iintro Hst0
  iapply (step_put c (off := ![1024 * (fwd 3 c).val, 0]) (k0_off2_eq c 3)) $$ Hxb3
  iintro Hxb3
  ihave Hxb3 := (as1 (Y := xb m c (fwd 3 c)) rfl) $$ Hxb3
  iapply (done c (a := PUnit.unit))
  iapply Hk
  isplitl [Hf1]; · iexact Hf1
  isplitl [HO]; · iexact HO
  isplitl [Hw1]; · iexact Hw1
  isplitl [Hwb1]; · iexact Hwb1
  isplitl [Hst0]; · iexact Hst0
  isplitl [Hx3]; · iexact Hx3
  isplitl [Hz0]; · iexact Hz0
  iexact Hxb3

theorem part4 (c : Dev nD) (w2 w16 : BitVec 32) (Q : _ → sProp 𝕄) :
    Ctx m K ⊢ iprop(own1 c (rowsW xM (fwd 2 c)) fullShare (xv m c (fwd 2 c)) -∗
      own1 c (stageW stM 0) fullShare (lift3 (xv m c (fwd 3 c))) -∗
      semVal ((c : Thread nD τ), SemLoc.dma 0) 0 -∗
      Flight EC (c : Thread nD τ) (SemLoc.dma 1) () Nst iprop(own1 c (stageW stM 1) fullShare (lift3 (xv m c (fwd 1 c))) ∗ own1 c (rowsW xM (fwd 1 c)) fullShare (xv m c (fwd 1 c))) -∗
      Owe c (todo2 c) -∗
      ownAny c (rowsW xbM (fwd 1 c)) -∗
      own1 c (rowsW xM (fwd 0 c)) fullShare (xv m c (fwd 0 c)) -∗
      cred (tallyAt (cell c .bar) () 2) -∗
      atPos ER (cell c .bar) 0 ∅ 0 -∗
      own1 c (rowsW xbM (fwd 3 c)) fullShare (xb m c (fwd 3 c)) -∗
      own1 c (halfW wbM 0) fullShare (wb m c 0) -∗
      ((Flight EC (c : Thread nD τ) (SemLoc.dma 0) () Nst iprop(own1 c (stageW stM 0) fullShare (lift3 (xv m c (fwd 2 c))) ∗ own1 c (rowsW xM (fwd 2 c)) fullShare (xv m c (fwd 2 c)))
        ∗ Flight EC (c : Thread nD τ) (SemLoc.dma 1) () Nst iprop(own1 c (stageW stM 1) fullShare (lift3 (xv m c (fwd 0 c))) ∗ own1 c (rowsW xM (fwd 0 c)) fullShare (xv m c (fwd 0 c)))
        ∗ Owe c (todo2 c)
        ∗ own1 c (rowsW xM (fwd 1 c)) fullShare (xv m c (fwd 1 c))
        ∗ own1 c (rowsW xbM (fwd 1 c)) fullShare (xb m c (fwd 1 c))
        ∗ semVal (cell c .bar) 0
        ∗ ownAny (tgt 0 c) (slot23 rrM 0 0)
        ∗ ownAny (tgt 0 c) (slot23 agM 0 0)
        ∗ ownAny (tgt 0 c) (slot23 rrM 0 1)
        ∗ ownAny (tgt 0 c) (slot23 agM 0 1)
        ∗ ownAny (tgt 0 c) (slot23 rrM 0 2)
        ∗ ownAny (tgt 0 c) (slot23 agM 0 2)
        ∗ ownAny (tgt 1 c) (slot23 rrM 1 0)
        ∗ ownAny (tgt 1 c) (slot23 agM 1 0)
        ∗ ownAny (tgt 1 c) (slot23 rrM 1 1)
        ∗ ownAny (tgt 1 c) (slot23 agM 1 1)
        ∗ ownAny (tgt 1 c) (slot23 rrM 1 2)
        ∗ ownAny (tgt 1 c) (slot23 agM 1 2)
        ∗ ownAny (fwd 1 c) (amxW amM c)
        ∗ ownAny (nxt c) (amxW amM (prv c))
        ∗ ownAny (fwd 3 c) (amxW amM c)
        ∗ own1 c (rowsW xbM (fwd 3 c)) fullShare (xb m c (fwd 3 c))
        ∗ own1 c (halfW wbM 0) fullShare (wb m c 0)) -∗ Q (prod m c (fwd 3 c) 0))
      -∗ WP c (k0_part4 (F := F) xM (Memref.isWhole_whole _) wM (Memref.isWhole_whole _) oM (Memref.isWhole_whole _) xbM (Memref.isWhole_whole _) wbM (Memref.isWhole_whole _) stM (Memref.isWhole_whole _) acM (Memref.isWhole_whole _) osM (Memref.isWhole_whole _) srM (Memref.isWhole_whole _) rrM (Memref.isWhole_whole _) qM (Memref.isWhole_whole _) agM (Memref.isWhole_whole _) amM (Memref.isWhole_whole _) cc0_scratch10 cc0_scratch11 cc0_scratch12 cc0_scratch13 cc0_scratch14 cc0_scratch15 cc0_scratch16 cc0_scratch17 cc0_scratch18 c w2 (SemArray.scalar (sig.barrier 0 (by decide))) w16) Q) := by
  simp only [k0_part4_eq_skeleton]; unfold k0_part4_skel
  simp only [semSignalWord, semWaitWord, Prog.lift, Prog.bind_op, Prog.bind_ret, Prog.pure_eq_ret]
  iintro #HC Hx2 Hst0 Hz0 Hf1 HO Hxb1 Hx0 Hcb Hab Hxb3 Hwb0 Hk
  ihave Hst0 := (own1_any c _ _) $$ Hst0
  iapply (curry3 (step_x m c 0 (fwd 2 c) (k0_off1_eq c 2))) $$ Hx2 Hst0 Hz0
  iintro Hf0
  iapply (curry3 (step_local m K c rfl (units_st 1) _ (todo2 c) rfl)) $$ HC Hf1 HO
  iintro ⟨⟨Hst1, Hx1⟩, Hz1, HO⟩
  iapply (step_load c rfl) $$ Hst1
  iintro Hst1
  iapply (step_put c (off := ![1024 * (fwd 1 c).val, 0]) (k0_off2_eq c 1)) $$ Hxb1
  iintro Hxb1
  ihave Hxb1 := (as1 (Y := xb m c (fwd 1 c)) rfl) $$ Hxb1
  ihave Hst1 := (own1_any c _ _) $$ Hst1
  iapply (curry3 (step_x m c 1 (fwd 0 c) (k0_off1_eq c 0))) $$ Hx0 Hst1 Hz1
  iintro Hf1
  iapply (curry4 (step_bar m K c (todo2 c) rfl)) $$ HC Hcb HO Hab
  iintro ⟨HO, Hb0, Hb1, Hzb⟩
  ihave ⟨⟨Hpr00, Hpr01, Hpr02⟩, ⟨Hpg00, Hpg01, Hpg02⟩, Hpn, Hpm2⟩ := (bar_first c) $$ Hb0
  ihave ⟨⟨Hpr10, Hpr11, Hpr12⟩, ⟨Hpg10, Hpg11, Hpg12⟩, Hpp⟩ := (bar_second c) $$ Hb1
  iapply (step_load c (off := ![1024 * (fwd 3 c).val, 0]) (off3_at c 0)) $$ Hxb3
  iintro Hxb3
  iapply (step_load c rfl) $$ Hwb0
  iintro Hwb0
  iapply (show (Q (prod m c (fwd 3 c) 0) : sProp 𝕄) ⊢ WP c (.ret (prod m c (fwd 3 c) 0)) Q from done c)
  iapply Hk
  isplitl [Hf0]; · iexact Hf0
  isplitl [Hf1]; · iexact Hf1
  isplitl [HO]; · iexact HO
  isplitl [Hx1]; · iexact Hx1
  isplitl [Hxb1]; · iexact Hxb1
  isplitl [Hzb]; · iexact Hzb
  isplitl [Hpr00]; · iexact Hpr00
  isplitl [Hpg00]; · iexact Hpg00
  isplitl [Hpr01]; · iexact Hpr01
  isplitl [Hpg01]; · iexact Hpg01
  isplitl [Hpr02]; · iexact Hpr02
  isplitl [Hpg02]; · iexact Hpg02
  isplitl [Hpr10]; · iexact Hpr10
  isplitl [Hpg10]; · iexact Hpg10
  isplitl [Hpr11]; · iexact Hpr11
  isplitl [Hpg11]; · iexact Hpg11
  isplitl [Hpr12]; · iexact Hpr12
  isplitl [Hpg12]; · iexact Hpg12
  isplitl [Hpn]; · iexact Hpn
  isplitl [Hpm2]; · iexact Hpm2
  isplitl [Hpp]; · iexact Hpp
  isplitl [Hxb3]; · iexact Hxb3
  iexact Hwb0

theorem part5 (c : Dev nD) (w2 w7 : BitVec 32) (Q : _ → sProp 𝕄) :
    Ctx m K ⊢ iprop(own1 c (rowsW xbM (fwd 1 c)) fullShare (xb m c (fwd 1 c)) -∗
      own1 c (halfW wbM 1) fullShare (wb m c 1) -∗
      ownAny c (slot22 srM 0 0) -∗
      ownAny (tgt 0 c) (slot23 rrM 0 0) -∗
      Owe c (todo2 c) -∗
      dutyTok ER (cell c (.rsS 0 0)) 0 false -∗
      dutyTok ER (cell (tgt 0 c) (.rsR 0 0)) 0 false -∗
      ownAny c (slot22 srM 1 0) -∗
      ((own1 c (rowsW xbM (fwd 1 c)) fullShare (xb m c (fwd 1 c))
        ∗ own1 c (halfW wbM 1) fullShare (wb m c 1)
        ∗ Owe c (todo3 c)
        ∗ cred (tallyAt (cell c (.rsS 0 0)) () (amt (.rsS 0 0)))
        ∗ own1 c (slot22 srM 1 0) fullShare (sV m 1 ((0 : Fin 3) : ℕ) c)) -∗ Q ⟨⟩)
      -∗ WP c (k0_part5 (F := F) xM (Memref.isWhole_whole _) wM (Memref.isWhole_whole _) oM (Memref.isWhole_whole _) xbM (Memref.isWhole_whole _) wbM (Memref.isWhole_whole _) stM (Memref.isWhole_whole _) acM (Memref.isWhole_whole _) osM (Memref.isWhole_whole _) srM (Memref.isWhole_whole _) rrM (Memref.isWhole_whole _) qM (Memref.isWhole_whole _) agM (Memref.isWhole_whole _) amM (Memref.isWhole_whole _) cc0_scratch10 cc0_scratch11 cc0_scratch12 cc0_scratch13 cc0_scratch14 cc0_scratch15 cc0_scratch16 cc0_scratch17 cc0_scratch18 c w2 w7 (prod m c (fwd 3 c) 0)) Q) := by
  simp only [k0_part5_eq_skeleton]; unfold k0_part5_skel
  simp only [semSignalWord, semWaitWord, Prog.lift, Prog.bind_op, Prog.bind_ret, Prog.pure_eq_ret]
  iintro #HC Hxb1 Hwb1 Hsr00 Hpr00 HO Hts00 Htr00 Hsr10 Hk
  iapply (step_load c (off := ![1024 * (fwd 1 c).val, 0]) (off4_at c 0)) $$ Hxb1
  iintro Hxb1
  iapply (step_load c rfl) $$ Hwb1
  iintro Hwb1
  iapply (step_put c rfl) $$ Hsr00
  iintro Hsr00
  ihave Hsr00 := (as1 (Y := sV m 0 ((0 : Fin 3) : ℕ) c) rfl) $$ Hsr00
  ihave #Hre := (Ctx_reached m K c (.rsS 0 0)) $$ HC
  iapply (curry7 (step_rs0 m K c 0 0 0 (by decide) (Fin.ext (k0_dev3_eq c)) rfl rfl 0 (show (0 : ℕ) < 2 by decide) (todo3 c))) $$ HC Hre Hsr00 Hpr00 HO Hts00 Htr00
  iintro ⟨Hcs00, HO⟩
  iapply (step_put c rfl) $$ Hsr10
  iintro Hsr10
  ihave Hsr10 := (as1 (Y := sV m 1 ((0 : Fin 3) : ℕ) c) rfl) $$ Hsr10
  iapply (done c (a := PUnit.unit))
  iapply Hk
  isplitl [Hxb1]; · iexact Hxb1
  isplitl [Hwb1]; · iexact Hwb1
  isplitl [HO]; · iexact HO
  isplitl [Hcs00]; · iexact Hcs00
  iexact Hsr10

theorem part6 (c : Dev nD) (w2 w5 w18 : BitVec 32) (Q : _ → sProp 𝕄) :
    Ctx m K ⊢ iprop(own1 c (slot22 srM 1 0) fullShare (sV m 1 ((0 : Fin 3) : ℕ) c) -∗
      ownAny (tgt 1 c) (slot23 rrM 1 0) -∗
      Owe c (todo3 c) -∗
      dutyTok ER (cell c (.rsS 1 0)) 0 false -∗
      dutyTok ER (cell (tgt 1 c) (.rsR 1 0)) 0 false -∗
      ownAny (nxt c) (amxW amM (prv c)) -∗
      Flight EC (c : Thread nD τ) (SemLoc.dma 0) () Nst iprop(own1 c (stageW stM 0) fullShare (lift3 (xv m c (fwd 2 c))) ∗ own1 c (rowsW xM (fwd 2 c)) fullShare (xv m c (fwd 2 c))) -∗
      ownAny c (rowsW xbM (fwd 2 c)) -∗
      ((Owe c (todo4 c)
        ∗ cred (tallyAt (cell c (.rsS 1 0)) () (amt (.rsS 1 0)))
        ∗ own1 c (stageW stM 0) fullShare (lift3 (xv m c (fwd 2 c)))
        ∗ own1 c (rowsW xM (fwd 2 c)) fullShare (xv m c (fwd 2 c))
        ∗ semVal ((c : Thread nD τ), SemLoc.dma 0) 0
        ∗ own1 c (rowsW xbM (fwd 2 c)) fullShare (xb m c (fwd 2 c))) -∗ Q ⟨⟩)
      -∗ WP c (k0_part6 (F := F) xM (Memref.isWhole_whole _) wM (Memref.isWhole_whole _) oM (Memref.isWhole_whole _) xbM (Memref.isWhole_whole _) wbM (Memref.isWhole_whole _) stM (Memref.isWhole_whole _) acM (Memref.isWhole_whole _) osM (Memref.isWhole_whole _) srM (Memref.isWhole_whole _) rrM (Memref.isWhole_whole _) qM (Memref.isWhole_whole _) agM (Memref.isWhole_whole _) amM (Memref.isWhole_whole _) cc0_scratch10 cc0_scratch11 cc0_scratch12 cc0_scratch13 cc0_scratch14 cc0_scratch15 cc0_scratch16 cc0_scratch17 cc0_scratch18 c w2 w5 w18) Q) := by
  simp only [k0_part6_eq_skeleton]; unfold k0_part6_skel
  simp only [semSignalWord, semWaitWord, Prog.lift, Prog.bind_op, Prog.bind_ret, Prog.pure_eq_ret]
  iintro #HC Hsr10 Hpr10 HO Hts10 Htr10 Hpm2 Hf0 Hxb2 Hk
  ihave #Hre := (Ctx_reached m K c (.rsS 1 0)) $$ HC
  ihave Hpm2 := (rider_pay c) $$ Hpm2
  iapply (curry8 (step_rs m K c 1 0 0 (Fin.ext (k0_dev4_eq c)) rfl rfl 0 (show (0 : ℕ) < 2 by decide) (todo4 c))) $$ HC Hre Hsr10 Hpr10 Hpm2 HO Hts10 Htr10
  iintro ⟨Hcs10, HO⟩
  iapply (curry3 (step_local m K c rfl (units_st 0) _ (todo4 c) rfl)) $$ HC Hf0 HO
  iintro ⟨⟨Hst0, Hx2⟩, Hz0, HO⟩
  iapply (step_load c rfl) $$ Hst0
  iintro Hst0
  iapply (step_put c (off := ![1024 * (fwd 2 c).val, 0]) (k0_off2_eq c 2)) $$ Hxb2
  iintro Hxb2
  ihave Hxb2 := (as1 (Y := xb m c (fwd 2 c)) rfl) $$ Hxb2
  iapply (done c (a := PUnit.unit))
  iapply Hk
  isplitl [HO]; · iexact HO
  isplitl [Hcs10]; · iexact Hcs10
  isplitl [Hst0]; · iexact Hst0
  isplitl [Hx2]; · iexact Hx2
  isplitl [Hz0]; · iexact Hz0
  iexact Hxb2

end Cert.KernelIdeal.Run

end
-- ==== Proof.BodyB.lean ====
/-
# The body, part by part: the reduce-scatter

Each lemma says what one part of the program takes and what it leaves.
-/
module

public import proofs.«01_k».proof.Proof.Places

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)

variable {F : FTy → Type} [FloatOps F]

local notation "𝕄" => MT nD τ sig Unit (Elt F) ℕ UU ℕ

variable (m : (ℓ : Loc nD τ sig) → Buf (Elt F) ℓ)

variable (K : Dev nD × Fin 30 → ℕ)

theorem part7 (c : Dev nD) (w2 w5 w7 : BitVec 32) (Q : _ → sProp 𝕄) :
    Ctx m K ⊢ iprop(own1 c (rowsW xbM (fwd 2 c)) fullShare (xb m c (fwd 2 c)) -∗
      own1 c (halfW wbM 0) fullShare (wb m c 0) -∗
      own1 c (halfW wbM 1) fullShare (wb m c 1) -∗
      cred (tallyAt (cell c (.rsR 0 0)) () (amt (.rsR 0 0))) -∗
      atPos ER (cell c (.rsR 0 0)) 0 ∅ 0 -∗
      Owe c (todo4 c) -∗
      ((own1 c (rowsW xbM (fwd 2 c)) fullShare (xb m c (fwd 2 c))
        ∗ own1 c (halfW wbM 0) fullShare (wb m c 0)
        ∗ own1 c (halfW wbM 1) fullShare (wb m c 1)
        ∗ Owe c (todo4 c)
        ∗ own1 c (slot23 rrM 0 0) fullShare (sV m 0 0 (src 0 c))
        ∗ semVal (cell c (.rsR 0 0)) 0) -∗ Q ⟨prod m c (fwd 2 c) 0, prod m c (fwd 2 c) 1⟩)
      -∗ WP c (k0_part7 (F := F) xM (Memref.isWhole_whole _) wM (Memref.isWhole_whole _) oM (Memref.isWhole_whole _) xbM (Memref.isWhole_whole _) wbM (Memref.isWhole_whole _) stM (Memref.isWhole_whole _) acM (Memref.isWhole_whole _) osM (Memref.isWhole_whole _) srM (Memref.isWhole_whole _) rrM (Memref.isWhole_whole _) qM (Memref.isWhole_whole _) agM (Memref.isWhole_whole _) amM (Memref.isWhole_whole _) cc0_scratch10 cc0_scratch11 cc0_scratch12 cc0_scratch13 cc0_scratch14 cc0_scratch15 cc0_scratch16 cc0_scratch17 cc0_scratch18 c w2 w5 w7) Q) := by
  simp only [k0_part7_eq_skeleton]; unfold k0_part7_skel
  simp only [semSignalWord, semWaitWord, Prog.lift, Prog.bind_op, Prog.bind_ret, Prog.pure_eq_ret]
  iintro #HC Hxb2 Hwb0 Hwb1 Hcr00 Har00 HO Hk
  iapply (step_load c (off := ![1024 * (fwd 2 c).val, 0]) (off3_at c 1)) $$ Hxb2
  iintro Hxb2
  iapply (step_load c rfl) $$ Hwb0
  iintro Hwb0
  iapply (step_load c (off := ![1024 * (fwd 2 c).val, 0]) (off4_at c 1)) $$ Hxb2
  iintro Hxb2
  iapply (step_load c rfl) $$ Hwb1
  iintro Hwb1
  iapply (curry4 (step_wait m K c (.rsR 0 0) (fun h => nomatch h) rfl 0 rfl (units_rr 0 0) (todo4 c) rfl (got_rsR m c 0 0 (by decide)))) $$ HC Hcr00 HO Har00
  iintro ⟨HO, Hrr00, Hzr00⟩
  iapply (show (Q ⟨prod m c (fwd 2 c) 0, prod m c (fwd 2 c) 1⟩ : sProp 𝕄) ⊢ WP c (.ret ⟨prod m c (fwd 2 c) 0, prod m c (fwd 2 c) 1⟩) Q from done c)
  iapply Hk
  isplitl [Hxb2]; · iexact Hxb2
  isplitl [Hwb0]; · iexact Hwb0
  isplitl [Hwb1]; · iexact Hwb1
  isplitl [HO]; · iexact HO
  isplitl [Hrr00]; · iexact Hrr00
  iexact Hzr00

theorem part8 (c : Dev nD) (w7 : BitVec 32) (Q : _ → sProp 𝕄) :
    Ctx m K ⊢ iprop(cred (tallyAt (cell c (.rsR 1 0)) () (amt (.rsR 1 0))) -∗
      atPos ER (cell c (.rsR 1 0)) 0 ∅ 0 -∗
      Owe c (todo4 c) -∗
      own1 c (slot23 rrM 0 0) fullShare (sV m 0 0 (src 0 c)) -∗
      ownAny c (slot22 srM 0 1) -∗
      ownAny (tgt 0 c) (slot23 rrM 0 1) -∗
      dutyTok ER (cell c (.rsS 0 1)) 0 false -∗
      dutyTok ER (cell (tgt 0 c) (.rsR 0 1)) 0 false -∗
      ((Owe c (todo5 c)
        ∗ own1 c (slot23 rrM 1 0) fullShare (sV m 1 0 (src 1 c))
        ∗ ownAny (opp c) (amxW amM c)
        ∗ semVal (cell c (.rsR 1 0)) 0
        ∗ own1 c (slot23 rrM 0 0) fullShare (sV m 0 0 (src 0 c))
        ∗ cred (tallyAt (cell c (.rsS 0 1)) () (amt (.rsS 0 1)))) -∗ Q (k0_pay12 (prod m c (fwd 2 c) 1) (sV m 1 0 (src 1 c))))
      -∗ WP c (k0_part8 (F := F) xM (Memref.isWhole_whole _) wM (Memref.isWhole_whole _) oM (Memref.isWhole_whole _) xbM (Memref.isWhole_whole _) wbM (Memref.isWhole_whole _) stM (Memref.isWhole_whole _) acM (Memref.isWhole_whole _) osM (Memref.isWhole_whole _) srM (Memref.isWhole_whole _) rrM (Memref.isWhole_whole _) qM (Memref.isWhole_whole _) agM (Memref.isWhole_whole _) amM (Memref.isWhole_whole _) cc0_scratch10 cc0_scratch11 cc0_scratch12 cc0_scratch13 cc0_scratch14 cc0_scratch15 cc0_scratch16 cc0_scratch17 cc0_scratch18 c w7 (prod m c (fwd 2 c) 0) (prod m c (fwd 2 c) 1)) Q) := by
  simp only [k0_part8_eq_skeleton]; unfold k0_part8_skel
  simp only [semSignalWord, semWaitWord, Prog.lift, Prog.bind_op, Prog.bind_ret, Prog.pure_eq_ret]
  iintro #HC Hcr10 Har10 HO Hrr00 Hsr01 Hpr01 Hts01 Htr01 Hk
  iapply (curry4 (step_wait m K c (.rsR 1 0) (fun h => nomatch h) rfl 0 rfl (units_rr 1 0) (todo4 c) rfl (got_rsR_am m c))) $$ HC Hcr10 HO Har10
  iintro ⟨HO, ⟨Hrr10, Hpo⟩, Hzr10⟩
  iapply (step_load c rfl) $$ Hrr00
  iintro Hrr00
  iapply (step_put c rfl) $$ Hsr01
  iintro Hsr01
  ihave Hsr01 := (as1 (Y := sV m 0 ((1 : Fin 3) : ℕ) c) rfl) $$ Hsr01
  ihave #Hre := (Ctx_reached m K c (.rsS 0 1)) $$ HC
  iapply (curry7 (step_rs0 m K c 0 1 1 (by decide) (Fin.ext (k0_dev5_eq c)) rfl rfl 0 (show (0 : ℕ) < 1 by decide) (todo5 c))) $$ HC Hre Hsr01 Hpr01 HO Hts01 Htr01
  iintro ⟨Hcs01, HO⟩
  iapply (step_load c rfl) $$ Hrr10
  iintro Hrr10
  iapply (show (Q (k0_pay12 (prod m c (fwd 2 c) 1) (sV m 1 0 (src 1 c))) : sProp 𝕄) ⊢ WP c (.ret (k0_pay12 (prod m c (fwd 2 c) 1) (sV m 1 0 (src 1 c)))) Q from done c)
  iapply Hk
  isplitl [HO]; · iexact HO
  isplitl [Hrr10]; · iexact Hrr10
  isplitl [Hpo]; · iexact Hpo
  isplitl [Hzr10]; · iexact Hzr10
  isplitl [Hrr00]; · iexact Hrr00
  iexact Hcs01

theorem part9 (c : Dev nD) (w2 w5 w20 : BitVec 32) (Q : _ → sProp 𝕄) :
    Ctx m K ⊢ iprop(ownAny c (slot22 srM 1 1) -∗
      ownAny (tgt 1 c) (slot23 rrM 1 1) -∗
      Owe c (todo5 c) -∗
      dutyTok ER (cell c (.rsS 1 1)) 0 false -∗
      dutyTok ER (cell (tgt 1 c) (.rsR 1 1)) 0 false -∗
      Flight EC (c : Thread nD τ) (SemLoc.dma 1) () Nst iprop(own1 c (stageW stM 1) fullShare (lift3 (xv m c (fwd 0 c))) ∗ own1 c (rowsW xM (fwd 0 c)) fullShare (xv m c (fwd 0 c))) -∗
      ownAny c (rowsW xbM (fwd 0 c)) -∗
      (∀ (w : BitVec 32), (Owe c (todo6 c)
        ∗ cred (tallyAt (cell c (.rsS 1 1)) () (amt (.rsS 1 1)))
        ∗ own1 c (stageW stM 1) fullShare (lift3 (xv m c (fwd 0 c)))
        ∗ own1 c (rowsW xM (fwd 0 c)) fullShare (xv m c (fwd 0 c))
        ∗ semVal ((c : Thread nD τ), SemLoc.dma 1) 0
        ∗ own1 c (rowsW xbM (fwd 0 c)) fullShare (xb m c (fwd 0 c))) -∗ Q w)
      -∗ WP c (k0_part9 (F := F) xM (Memref.isWhole_whole _) wM (Memref.isWhole_whole _) oM (Memref.isWhole_whole _) xbM (Memref.isWhole_whole _) wbM (Memref.isWhole_whole _) stM (Memref.isWhole_whole _) acM (Memref.isWhole_whole _) osM (Memref.isWhole_whole _) srM (Memref.isWhole_whole _) rrM (Memref.isWhole_whole _) qM (Memref.isWhole_whole _) agM (Memref.isWhole_whole _) amM (Memref.isWhole_whole _) cc0_scratch10 cc0_scratch11 cc0_scratch12 cc0_scratch13 cc0_scratch14 cc0_scratch15 cc0_scratch16 cc0_scratch17 cc0_scratch18 c w2 w5 w20 (k0_pay12 (prod m c (fwd 2 c) 1) (sV m 1 0 (src 1 c)))) Q) := by
  simp only [k0_part9_eq_skeleton]; unfold k0_part9_skel
  simp only [semSignalWord, semWaitWord, Prog.lift, Prog.bind_op, Prog.bind_ret, Prog.pure_eq_ret]
  iintro #HC Hsr11 Hpr11 HO Hts11 Htr11 Hf1 Hxb0 Hk
  iapply (step_put c rfl) $$ Hsr11
  iintro Hsr11
  ihave Hsr11 := (as1 (Y := sV m 1 ((1 : Fin 3) : ℕ) c) rfl) $$ Hsr11
  ihave #Hre := (Ctx_reached m K c (.rsS 1 1)) $$ HC
  iapply (curry7 (step_rs0 m K c 1 1 1 (by decide) (Fin.ext (k0_dev6_eq c)) rfl rfl 0 (show (0 : ℕ) < 1 by decide) (todo6 c))) $$ HC Hre Hsr11 Hpr11 HO Hts11 Htr11
  iintro ⟨Hcs11, HO⟩
  iapply (curry3 (step_local m K c rfl (units_st 1) _ (todo6 c) rfl)) $$ HC Hf1 HO
  iintro ⟨⟨Hst1, Hx0⟩, Hz1, HO⟩
  iapply (step_load c rfl) $$ Hst1
  iintro Hst1
  iapply (step_put c (off := ![1024 * (fwd 0 c).val, 0]) (k0_off2_eq c 0)) $$ Hxb0
  iintro Hxb0
  ihave Hxb0 := (as1 (Y := xb m c (fwd 0 c)) rfl) $$ Hxb0
  iapply (done c)
  iapply Hk
  isplitl [HO]; · iexact HO
  isplitl [Hcs11]; · iexact Hcs11
  isplitl [Hst1]; · iexact Hst1
  isplitl [Hx0]; · iexact Hx0
  isplitl [Hz1]; · iexact Hz1
  iexact Hxb0

theorem part10 (c : Dev nD) (w2 w7 w243 : BitVec 32) (Q : _ → sProp 𝕄) :
    Ctx m K ⊢ iprop(own1 c (rowsW xbM (fwd 1 c)) fullShare (xb m c (fwd 1 c)) -∗
      own1 c (halfW wbM 0) fullShare (wb m c 0) -∗
      own1 c (rowsW xbM (fwd 3 c)) fullShare (xb m c (fwd 3 c)) -∗
      own1 c (halfW wbM 1) fullShare (wb m c 1) -∗
      cred (tallyAt (cell c (.rsR 0 1)) () (amt (.rsR 0 1))) -∗
      atPos ER (cell c (.rsR 0 1)) 0 ∅ 0 -∗
      Owe c (todo6 c) -∗
      ((own1 c (rowsW xbM (fwd 1 c)) fullShare (xb m c (fwd 1 c))
        ∗ own1 c (halfW wbM 0) fullShare (wb m c 0)
        ∗ own1 c (rowsW xbM (fwd 3 c)) fullShare (xb m c (fwd 3 c))
        ∗ own1 c (halfW wbM 1) fullShare (wb m c 1)
        ∗ Owe c (todo6 c)
        ∗ own1 c (slot23 rrM 0 1) fullShare (sV m 0 1 (src 0 c))
        ∗ semVal (cell c (.rsR 0 1)) 0) -∗ Q ⟨prod m c (fwd 1 c) 0, prod m c (fwd 3 c) 1⟩)
      -∗ WP c (k0_part10 (F := F) xM (Memref.isWhole_whole _) wM (Memref.isWhole_whole _) oM (Memref.isWhole_whole _) xbM (Memref.isWhole_whole _) wbM (Memref.isWhole_whole _) stM (Memref.isWhole_whole _) acM (Memref.isWhole_whole _) osM (Memref.isWhole_whole _) srM (Memref.isWhole_whole _) rrM (Memref.isWhole_whole _) qM (Memref.isWhole_whole _) agM (Memref.isWhole_whole _) amM (Memref.isWhole_whole _) cc0_scratch10 cc0_scratch11 cc0_scratch12 cc0_scratch13 cc0_scratch14 cc0_scratch15 cc0_scratch16 cc0_scratch17 cc0_scratch18 c w2 w7 w243) Q) := by
  simp only [k0_part10_eq_skeleton]; unfold k0_part10_skel
  simp only [semSignalWord, semWaitWord, Prog.lift, Prog.bind_op, Prog.bind_ret, Prog.pure_eq_ret]
  iintro #HC Hxb1 Hwb0 Hxb3 Hwb1 Hcr01 Har01 HO Hk
  iapply (step_load c (off := ![1024 * (fwd 1 c).val, 0]) (off3_at c 2)) $$ Hxb1
  iintro Hxb1
  iapply (step_load c rfl) $$ Hwb0
  iintro Hwb0
  iapply (step_load c (off := ![1024 * (fwd 3 c).val, 0]) (off4_at c 2)) $$ Hxb3
  iintro Hxb3
  iapply (step_load c rfl) $$ Hwb1
  iintro Hwb1
  iapply (curry4 (step_wait m K c (.rsR 0 1) (fun h => nomatch h) rfl 0 rfl (units_rr 0 1) (todo6 c) rfl (got_rsR m c 0 1 (by decide)))) $$ HC Hcr01 HO Har01
  iintro ⟨HO, Hrr01, Hzr01⟩
  iapply (show (Q ⟨prod m c (fwd 1 c) 0, prod m c (fwd 3 c) 1⟩ : sProp 𝕄) ⊢ WP c (.ret ⟨prod m c (fwd 1 c) 0, prod m c (fwd 3 c) 1⟩) Q from done c)
  iapply Hk
  isplitl [Hxb1]; · iexact Hxb1
  isplitl [Hwb0]; · iexact Hwb0
  isplitl [Hxb3]; · iexact Hxb3
  isplitl [Hwb1]; · iexact Hwb1
  isplitl [HO]; · iexact HO
  isplitl [Hrr01]; · iexact Hrr01
  iexact Hzr01

theorem part11 (c : Dev nD) (w5 : BitVec 32) (Q : _ → sProp 𝕄) :
    Ctx m K ⊢ iprop(cred (tallyAt (cell c (.rsR 1 1)) () (amt (.rsR 1 1))) -∗
      atPos ER (cell c (.rsR 1 1)) 0 ∅ 0 -∗
      Owe c (todo6 c) -∗
      own1 c (slot23 rrM 0 1) fullShare (sV m 0 1 (src 0 c)) -∗
      cred (tallyAt (cell c (.rsS 0 0)) () (amt (.rsS 0 0))) -∗
      atPos ER (cell c (.rsS 0 0)) 0 ∅ 0 -∗
      ((Owe c (todo6 c)
        ∗ own1 c (slot23 rrM 1 1) fullShare (sV m 1 1 (src 1 c))
        ∗ semVal (cell c (.rsR 1 1)) 0
        ∗ own1 c (slot23 rrM 0 1) fullShare (sV m 0 1 (src 0 c))
        ∗ atPos ER (cell c (.rsS 0 0)) (0 + 1) ∅ 0
        ∗ own1 c (slot22 srM 0 0) fullShare (sV m 0 ((2 : Fin 3) : ℕ) c)
        ∗ reached ER (cell c (.rsS 0 0)) (0 + 1)) -∗ Q ⟨⟩)
      -∗ WP c (k0_part11 (F := F) xM (Memref.isWhole_whole _) wM (Memref.isWhole_whole _) oM (Memref.isWhole_whole _) xbM (Memref.isWhole_whole _) wbM (Memref.isWhole_whole _) stM (Memref.isWhole_whole _) acM (Memref.isWhole_whole _) osM (Memref.isWhole_whole _) srM (Memref.isWhole_whole _) rrM (Memref.isWhole_whole _) qM (Memref.isWhole_whole _) agM (Memref.isWhole_whole _) amM (Memref.isWhole_whole _) cc0_scratch10 cc0_scratch11 cc0_scratch12 cc0_scratch13 cc0_scratch14 cc0_scratch15 cc0_scratch16 cc0_scratch17 cc0_scratch18 w5 (prod m c (fwd 1 c) 0)) Q) := by
  simp only [k0_part11_eq_skeleton]; unfold k0_part11_skel
  simp only [semSignalWord, semWaitWord, Prog.lift, Prog.bind_op, Prog.bind_ret, Prog.pure_eq_ret]
  iintro #HC Hcr11 Har11 HO Hrr01 Hcs00 Has00 Hk
  iapply (curry4 (step_wait m K c (.rsR 1 1) (fun h => nomatch h) rfl 0 rfl (units_rr 1 1) (todo6 c) rfl (got_rsR m c 1 1 (by decide)))) $$ HC Hcr11 HO Har11
  iintro ⟨HO, Hrr11, Hzr11⟩
  iapply (step_load c rfl) $$ Hrr01
  iintro Hrr01
  iapply (curry4 (step_wait' m K c (.rsS 0 0) (by decide) rfl 0 (show (0 : ℕ) < 2 by decide) (units_sr 0 0) (todo6 c) rfl (got_rsS m c 0 0))) $$ HC Hcs00 HO Has00
  iintro ⟨HO, Hsr00, Has00, Hre00⟩
  iapply (step_put c rfl) $$ Hsr00
  iintro Hsr00
  ihave Hsr00 := (as1 (Y := sV m 0 ((2 : Fin 3) : ℕ) c) rfl) $$ Hsr00
  iapply (done c (a := PUnit.unit))
  iapply Hk
  isplitl [HO]; · iexact HO
  isplitl [Hrr11]; · iexact Hrr11
  isplitl [Hzr11]; · iexact Hzr11
  isplitl [Hrr01]; · iexact Hrr01
  isplitl [Has00]; · iexact Has00
  isplitl [Hsr00]; · iexact Hsr00
  iexact Hre00

theorem part12 (c : Dev nD) (w7 : BitVec 32) (Q : _ → sProp 𝕄) :
    Ctx m K ⊢ iprop(own1 c (slot22 srM 0 0) fullShare (sV m 0 ((2 : Fin 3) : ℕ) c) -∗
      ownAny (tgt 0 c) (slot23 rrM 0 2) -∗
      Owe c (todo6 c) -∗
      dutyTok ER (cell c (.rsS 0 0)) 1 false -∗
      dutyTok ER (cell (tgt 0 c) (.rsR 0 2)) 0 false -∗
      reached ER (cell c (.rsS 0 0)) (0 + 1) -∗
      own1 c (slot23 rrM 1 1) fullShare (sV m 1 1 (src 1 c)) -∗
      cred (tallyAt (cell c (.rsS 1 0)) () (amt (.rsS 1 0))) -∗
      atPos ER (cell c (.rsS 1 0)) 0 ∅ 0 -∗
      ((Owe c (todo7 c)
        ∗ cred (tallyAt (cell c (.rsS 0 0)) () (amt (.rsS 0 0)))
        ∗ own1 c (slot23 rrM 1 1) fullShare (sV m 1 1 (src 1 c))
        ∗ atPos ER (cell c (.rsS 1 0)) (0 + 1) ∅ 0
        ∗ own1 c (slot22 srM 1 0) fullShare (sV m 1 ((2 : Fin 3) : ℕ) c)
        ∗ reached ER (cell c (.rsS 1 0)) (0 + 1)) -∗ Q ⟨⟩)
      -∗ WP c (k0_part12 (F := F) xM (Memref.isWhole_whole _) wM (Memref.isWhole_whole _) oM (Memref.isWhole_whole _) xbM (Memref.isWhole_whole _) wbM (Memref.isWhole_whole _) stM (Memref.isWhole_whole _) acM (Memref.isWhole_whole _) osM (Memref.isWhole_whole _) srM (Memref.isWhole_whole _) rrM (Memref.isWhole_whole _) qM (Memref.isWhole_whole _) agM (Memref.isWhole_whole _) amM (Memref.isWhole_whole _) cc0_scratch10 cc0_scratch11 cc0_scratch12 cc0_scratch13 cc0_scratch14 cc0_scratch15 cc0_scratch16 cc0_scratch17 cc0_scratch18 c w7 (prod m c (fwd 3 c) 1)) Q) := by
  simp only [k0_part12_eq_skeleton]; unfold k0_part12_skel
  simp only [semSignalWord, semWaitWord, Prog.lift, Prog.bind_op, Prog.bind_ret, Prog.pure_eq_ret]
  iintro #HC Hsr00 Hpr02 HO Hts00b Htr02 Hre00 Hrr11 Hcs10 Has10 Hk
  iapply (curry7 (step_rs0 m K c 0 2 0 (by decide) (Fin.ext (k0_dev7_eq c)) rfl rfl 1 (show (1 : ℕ) < 2 by decide) (todo7 c))) $$ HC Hre00 Hsr00 Hpr02 HO Hts00b Htr02
  iintro ⟨Hcs00, HO⟩
  iapply (step_load c rfl) $$ Hrr11
  iintro Hrr11
  iapply (curry4 (step_wait' m K c (.rsS 1 0) (by decide) rfl 0 (show (0 : ℕ) < 2 by decide) (units_sr 1 0) (todo7 c) rfl (got_rsS m c 1 0))) $$ HC Hcs10 HO Has10
  iintro ⟨HO, Hsr10, Has10, Hre10⟩
  iapply (step_put c rfl) $$ Hsr10
  iintro Hsr10
  ihave Hsr10 := (as1 (Y := sV m 1 ((2 : Fin 3) : ℕ) c) rfl) $$ Hsr10
  iapply (done c (a := PUnit.unit))
  iapply Hk
  isplitl [HO]; · iexact HO
  isplitl [Hcs00]; · iexact Hcs00
  isplitl [Hrr11]; · iexact Hrr11
  isplitl [Has10]; · iexact Has10
  isplitl [Hsr10]; · iexact Hsr10
  iexact Hre10

theorem part13 (c : Dev nD) (w2 w5 : BitVec 32) (Q : _ → sProp 𝕄) :
    Ctx m K ⊢ iprop(own1 c (slot22 srM 1 0) fullShare (sV m 1 ((2 : Fin 3) : ℕ) c) -∗
      ownAny (tgt 1 c) (slot23 rrM 1 2) -∗
      Owe c (todo7 c) -∗
      dutyTok ER (cell c (.rsS 1 0)) 1 false -∗
      dutyTok ER (cell (tgt 1 c) (.rsR 1 2)) 0 false -∗
      reached ER (cell c (.rsS 1 0)) (0 + 1) -∗
      own1 c (rowsW xbM (fwd 0 c)) fullShare (xb m c (fwd 0 c)) -∗
      own1 c (halfW wbM 0) fullShare (wb m c 0) -∗
      own1 c (halfW wbM 1) fullShare (wb m c 1) -∗
      ((Owe c (todo8 c)
        ∗ cred (tallyAt (cell c (.rsS 1 0)) () (amt (.rsS 1 0)))
        ∗ own1 c (rowsW xbM (fwd 0 c)) fullShare (xb m c (fwd 0 c))
        ∗ own1 c (halfW wbM 0) fullShare (wb m c 0)
        ∗ own1 c (halfW wbM 1) fullShare (wb m c 1)) -∗ Q ⟨prod m c (fwd 0 c) 0, prod m c (fwd 0 c) 1⟩)
      -∗ WP c (k0_part13 (F := F) xM (Memref.isWhole_whole _) wM (Memref.isWhole_whole _) oM (Memref.isWhole_whole _) xbM (Memref.isWhole_whole _) wbM (Memref.isWhole_whole _) stM (Memref.isWhole_whole _) acM (Memref.isWhole_whole _) osM (Memref.isWhole_whole _) srM (Memref.isWhole_whole _) rrM (Memref.isWhole_whole _) qM (Memref.isWhole_whole _) agM (Memref.isWhole_whole _) amM (Memref.isWhole_whole _) cc0_scratch10 cc0_scratch11 cc0_scratch12 cc0_scratch13 cc0_scratch14 cc0_scratch15 cc0_scratch16 cc0_scratch17 cc0_scratch18 c w2 w5) Q) := by
  simp only [k0_part13_eq_skeleton]; unfold k0_part13_skel
  simp only [semSignalWord, semWaitWord, Prog.lift, Prog.bind_op, Prog.bind_ret, Prog.pure_eq_ret]
  iintro #HC Hsr10 Hpr12 HO Hts10b Htr12 Hre10 Hxb0 Hwb0 Hwb1 Hk
  iapply (curry7 (step_rs0 m K c 1 2 0 (by decide) (Fin.ext (k0_dev8_eq c)) rfl rfl 1 (show (1 : ℕ) < 2 by decide) (todo8 c))) $$ HC Hre10 Hsr10 Hpr12 HO Hts10b Htr12
  iintro ⟨Hcs10, HO⟩
  iapply (step_load c (off := ![1024 * (fwd 0 c).val, 0]) (off3_at c 3)) $$ Hxb0
  iintro Hxb0
  iapply (step_load c rfl) $$ Hwb0
  iintro Hwb0
  iapply (step_load c (off := ![1024 * (fwd 0 c).val, 0]) (off4_at c 3)) $$ Hxb0
  iintro Hxb0
  iapply (step_load c rfl) $$ Hwb1
  iintro Hwb1
  iapply (show (Q ⟨prod m c (fwd 0 c) 0, prod m c (fwd 0 c) 1⟩ : sProp 𝕄) ⊢ WP c (.ret ⟨prod m c (fwd 0 c) 0, prod m c (fwd 0 c) 1⟩) Q from done c)
  iapply Hk
  isplitl [HO]; · iexact HO
  isplitl [Hcs10]; · iexact Hcs10
  isplitl [Hxb0]; · iexact Hxb0
  isplitl [Hwb0]; · iexact Hwb0
  iexact Hwb1

theorem part14 (c : Dev nD) (w5 w7 : BitVec 32) (Q : _ → sProp 𝕄) :
    Ctx m K ⊢ iprop(cred (tallyAt (cell c (.rsR 0 2)) () (amt (.rsR 0 2))) -∗
      atPos ER (cell c (.rsR 0 2)) 0 ∅ 0 -∗
      Owe c (todo8 c) -∗
      cred (tallyAt (cell c (.rsR 1 2)) () (amt (.rsR 1 2))) -∗
      atPos ER (cell c (.rsR 1 2)) 0 ∅ 0 -∗
      ownAny c (halfW acM 0) -∗
      ((Owe c (todo8 c)
        ∗ own1 c (slot23 rrM 0 2) fullShare (sV m 0 2 (src 0 c))
        ∗ semVal (cell c (.rsR 0 2)) 0
        ∗ own1 c (slot23 rrM 1 2) fullShare (sV m 1 2 (src 1 c))
        ∗ semVal (cell c (.rsR 1 2)) 0
        ∗ own1 c (halfW acM 0) fullShare (acc m c 0)) -∗ Q (k0_pay23 (prod m c (fwd 0 c) 0) (sV m 0 2 (src 0 c))))
      -∗ WP c (k0_part14 (F := F) xM (Memref.isWhole_whole _) wM (Memref.isWhole_whole _) oM (Memref.isWhole_whole _) xbM (Memref.isWhole_whole _) wbM (Memref.isWhole_whole _) stM (Memref.isWhole_whole _) acM (Memref.isWhole_whole _) osM (Memref.isWhole_whole _) srM (Memref.isWhole_whole _) rrM (Memref.isWhole_whole _) qM (Memref.isWhole_whole _) agM (Memref.isWhole_whole _) amM (Memref.isWhole_whole _) cc0_scratch10 cc0_scratch11 cc0_scratch12 cc0_scratch13 cc0_scratch14 cc0_scratch15 cc0_scratch16 cc0_scratch17 cc0_scratch18 w5 w7 (prod m c (fwd 0 c) 0)) Q) := by
  simp only [k0_part14_eq_skeleton]; unfold k0_part14_skel
  simp only [semSignalWord, semWaitWord, Prog.lift, Prog.bind_op, Prog.bind_ret, Prog.pure_eq_ret]
  iintro #HC Hcr02 Har02 HO Hcr12 Har12 Hac0 Hk
  iapply (curry4 (step_wait m K c (.rsR 0 2) (fun h => nomatch h) rfl 0 rfl (units_rr 0 2) (todo8 c) rfl (got_rsR m c 0 2 (by decide)))) $$ HC Hcr02 HO Har02
  iintro ⟨HO, Hrr02, Hzr02⟩
  iapply (curry4 (step_wait m K c (.rsR 1 2) (fun h => nomatch h) rfl 0 rfl (units_rr 1 2) (todo8 c) rfl (got_rsR m c 1 2 (by decide)))) $$ HC Hcr12 HO Har12
  iintro ⟨HO, Hrr12, Hzr12⟩
  iapply (step_load c rfl) $$ Hrr02
  iintro Hrr02
  iapply (step_put c rfl) $$ Hac0
  iintro Hac0
  ihave Hac0 := (as1 (Y := acc m c 0) rfl) $$ Hac0
  iapply (show (Q (k0_pay23 (prod m c (fwd 0 c) 0) (sV m 0 2 (src 0 c))) : sProp 𝕄) ⊢ WP c (.ret (k0_pay23 (prod m c (fwd 0 c) 0) (sV m 0 2 (src 0 c)))) Q from done c)
  iapply Hk
  isplitl [HO]; · iexact HO
  isplitl [Hrr02]; · iexact Hrr02
  isplitl [Hzr02]; · iexact Hzr02
  isplitl [Hrr12]; · iexact Hrr12
  isplitl [Hzr12]; · iexact Hzr12
  iexact Hac0

end Cert.KernelIdeal.Run

end
-- ==== Proof.BodyC.lean ====
/-
# The body, part by part: the maximum and the quantised chunk

Each lemma says what one part of the program takes and what it leaves.
-/
module

public import proofs.«01_k».proof.Proof.Places

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)

variable {F : FTy → Type} [FloatOps F]

local notation "𝕄" => MT nD τ sig Unit (Elt F) ℕ UU ℕ

variable (m : (ℓ : Loc nD τ sig) → Buf (Elt F) ℓ)

variable (K : Dev nD × Fin 30 → ℕ)

theorem part15 (c : Dev nD) (w2 : BitVec 32) (Q : _ → sProp 𝕄) :
    Ctx m K ⊢ iprop(own1 c (slot23 rrM 1 2) fullShare (sV m 1 2 (src 1 c)) -∗
      ownAny c (halfW acM 1) -∗
      ownAny c (amxW amM c) -∗
      ownAny (fwd 1 c) (amxW amM c) -∗
      Owe c (todo8 c) -∗
      dutyTok ER (cell c (.amS 0)) 0 false -∗
      dutyTok ER (cell (fwd 1 c) (.amR c)) 0 false -∗
      (∀ (w : BitVec 32), (own1 c (slot23 rrM 1 2) fullShare (sV m 1 2 (src 1 c))
        ∗ own1 c (halfW acM 1) fullShare (acc m c 1)
        ∗ own1 c (amxW amM c) fullShare.left (amx m c)
        ∗ own1 c (amxW amM c) (shA 1) (amx m c)
        ∗ own1 c (amxW amM c) (shA 2) (amx m c)
        ∗ Owe c (todo9 c)
        ∗ cred (tallyAt (cell c (.amS 0)) () (amt (.amS 0)))) -∗ Q w)
      -∗ WP c (k0_part15 (F := F) xM (Memref.isWhole_whole _) wM (Memref.isWhole_whole _) oM (Memref.isWhole_whole _) xbM (Memref.isWhole_whole _) wbM (Memref.isWhole_whole _) stM (Memref.isWhole_whole _) acM (Memref.isWhole_whole _) osM (Memref.isWhole_whole _) srM (Memref.isWhole_whole _) rrM (Memref.isWhole_whole _) qM (Memref.isWhole_whole _) agM (Memref.isWhole_whole _) amM (Memref.isWhole_whole _) cc0_scratch10 cc0_scratch11 cc0_scratch12 cc0_scratch13 cc0_scratch14 cc0_scratch15 cc0_scratch16 cc0_scratch17 cc0_scratch18 c w2 (prod m c (fwd 0 c) 1) (k0_pay23 (prod m c (fwd 0 c) 0) (sV m 0 2 (src 0 c)))) Q) := by
  simp only [k0_part15_eq_skeleton]; unfold k0_part15_skel
  simp only [semSignalWord, semWaitWord, Prog.lift, Prog.bind_op, Prog.bind_ret, Prog.pure_eq_ret]
  iintro #HC Hrr12 Hac1 Ham Hpn HO Htm0s Htm0r Hk
  iapply (step_load c rfl) $$ Hrr12
  iintro Hrr12
  iapply (step_put c rfl) $$ Hac1
  iintro Hac1
  ihave Hac1 := (as1 (Y := acc m c 1) rfl) $$ Hac1
  iapply (step_put c (off := ![c.val, 0, 0]) (k0_off5_eq c)) $$ Ham
  iintro Ham
  ihave Ham := (as1 (Y := amx m c) rfl) $$ Ham
  ihave ⟨Haml, Hamo0, Hamo1, Hamo2⟩ := (own1_four c _ _) $$ Ham
  iapply (curry6 (step_am m K c 0 1 rfl (Fin.ext (k0_dev9_eq c)) rfl (sem_amR c) (k0_off7_eq c) (todo9 c))) $$ HC Hamo0 Hpn HO Htm0s Htm0r
  iintro ⟨Hcm0s, HO⟩
  iapply (done c)
  iapply Hk
  isplitl [Hrr12]; · iexact Hrr12
  isplitl [Hac1]; · iexact Hac1
  isplitl [Haml]; · iexact Haml
  isplitl [Hamo1]; · iexact Hamo1
  isplitl [Hamo2]; · iexact Hamo2
  isplitl [HO]; · iexact HO
  iexact Hcm0s

theorem part16 (c : Dev nD) (w2 w : BitVec 32) (Q : _ → sProp 𝕄) :
    Ctx m K ⊢ iprop(own1 c (amxW amM c) (shA 1) (amx m c) -∗
      ownAny (opp c) (amxW amM c) -∗
      Owe c (todo9 c) -∗
      dutyTok ER (cell c (.amS 1)) 0 false -∗
      dutyTok ER (cell (fwd 2 c) (.amR c)) 0 false -∗
      own1 c (amxW amM c) (shA 2) (amx m c) -∗
      ownAny (fwd 3 c) (amxW amM c) -∗
      dutyTok ER (cell c (.amS 2)) 0 false -∗
      dutyTok ER (cell (fwd 3 c) (.amR c)) 0 false -∗
      ((Owe c (todo11 c)
        ∗ cred (tallyAt (cell c (.amS 1)) () (amt (.amS 1)))
        ∗ cred (tallyAt (cell c (.amS 2)) () (amt (.amS 2)))) -∗ Q ⟨⟩)
      -∗ WP c (k0_part16 (F := F) xM (Memref.isWhole_whole _) wM (Memref.isWhole_whole _) oM (Memref.isWhole_whole _) xbM (Memref.isWhole_whole _) wbM (Memref.isWhole_whole _) stM (Memref.isWhole_whole _) acM (Memref.isWhole_whole _) osM (Memref.isWhole_whole _) srM (Memref.isWhole_whole _) rrM (Memref.isWhole_whole _) qM (Memref.isWhole_whole _) agM (Memref.isWhole_whole _) amM (Memref.isWhole_whole _) cc0_scratch10 cc0_scratch11 cc0_scratch12 cc0_scratch13 cc0_scratch14 cc0_scratch15 cc0_scratch16 cc0_scratch17 cc0_scratch18 c w2 w) Q) := by
  simp only [k0_part16_eq_skeleton]; unfold k0_part16_skel
  simp only [semSignalWord, semWaitWord, Prog.lift, Prog.bind_op, Prog.bind_ret, Prog.pure_eq_ret]
  iintro #HC Hamo1 Hpo HO Htm1s Htm1r Hamo2 Hpp Htm2s Htm2r Hk
  iapply (curry6 (step_am m K c 1 2 rfl (Fin.ext (k0_dev10_eq c)) rfl (sem_amR c) (k0_off7_eq c) (todo10 c))) $$ HC Hamo1 Hpo HO Htm1s Htm1r
  iintro ⟨Hcm1s, HO⟩
  iapply (curry6 (step_am m K c 2 3 rfl (Fin.ext (k0_dev11_eq c)) rfl (sem_amR c) (k0_off7_eq c) (todo11 c))) $$ HC Hamo2 Hpp HO Htm2s Htm2r
  iintro ⟨Hcm2s, HO⟩
  iapply (done c (a := PUnit.unit))
  iapply Hk
  isplitl [HO]; · iexact HO
  isplitl [Hcm1s]; · iexact Hcm1s
  iexact Hcm2s

theorem part17 (c : Dev nD) (w2 : BitVec 32) (Q : _ → sProp 𝕄) :
    Ctx m K ⊢ iprop(cred (tallyAt (cell c (.amR (fwd 1 c))) () (amt (.amR (fwd 1 c)))) -∗
      atPos ER (cell c (.amR (fwd 1 c))) 0 ∅ 0 -∗
      Owe c (todo11 c) -∗
      cred (tallyAt (cell c (.amR (fwd 2 c))) () (amt (.amR (fwd 2 c)))) -∗
      atPos ER (cell c (.amR (fwd 2 c))) 0 ∅ 0 -∗
      cred (tallyAt (cell c (.amR (fwd 3 c))) () (amt (.amR (fwd 3 c)))) -∗
      atPos ER (cell c (.amR (fwd 3 c))) 0 ∅ 0 -∗
      own1 c (amxW amM c) fullShare.left (amx m c) -∗
      own1 c (halfW acM 0) fullShare (acc m c 0) -∗
      ((Owe c (todo11 c)
        ∗ semVal (cell c (.amR (fwd 1 c))) 0
        ∗ semVal (cell c (.amR (fwd 2 c))) 0
        ∗ semVal (cell c (.amR (fwd 3 c))) 0
        ∗ own1 c (amxW amM (fwd 1 c)) fullShare.right (amx m (fwd 1 c))
        ∗ own1 c (amxW amM (fwd 2 c)) fullShare.right (amx m (fwd 2 c))
        ∗ own1 c (amxW amM (fwd 3 c)) fullShare.right (amx m (fwd 3 c))
        ∗ own1 c (amxAll amM) fullShare.left (amxA m)
        ∗ own1 c (halfW acM 0) fullShare (acc m c 0)) -∗ Q ⟨scale m, k0_pay28 (amxA m) (acc m c 0), Scalar.ofBits .f32 0x43E00000#32⟩)
      -∗ WP c (k0_part17 (F := F) xM (Memref.isWhole_whole _) wM (Memref.isWhole_whole _) oM (Memref.isWhole_whole _) xbM (Memref.isWhole_whole _) wbM (Memref.isWhole_whole _) stM (Memref.isWhole_whole _) acM (Memref.isWhole_whole _) osM (Memref.isWhole_whole _) srM (Memref.isWhole_whole _) rrM (Memref.isWhole_whole _) qM (Memref.isWhole_whole _) agM (Memref.isWhole_whole _) amM (Memref.isWhole_whole _) cc0_scratch10 cc0_scratch11 cc0_scratch12 cc0_scratch13 cc0_scratch14 cc0_scratch15 cc0_scratch16 cc0_scratch17 cc0_scratch18 c w2) Q) := by
  simp only [k0_part17_eq_skeleton]; unfold k0_part17_skel
  simp only [semSignalWord, semWaitWord, Prog.lift, Prog.bind_op, Prog.bind_ret, Prog.pure_eq_ret]
  iintro #HC Hcm0r Ham0r HO Hcm1r Ham1r Hcm2r Ham2r Haml Hac0 Hk
  iapply (curry4 (step_wait m K c (.amR (fwd 1 c)) (fun h => nomatch h) (sem_amR1 c) 0 (nr_am1 c) units_am (todo11 c) rfl (got_amR m c (fwd 1 c)))) $$ HC Hcm0r HO Ham0r
  iintro ⟨HO, Hamr0, Hzm0r⟩
  iapply (curry4 (step_wait m K c (.amR (fwd 2 c)) (fun h => nomatch h) (sem_amR2 c) 0 (nr_am2 c) units_am (todo11 c) rfl (got_amR m c (fwd 2 c)))) $$ HC Hcm1r HO Ham1r
  iintro ⟨HO, Hamr1, Hzm1r⟩
  iapply (curry4 (step_wait m K c (.amR (fwd 3 c)) (fun h => nomatch h) (sem_amR3 c) 0 (nr_am3 c) units_am (todo11 c) rfl (got_amR m c (fwd 3 c)))) $$ HC Hcm2r HO Ham2r
  iintro ⟨HO, Hamr2, Hzm2r⟩
  ihave ⟨Hamr0, Hamr0r⟩ := (own1_split c _ _ _) $$ Hamr0
  ihave ⟨Hamr1, Hamr1r⟩ := (own1_split c _ _ _) $$ Hamr1
  ihave ⟨Hamr2, Hamr2r⟩ := (own1_split c _ _ _) $$ Hamr2
  ihave Hamt := (table_join m c _) $$ Haml Hamr0 Hamr1 Hamr2
  iapply (step_load c rfl) $$ Hamt
  iintro Hamt
  iapply (step_load c rfl) $$ Hac0
  iintro Hac0
  iapply (show (Q ⟨scale m, k0_pay28 (amxA m) (acc m c 0), Scalar.ofBits .f32 0x43E00000#32⟩ : sProp 𝕄) ⊢ WP c (.ret ⟨scale m, k0_pay28 (amxA m) (acc m c 0), Scalar.ofBits .f32 0x43E00000#32⟩) Q from done c)
  iapply Hk
  isplitl [HO]; · iexact HO
  isplitl [Hzm0r]; · iexact Hzm0r
  isplitl [Hzm1r]; · iexact Hzm1r
  isplitl [Hzm2r]; · iexact Hzm2r
  isplitl [Hamr0r]; · iexact Hamr0r
  isplitl [Hamr1r]; · iexact Hamr1r
  isplitl [Hamr2r]; · iexact Hamr2r
  isplitl [Hamt]; · iexact Hamt
  iexact Hac0

theorem part18 (c : Dev nD) (w5 w7 : BitVec 32) (Q : _ → sProp 𝕄) :
    Ctx m K ⊢ iprop(ownAny c (halfW qM 0) -∗
      ownAny (tgt 0 c) (slot23 agM 0 0) -∗
      Owe c (todo11 c) -∗
      dutyTok ER (cell c (.agS 0 0)) 0 false -∗
      dutyTok ER (cell (tgt 0 c) (.agR 0 0)) 0 false -∗
      own1 c (halfW acM 1) fullShare (acc m c 1) -∗
      ownAny c (halfW qM 1) -∗
      ((own1 c (halfW qM 0) fullShare.left (qv m c 0)
        ∗ Owe c (todo12 c)
        ∗ cred (tallyAt (cell c (.agS 0 0)) () (amt (.agS 0 0)))
        ∗ own1 c (halfW acM 1) fullShare (acc m c 1)
        ∗ own1 c (halfW qM 1) fullShare.left (qv m c 1)
        ∗ own1 c (halfW qM 1) fullShare.right (qv m c 1)) -∗ Q ⟨⟩)
      -∗ WP c (k0_part18 (F := F) xM (Memref.isWhole_whole _) wM (Memref.isWhole_whole _) oM (Memref.isWhole_whole _) xbM (Memref.isWhole_whole _) wbM (Memref.isWhole_whole _) stM (Memref.isWhole_whole _) acM (Memref.isWhole_whole _) osM (Memref.isWhole_whole _) srM (Memref.isWhole_whole _) rrM (Memref.isWhole_whole _) qM (Memref.isWhole_whole _) agM (Memref.isWhole_whole _) amM (Memref.isWhole_whole _) cc0_scratch10 cc0_scratch11 cc0_scratch12 cc0_scratch13 cc0_scratch14 cc0_scratch15 cc0_scratch16 cc0_scratch17 cc0_scratch18 c w5 w7 (scale m) (k0_pay28 (amxA m) (acc m c 0)) (Scalar.ofBits .f32 0x43E00000#32)) Q) := by
  simp only [k0_part18_eq_skeleton]; unfold k0_part18_skel
  simp only [semSignalWord, semWaitWord, Prog.lift, Prog.bind_op, Prog.bind_ret, Prog.pure_eq_ret]
  iintro #HC Hq0 Hpg00 HO Hth00 Htg00 Hac1 Hq1 Hk
  iapply (step_put c rfl) $$ Hq0
  iintro Hq0
  ihave Hq0 := (as1 (Y := qv m c 0) rfl) $$ Hq0
  ihave ⟨Hq0l, Hq0r⟩ := (own1_split c _ _ _) $$ Hq0
  iapply (curry6 (step_ag0 m K c 0 (Fin.ext (k0_dev12_eq c)) rfl rfl (todo12 c))) $$ HC Hq0r Hpg00 HO Hth00 Htg00
  iintro ⟨Hch00, HO⟩
  iapply (step_load c rfl) $$ Hac1
  iintro Hac1
  iapply (step_put c rfl) $$ Hq1
  iintro Hq1
  ihave Hq1 := (as1 (Y := qv m c 1) rfl) $$ Hq1
  ihave ⟨Hq1l, Hq1r⟩ := (own1_split c _ _ _) $$ Hq1
  iapply (done c (a := PUnit.unit))
  iapply Hk
  isplitl [Hq0l]; · iexact Hq0l
  isplitl [HO]; · iexact HO
  isplitl [Hch00]; · iexact Hch00
  isplitl [Hac1]; · iexact Hac1
  isplitl [Hq1l]; · iexact Hq1l
  iexact Hq1r

theorem part19 (c : Dev nD) (w2 w5 w7 : BitVec 32) (Q : _ → sProp 𝕄) :
    Ctx m K ⊢ iprop(own1 c (halfW qM 1) fullShare.right (qv m c 1) -∗
      ownAny (tgt 1 c) (slot23 agM 1 0) -∗
      Owe c (todo12 c) -∗
      dutyTok ER (cell c (.agS 1 0)) 0 false -∗
      dutyTok ER (cell (tgt 1 c) (.agR 1 0)) 0 false -∗
      own1 c (halfW qM 0) fullShare.left (qv m c 0) -∗
      own1 c (halfW qM 1) fullShare.left (qv m c 1) -∗
      ownAny c (fullW osM) -∗
      ownAny c (outRow oM c) -∗
      semVal ((c : Thread nD τ), SemLoc.dma 33) 0 -∗
      cred (tallyAt (cell c (.agR 0 0)) () (amt (.agR 0 0))) -∗
      atPos ER (cell c (.agR 0 0)) 0 ∅ 0 -∗
      ((Owe c (todo13 c)
        ∗ cred (tallyAt (cell c (.agS 1 0)) () (amt (.agS 1 0)))
        ∗ own1 c (fullW qM) fullShare.left (qw m c)
        ∗ Flight EC (c : Thread nD τ) (SemLoc.dma 33) () Nor iprop(own1 c (outRow oM c) fullShare (outW m c) ∗ own1 c osM fullShare (outW m c))
        ∗ own1 c (slot23 agM 0 0) fullShare.left (agV m 0 0 c)
        ∗ semVal (cell c (.agR 0 0)) 0
        ∗ own1 c (slot23 agM 0 0) fullShare.right (agV m 0 ((0 : Fin 2) : ℕ) c)) -∗ Q ⟨⟩)
      -∗ WP c (k0_part19 (F := F) xM (Memref.isWhole_whole _) wM (Memref.isWhole_whole _) oM (Memref.isWhole_whole _) xbM (Memref.isWhole_whole _) wbM (Memref.isWhole_whole _) stM (Memref.isWhole_whole _) acM (Memref.isWhole_whole _) osM (Memref.isWhole_whole _) srM (Memref.isWhole_whole _) rrM (Memref.isWhole_whole _) qM (Memref.isWhole_whole _) agM (Memref.isWhole_whole _) amM (Memref.isWhole_whole _) cc0_scratch10 cc0_scratch11 cc0_scratch12 cc0_scratch13 cc0_scratch14 cc0_scratch15 cc0_scratch16 cc0_scratch17 cc0_scratch18 c w2 w5 w7 (scale m)) Q) := by
  simp only [k0_part19_eq_skeleton]; unfold k0_part19_skel
  simp only [semSignalWord, semWaitWord, Prog.lift, Prog.bind_op, Prog.bind_ret, Prog.pure_eq_ret]
  iintro #HC Hq1r Hpg10 HO Hth10 Htg10 Hq0l Hq1l Hos Hout Hzown Hcg00 Hag00 Hk
  iapply (curry6 (step_ag0 m K c 1 (Fin.ext (k0_dev13_eq c)) rfl rfl (todo13 c))) $$ HC Hq1r Hpg10 HO Hth10 Htg10
  iintro ⟨Hch10, HO⟩
  ihave Hqw := (chunk_join m c _) $$ Hq0l Hq1l
  iapply (step_load c rfl) $$ Hqw
  iintro Hqw
  iapply (step_put c rfl) $$ Hos
  iintro Hos
  ihave Hos := (as1 (Y := outW m c) rfl) $$ Hos
  ihave Hos := (full_osM c _) $$ Hos
  iapply (curry3 (step_or c c _ (k0_off10_eq c))) $$ Hos Hout Hzown
  iintro Hfown
  iapply (curry4 (step_wait m K c (.agR 0 0) (fun h => nomatch h) rfl 0 rfl (units_ag 0 0) (todo13 c) rfl (got_agR m c 0 0))) $$ HC Hcg00 HO Hag00
  iintro ⟨HO, Hgl00, Hzg00⟩
  ihave ⟨Hgl00, Hgr00⟩ := (own1_split c _ _ _) $$ Hgl00
  ihave Hgr00 := (as1 (Y := agV m 0 ((0 : Fin 2) : ℕ) c) rfl) $$ Hgr00
  iapply (done c (a := PUnit.unit))
  iapply Hk
  isplitl [HO]; · iexact HO
  isplitl [Hch10]; · iexact Hch10
  isplitl [Hqw]; · iexact Hqw
  isplitl [Hfown]; · iexact Hfown
  isplitl [Hgl00]; · iexact Hgl00
  isplitl [Hzg00]; · iexact Hzg00
  iexact Hgr00

theorem part20 (c : Dev nD) (w5 w7 : BitVec 32) (Q : _ → sProp 𝕄) :
    Ctx m K ⊢ iprop(cred (tallyAt (cell c (.agR 1 0)) () (amt (.agR 1 0))) -∗
      atPos ER (cell c (.agR 1 0)) 0 ∅ 0 -∗
      Owe c (todo13 c) -∗
      own1 c (slot23 agM 0 0) fullShare.right (agV m 0 ((0 : Fin 2) : ℕ) c) -∗
      ownAny (tgt 0 c) (slot23 agM 0 1) -∗
      dutyTok ER (cell c (.agS 0 1)) 0 false -∗
      dutyTok ER (cell (tgt 0 c) (.agR 0 1)) 0 false -∗
      ownAny (tgt 1 c) (slot23 agM 1 1) -∗
      dutyTok ER (cell c (.agS 1 1)) 0 false -∗
      dutyTok ER (cell (tgt 1 c) (.agR 1 1)) 0 false -∗
      Flight EC (c : Thread nD τ) (SemLoc.dma 33) () Nor iprop(own1 c (outRow oM c) fullShare (outW m c) ∗ own1 c osM fullShare (outW m c)) -∗
      (∀ (w : BitVec 32), (Owe c (todo15 c)
        ∗ own1 c (slot23 agM 1 0) fullShare.left (agV m 1 0 c)
        ∗ semVal (cell c (.agR 1 0)) 0
        ∗ cred (tallyAt (cell c (.agS 0 1)) () (amt (.agS 0 1)))
        ∗ cred (tallyAt (cell c (.agS 1 1)) () (amt (.agS 1 1)))
        ∗ own1 c (outRow oM c) fullShare (outW m c)
        ∗ ownAny c (halfW osM 0)
        ∗ ownAny c (halfW osM 1)
        ∗ semVal ((c : Thread nD τ), SemLoc.dma 33) 0) -∗ Q w)
      -∗ WP c (k0_part20 (F := F) xM (Memref.isWhole_whole _) wM (Memref.isWhole_whole _) oM (Memref.isWhole_whole _) xbM (Memref.isWhole_whole _) wbM (Memref.isWhole_whole _) stM (Memref.isWhole_whole _) acM (Memref.isWhole_whole _) osM (Memref.isWhole_whole _) srM (Memref.isWhole_whole _) rrM (Memref.isWhole_whole _) qM (Memref.isWhole_whole _) agM (Memref.isWhole_whole _) amM (Memref.isWhole_whole _) cc0_scratch10 cc0_scratch11 cc0_scratch12 cc0_scratch13 cc0_scratch14 cc0_scratch15 cc0_scratch16 cc0_scratch17 cc0_scratch18 c w5 w7) Q) := by
  simp only [k0_part20_eq_skeleton]; unfold k0_part20_skel
  simp only [semSignalWord, semWaitWord, Prog.lift, Prog.bind_op, Prog.bind_ret, Prog.pure_eq_ret]
  iintro #HC Hcg10 Hag10 HO Hgr00 Hpg01 Hth01 Htg01 Hpg11 Hth11 Htg11 Hfown Hk
  iapply (curry4 (step_wait m K c (.agR 1 0) (fun h => nomatch h) rfl 0 rfl (units_ag 1 0) (todo13 c) rfl (got_agR m c 1 0))) $$ HC Hcg10 HO Hag10
  iintro ⟨HO, Hgl10, Hzg10⟩
  ihave ⟨Hgl10, Hgr10⟩ := (own1_split c _ _ _) $$ Hgl10
  ihave Hgr10 := (as1 (Y := agV m 1 ((0 : Fin 2) : ℕ) c) rfl) $$ Hgr10
  iapply (curry6 (step_ag m K c 0 0 (a := 0) (b := 1) rfl rfl (Fin.ext (k0_dev14_eq c)) rfl rfl (todo14 c))) $$ HC Hgr00 Hpg01 HO Hth01 Htg01
  iintro ⟨Hch01, HO⟩
  iapply (curry6 (step_ag m K c 1 0 (a := 0) (b := 1) rfl rfl (Fin.ext (k0_dev15_eq c)) rfl rfl (todo15 c))) $$ HC Hgr10 Hpg11 HO Hth11 Htg11
  iintro ⟨Hch11, HO⟩
  iapply (curry3 (step_local m K c rfl units_or _ (todo15 c) rfl)) $$ HC Hfown HO
  iintro ⟨⟨Hout, Hos⟩, Hzown, HO⟩
  ihave ⟨Hos0, Hos1⟩ := (osM_halves c _) $$ Hos
  iapply (done c)
  iapply Hk
  isplitl [HO]; · iexact HO
  isplitl [Hgl10]; · iexact Hgl10
  isplitl [Hzg10]; · iexact Hzg10
  isplitl [Hch01]; · iexact Hch01
  isplitl [Hch11]; · iexact Hch11
  isplitl [Hout]; · iexact Hout
  isplitl [Hos0]; · iexact Hos0
  isplitl [Hos1]; · iexact Hos1
  iexact Hzown

end Cert.KernelIdeal.Run

end
-- ==== Proof.BodyD.lean ====
/-
# The body, part by part: the all-gather and the waits at the end

Each lemma says what one part of the program takes and what it leaves.
-/
module

public import proofs.«01_k».proof.Proof.Places

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)

variable {F : FTy → Type} [FloatOps F]

local notation "𝕄" => MT nD τ sig Unit (Elt F) ℕ UU ℕ

variable (m : (ℓ : Loc nD τ sig) → Buf (Elt F) ℓ)

variable (K : Dev nD × Fin 30 → ℕ)

theorem part21 (c : Dev nD) (w2 w8 : BitVec 32) (Q : _ → sProp 𝕄) :
    Ctx m K ⊢ iprop(own1 c (slot23 agM 0 0) fullShare.left (agV m 0 0 c) -∗
      ownAny c (halfW osM 0) -∗
      ownAny c (outB oM (org 0 0 c) 0) -∗
      semVal ((c : Thread nD τ), SemLoc.dma 31) 0 -∗
      own1 c (slot23 agM 1 0) fullShare.left (agV m 1 0 c) -∗
      ownAny c (halfW osM 1) -∗
      ((own1 c (slot23 agM 0 0) fullShare.left (agV m 0 0 c)
        ∗ Flight EC (c : Thread nD τ) (SemLoc.dma 31) () Noh iprop(own1 c (outB oM (org 0 0 c) 0) fullShare (outH m (org 0 0 c) 0) ∗ own1 c (halfW osM 0) fullShare (outH m (org 0 0 c) 0))
        ∗ own1 c (slot23 agM 1 0) fullShare.left (agV m 1 0 c)
        ∗ own1 c (halfW osM 1) fullShare (outH m (org 1 0 c) 1)) -∗ Q ⟨⟩)
      -∗ WP c (k0_part21 (F := F) xM (Memref.isWhole_whole _) wM (Memref.isWhole_whole _) oM (Memref.isWhole_whole _) xbM (Memref.isWhole_whole _) wbM (Memref.isWhole_whole _) stM (Memref.isWhole_whole _) acM (Memref.isWhole_whole _) osM (Memref.isWhole_whole _) srM (Memref.isWhole_whole _) rrM (Memref.isWhole_whole _) qM (Memref.isWhole_whole _) agM (Memref.isWhole_whole _) amM (Memref.isWhole_whole _) cc0_scratch10 cc0_scratch11 cc0_scratch12 cc0_scratch13 cc0_scratch14 cc0_scratch15 cc0_scratch16 cc0_scratch17 cc0_scratch18 c w2 (scale m) w8) Q) := by
  simp only [k0_part21_eq_skeleton]; unfold k0_part21_skel
  simp only [semSignalWord, semWaitWord, Prog.lift, Prog.bind_op, Prog.bind_ret, Prog.pure_eq_ret]
  iintro #HC Hgl00 Hos0 Hout00 Hzo0 Hgl10 Hos1 Hk
  iapply (step_load c rfl) $$ Hgl00
  iintro Hgl00
  iapply (step_put c rfl) $$ Hos0
  iintro Hos0
  ihave Hos0 := (as1 (Y := outH m (org 0 0 c) 0) rfl) $$ Hos0
  iapply (curry3 (step_oh c (org 0 0 c) 0 _ (off11_at c 0))) $$ Hos0 Hout00 Hzo0
  iintro Hfo0
  iapply (step_load c rfl) $$ Hgl10
  iintro Hgl10
  iapply (step_put c rfl) $$ Hos1
  iintro Hos1
  ihave Hos1 := (as1 (Y := outH m (org 1 0 c) 1) rfl) $$ Hos1
  iapply (done c (a := PUnit.unit))
  iapply Hk
  isplitl [Hgl00]; · iexact Hgl00
  isplitl [Hfo0]; · iexact Hfo0
  isplitl [Hgl10]; · iexact Hgl10
  iexact Hos1

theorem part22 (c : Dev nD) (w5 w7 : BitVec 32) (Q : _ → sProp 𝕄) :
    Ctx m K ⊢ iprop(own1 c (halfW osM 1) fullShare (outH m (org 1 0 c) 1) -∗
      ownAny c (outB oM (org 1 0 c) 1) -∗
      semVal ((c : Thread nD τ), SemLoc.dma 32) 0 -∗
      cred (tallyAt (cell c (.agR 0 1)) () (amt (.agR 0 1))) -∗
      atPos ER (cell c (.agR 0 1)) 0 ∅ 0 -∗
      Owe c (todo15 c) -∗
      cred (tallyAt (cell c (.agR 1 1)) () (amt (.agR 1 1))) -∗
      atPos ER (cell c (.agR 1 1)) 0 ∅ 0 -∗
      ((Flight EC (c : Thread nD τ) (SemLoc.dma 32) () Noh iprop(own1 c (outB oM (org 1 0 c) 1) fullShare (outH m (org 1 0 c) 1) ∗ own1 c (halfW osM 1) fullShare (outH m (org 1 0 c) 1))
        ∗ Owe c (todo15 c)
        ∗ own1 c (slot23 agM 0 1) fullShare.left (agV m 0 1 c)
        ∗ semVal (cell c (.agR 0 1)) 0
        ∗ own1 c (slot23 agM 0 1) fullShare.right (agV m 0 ((1 : Fin 2) : ℕ) c)
        ∗ own1 c (slot23 agM 1 1) fullShare.left (agV m 1 1 c)
        ∗ semVal (cell c (.agR 1 1)) 0
        ∗ own1 c (slot23 agM 1 1) fullShare.right (agV m 1 ((1 : Fin 2) : ℕ) c)) -∗ Q ⟨⟩)
      -∗ WP c (k0_part22 (F := F) xM (Memref.isWhole_whole _) wM (Memref.isWhole_whole _) oM (Memref.isWhole_whole _) xbM (Memref.isWhole_whole _) wbM (Memref.isWhole_whole _) stM (Memref.isWhole_whole _) acM (Memref.isWhole_whole _) osM (Memref.isWhole_whole _) srM (Memref.isWhole_whole _) rrM (Memref.isWhole_whole _) qM (Memref.isWhole_whole _) agM (Memref.isWhole_whole _) amM (Memref.isWhole_whole _) cc0_scratch10 cc0_scratch11 cc0_scratch12 cc0_scratch13 cc0_scratch14 cc0_scratch15 cc0_scratch16 cc0_scratch17 cc0_scratch18 c w5 w7) Q) := by
  simp only [k0_part22_eq_skeleton]; unfold k0_part22_skel
  simp only [semSignalWord, semWaitWord, Prog.lift, Prog.bind_op, Prog.bind_ret, Prog.pure_eq_ret]
  iintro #HC Hos1 Hout10 Hzo1 Hcg01 Hag01 HO Hcg11 Hag11 Hk
  iapply (curry3 (step_oh c (org 1 0 c) 1 _ (off12_at c 0))) $$ Hos1 Hout10 Hzo1
  iintro Hfo1
  iapply (curry4 (step_wait m K c (.agR 0 1) (fun h => nomatch h) rfl 0 rfl (units_ag 0 1) (todo15 c) rfl (got_agR m c 0 1))) $$ HC Hcg01 HO Hag01
  iintro ⟨HO, Hgl01, Hzg01⟩
  ihave ⟨Hgl01, Hgr01⟩ := (own1_split c _ _ _) $$ Hgl01
  ihave Hgr01 := (as1 (Y := agV m 0 ((1 : Fin 2) : ℕ) c) rfl) $$ Hgr01
  iapply (curry4 (step_wait m K c (.agR 1 1) (fun h => nomatch h) rfl 0 rfl (units_ag 1 1) (todo15 c) rfl (got_agR m c 1 1))) $$ HC Hcg11 HO Hag11
  iintro ⟨HO, Hgl11, Hzg11⟩
  ihave ⟨Hgl11, Hgr11⟩ := (own1_split c _ _ _) $$ Hgl11
  ihave Hgr11 := (as1 (Y := agV m 1 ((1 : Fin 2) : ℕ) c) rfl) $$ Hgr11
  iapply (done c (a := PUnit.unit))
  iapply Hk
  isplitl [Hfo1]; · iexact Hfo1
  isplitl [HO]; · iexact HO
  isplitl [Hgl01]; · iexact Hgl01
  isplitl [Hzg01]; · iexact Hzg01
  isplitl [Hgr01]; · iexact Hgr01
  isplitl [Hgl11]; · iexact Hgl11
  isplitl [Hzg11]; · iexact Hzg11
  iexact Hgr11

theorem part23 (c : Dev nD) (w5 w7 : BitVec 32) (Q : _ → sProp 𝕄) :
    Ctx m K ⊢ iprop(own1 c (slot23 agM 0 1) fullShare.right (agV m 0 ((1 : Fin 2) : ℕ) c) -∗
      ownAny (tgt 0 c) (slot23 agM 0 2) -∗
      Owe c (todo15 c) -∗
      dutyTok ER (cell c (.agS 0 2)) 0 false -∗
      dutyTok ER (cell (tgt 0 c) (.agR 0 2)) 0 false -∗
      own1 c (slot23 agM 1 1) fullShare.right (agV m 1 ((1 : Fin 2) : ℕ) c) -∗
      ownAny (tgt 1 c) (slot23 agM 1 2) -∗
      dutyTok ER (cell c (.agS 1 2)) 0 false -∗
      dutyTok ER (cell (tgt 1 c) (.agR 1 2)) 0 false -∗
      Flight EC (c : Thread nD τ) (SemLoc.dma 31) () Noh iprop(own1 c (outB oM (org 0 0 c) 0) fullShare (outH m (org 0 0 c) 0) ∗ own1 c (halfW osM 0) fullShare (outH m (org 0 0 c) 0)) -∗
      ((Owe c (todo17 c)
        ∗ cred (tallyAt (cell c (.agS 0 2)) () (amt (.agS 0 2)))
        ∗ cred (tallyAt (cell c (.agS 1 2)) () (amt (.agS 1 2)))
        ∗ own1 c (outB oM (org 0 0 c) 0) fullShare (outH m (org 0 0 c) 0)
        ∗ own1 c (halfW osM 0) fullShare (outH m (org 0 0 c) 0)
        ∗ semVal ((c : Thread nD τ), SemLoc.dma 31) 0) -∗ Q ⟨⟩)
      -∗ WP c (k0_part23 (F := F) xM (Memref.isWhole_whole _) wM (Memref.isWhole_whole _) oM (Memref.isWhole_whole _) xbM (Memref.isWhole_whole _) wbM (Memref.isWhole_whole _) stM (Memref.isWhole_whole _) acM (Memref.isWhole_whole _) osM (Memref.isWhole_whole _) srM (Memref.isWhole_whole _) rrM (Memref.isWhole_whole _) qM (Memref.isWhole_whole _) agM (Memref.isWhole_whole _) amM (Memref.isWhole_whole _) cc0_scratch10 cc0_scratch11 cc0_scratch12 cc0_scratch13 cc0_scratch14 cc0_scratch15 cc0_scratch16 cc0_scratch17 cc0_scratch18 c w5 w7) Q) := by
  simp only [k0_part23_eq_skeleton]; unfold k0_part23_skel
  simp only [semSignalWord, semWaitWord, Prog.lift, Prog.bind_op, Prog.bind_ret, Prog.pure_eq_ret]
  iintro #HC Hgr01 Hpg02 HO Hth02 Htg02 Hgr11 Hpg12 Hth12 Htg12 Hfo0 Hk
  iapply (curry6 (step_ag m K c 0 1 (a := 1) (b := 2) rfl rfl (Fin.ext (k0_dev16_eq c)) rfl rfl (todo16 c))) $$ HC Hgr01 Hpg02 HO Hth02 Htg02
  iintro ⟨Hch02, HO⟩
  iapply (curry6 (step_ag m K c 1 1 (a := 1) (b := 2) rfl rfl (Fin.ext (k0_dev17_eq c)) rfl rfl (todo17 c))) $$ HC Hgr11 Hpg12 HO Hth12 Htg12
  iintro ⟨Hch12, HO⟩
  iapply (curry3 (step_local m K c rfl units_oh _ (todo17 c) rfl)) $$ HC Hfo0 HO
  iintro ⟨⟨Hout00, Hos0⟩, Hzo0, HO⟩
  iapply (done c (a := PUnit.unit))
  iapply Hk
  isplitl [HO]; · iexact HO
  isplitl [Hch02]; · iexact Hch02
  isplitl [Hch12]; · iexact Hch12
  isplitl [Hout00]; · iexact Hout00
  isplitl [Hos0]; · iexact Hos0
  iexact Hzo0

theorem part24 (c : Dev nD) (w2 : BitVec 32) (Q : _ → sProp 𝕄) :
    Ctx m K ⊢ iprop(Flight EC (c : Thread nD τ) (SemLoc.dma 32) () Noh iprop(own1 c (outB oM (org 1 0 c) 1) fullShare (outH m (org 1 0 c) 1) ∗ own1 c (halfW osM 1) fullShare (outH m (org 1 0 c) 1)) -∗
      Owe c (todo17 c) -∗
      own1 c (slot23 agM 0 1) fullShare.left (agV m 0 1 c) -∗
      own1 c (halfW osM 0) fullShare (outH m (org 0 0 c) 0) -∗
      ownAny c (outB oM (org 0 1 c) 0) -∗
      semVal ((c : Thread nD τ), SemLoc.dma 31) 0 -∗
      own1 c (slot23 agM 1 1) fullShare.left (agV m 1 1 c) -∗
      ((Owe c (todo17 c)
        ∗ own1 c (outB oM (org 1 0 c) 1) fullShare (outH m (org 1 0 c) 1)
        ∗ own1 c (halfW osM 1) fullShare (outH m (org 1 1 c) 1)
        ∗ semVal ((c : Thread nD τ), SemLoc.dma 32) 0
        ∗ own1 c (slot23 agM 0 1) fullShare.left (agV m 0 1 c)
        ∗ Flight EC (c : Thread nD τ) (SemLoc.dma 31) () Noh iprop(own1 c (outB oM (org 0 1 c) 0) fullShare (outH m (org 0 1 c) 0) ∗ own1 c (halfW osM 0) fullShare (outH m (org 0 1 c) 0))
        ∗ own1 c (slot23 agM 1 1) fullShare.left (agV m 1 1 c)) -∗ Q ⟨⟩)
      -∗ WP c (k0_part24 (F := F) xM (Memref.isWhole_whole _) wM (Memref.isWhole_whole _) oM (Memref.isWhole_whole _) xbM (Memref.isWhole_whole _) wbM (Memref.isWhole_whole _) stM (Memref.isWhole_whole _) acM (Memref.isWhole_whole _) osM (Memref.isWhole_whole _) srM (Memref.isWhole_whole _) rrM (Memref.isWhole_whole _) qM (Memref.isWhole_whole _) agM (Memref.isWhole_whole _) amM (Memref.isWhole_whole _) cc0_scratch10 cc0_scratch11 cc0_scratch12 cc0_scratch13 cc0_scratch14 cc0_scratch15 cc0_scratch16 cc0_scratch17 cc0_scratch18 c w2 (scale m)) Q) := by
  simp only [k0_part24_eq_skeleton]; unfold k0_part24_skel
  simp only [semSignalWord, semWaitWord, Prog.lift, Prog.bind_op, Prog.bind_ret, Prog.pure_eq_ret]
  iintro #HC Hfo1 HO Hgl01 Hos0 Hout01 Hzo0 Hgl11 Hk
  iapply (curry3 (step_local m K c rfl units_oh _ (todo17 c) rfl)) $$ HC Hfo1 HO
  iintro ⟨⟨Hout10, Hos1⟩, Hzo1, HO⟩
  iapply (step_load c rfl) $$ Hgl01
  iintro Hgl01
  ihave Hos0 := (own1_any c _ _) $$ Hos0
  iapply (step_put c rfl) $$ Hos0
  iintro Hos0
  ihave Hos0 := (as1 (Y := outH m (org 0 1 c) 0) rfl) $$ Hos0
  iapply (curry3 (step_oh c (org 0 1 c) 0 _ (off11_at c 1))) $$ Hos0 Hout01 Hzo0
  iintro Hfo0
  iapply (step_load c rfl) $$ Hgl11
  iintro Hgl11
  ihave Hos1 := (own1_any c _ _) $$ Hos1
  iapply (step_put c rfl) $$ Hos1
  iintro Hos1
  ihave Hos1 := (as1 (Y := outH m (org 1 1 c) 1) rfl) $$ Hos1
  iapply (done c (a := PUnit.unit))
  iapply Hk
  isplitl [HO]; · iexact HO
  isplitl [Hout10]; · iexact Hout10
  isplitl [Hos1]; · iexact Hos1
  isplitl [Hzo1]; · iexact Hzo1
  isplitl [Hgl01]; · iexact Hgl01
  isplitl [Hfo0]; · iexact Hfo0
  iexact Hgl11

theorem part25 (c : Dev nD) (w5 w7 : BitVec 32) (Q : _ → sProp 𝕄) :
    Ctx m K ⊢ iprop(own1 c (halfW osM 1) fullShare (outH m (org 1 1 c) 1) -∗
      ownAny c (outB oM (org 1 1 c) 1) -∗
      semVal ((c : Thread nD τ), SemLoc.dma 32) 0 -∗
      cred (tallyAt (cell c (.agR 0 2)) () (amt (.agR 0 2))) -∗
      atPos ER (cell c (.agR 0 2)) 0 ∅ 0 -∗
      Owe c (todo17 c) -∗
      cred (tallyAt (cell c (.agR 1 2)) () (amt (.agR 1 2))) -∗
      atPos ER (cell c (.agR 1 2)) 0 ∅ 0 -∗
      ((Flight EC (c : Thread nD τ) (SemLoc.dma 32) () Noh iprop(own1 c (outB oM (org 1 1 c) 1) fullShare (outH m (org 1 1 c) 1) ∗ own1 c (halfW osM 1) fullShare (outH m (org 1 1 c) 1))
        ∗ Owe c (todo17 c)
        ∗ own1 c (slot23 agM 0 2) fullShare (agV m 0 2 c)
        ∗ semVal (cell c (.agR 0 2)) 0
        ∗ own1 c (slot23 agM 1 2) fullShare (agV m 1 2 c)
        ∗ semVal (cell c (.agR 1 2)) 0) -∗ Q ⟨⟩)
      -∗ WP c (k0_part25 (F := F) xM (Memref.isWhole_whole _) wM (Memref.isWhole_whole _) oM (Memref.isWhole_whole _) xbM (Memref.isWhole_whole _) wbM (Memref.isWhole_whole _) stM (Memref.isWhole_whole _) acM (Memref.isWhole_whole _) osM (Memref.isWhole_whole _) srM (Memref.isWhole_whole _) rrM (Memref.isWhole_whole _) qM (Memref.isWhole_whole _) agM (Memref.isWhole_whole _) amM (Memref.isWhole_whole _) cc0_scratch10 cc0_scratch11 cc0_scratch12 cc0_scratch13 cc0_scratch14 cc0_scratch15 cc0_scratch16 cc0_scratch17 cc0_scratch18 c w5 w7) Q) := by
  simp only [k0_part25_eq_skeleton]; unfold k0_part25_skel
  simp only [semSignalWord, semWaitWord, Prog.lift, Prog.bind_op, Prog.bind_ret, Prog.pure_eq_ret]
  iintro #HC Hos1 Hout11 Hzo1 Hcg02 Hag02 HO Hcg12 Hag12 Hk
  iapply (curry3 (step_oh c (org 1 1 c) 1 _ (off12_at c 1))) $$ Hos1 Hout11 Hzo1
  iintro Hfo1
  iapply (curry4 (step_wait m K c (.agR 0 2) (fun h => nomatch h) rfl 0 rfl (units_ag 0 2) (todo17 c) rfl (got_agR m c 0 2))) $$ HC Hcg02 HO Hag02
  iintro ⟨HO, Hgl02, Hzg02⟩
  iapply (curry4 (step_wait m K c (.agR 1 2) (fun h => nomatch h) rfl 0 rfl (units_ag 1 2) (todo17 c) rfl (got_agR m c 1 2))) $$ HC Hcg12 HO Hag12
  iintro ⟨HO, Hgl12, Hzg12⟩
  iapply (done c (a := PUnit.unit))
  iapply Hk
  isplitl [Hfo1]; · iexact Hfo1
  isplitl [HO]; · iexact HO
  isplitl [Hgl02]; · iexact Hgl02
  isplitl [Hzg02]; · iexact Hzg02
  isplitl [Hgl12]; · iexact Hgl12
  iexact Hzg12

theorem part26 (c : Dev nD) (w2 : BitVec 32) (Q : _ → sProp 𝕄) :
    Ctx m K ⊢ iprop(Flight EC (c : Thread nD τ) (SemLoc.dma 31) () Noh iprop(own1 c (outB oM (org 0 1 c) 0) fullShare (outH m (org 0 1 c) 0) ∗ own1 c (halfW osM 0) fullShare (outH m (org 0 1 c) 0)) -∗
      Owe c (todo17 c) -∗
      Flight EC (c : Thread nD τ) (SemLoc.dma 32) () Noh iprop(own1 c (outB oM (org 1 1 c) 1) fullShare (outH m (org 1 1 c) 1) ∗ own1 c (halfW osM 1) fullShare (outH m (org 1 1 c) 1)) -∗
      own1 c (slot23 agM 0 2) fullShare (agV m 0 2 c) -∗
      ownAny c (outB oM (org 0 2 c) 0) -∗
      own1 c (slot23 agM 1 2) fullShare (agV m 1 2 c) -∗
      (∀ (w : BitVec 32), (Flight EC (c : Thread nD τ) (SemLoc.dma 31) () Noh iprop(own1 c (outB oM (org 0 2 c) 0) fullShare (outH m (org 0 2 c) 0) ∗ own1 c (halfW osM 0) fullShare (outH m (org 0 2 c) 0))
        ∗ Owe c (todo17 c)
        ∗ own1 c (outB oM (org 0 1 c) 0) fullShare (outH m (org 0 1 c) 0)
        ∗ own1 c (outB oM (org 1 1 c) 1) fullShare (outH m (org 1 1 c) 1)
        ∗ own1 c (halfW osM 1) fullShare (outH m (org 1 1 c) 1)
        ∗ semVal ((c : Thread nD τ), SemLoc.dma 32) 0
        ∗ own1 c (slot23 agM 0 2) fullShare (agV m 0 2 c)
        ∗ own1 c (slot23 agM 1 2) fullShare (agV m 1 2 c)) -∗ Q ⟨w, k0_pay37 (agV m 1 2 c)⟩)
      -∗ WP c (k0_part26 (F := F) xM (Memref.isWhole_whole _) wM (Memref.isWhole_whole _) oM (Memref.isWhole_whole _) xbM (Memref.isWhole_whole _) wbM (Memref.isWhole_whole _) stM (Memref.isWhole_whole _) acM (Memref.isWhole_whole _) osM (Memref.isWhole_whole _) srM (Memref.isWhole_whole _) rrM (Memref.isWhole_whole _) qM (Memref.isWhole_whole _) agM (Memref.isWhole_whole _) amM (Memref.isWhole_whole _) cc0_scratch10 cc0_scratch11 cc0_scratch12 cc0_scratch13 cc0_scratch14 cc0_scratch15 cc0_scratch16 cc0_scratch17 cc0_scratch18 c w2 (scale m)) Q) := by
  simp only [k0_part26_eq_skeleton]; unfold k0_part26_skel
  simp only [semSignalWord, semWaitWord, Prog.lift, Prog.bind_op, Prog.bind_ret, Prog.pure_eq_ret]
  iintro #HC Hfo0 HO Hfo1 Hgl02 Hout02 Hgl12 Hk
  iapply (curry3 (step_local m K c rfl units_oh _ (todo17 c) rfl)) $$ HC Hfo0 HO
  iintro ⟨⟨Hout01, Hos0⟩, Hzo0, HO⟩
  iapply (curry3 (step_local m K c rfl units_oh _ (todo17 c) rfl)) $$ HC Hfo1 HO
  iintro ⟨⟨Hout11, Hos1⟩, Hzo1, HO⟩
  iapply (step_load c rfl) $$ Hgl02
  iintro Hgl02
  ihave Hos0 := (own1_any c _ _) $$ Hos0
  iapply (step_put c rfl) $$ Hos0
  iintro Hos0
  ihave Hos0 := (as1 (Y := outH m (org 0 2 c) 0) rfl) $$ Hos0
  iapply (curry3 (step_oh c (org 0 2 c) 0 _ (off11_at c 2))) $$ Hos0 Hout02 Hzo0
  iintro Hfo0
  iapply (step_load c rfl) $$ Hgl12
  iintro Hgl12
  iapply (done c)
  iapply Hk
  isplitl [Hfo0]; · iexact Hfo0
  isplitl [HO]; · iexact HO
  isplitl [Hout01]; · iexact Hout01
  isplitl [Hout11]; · iexact Hout11
  isplitl [Hos1]; · iexact Hos1
  isplitl [Hzo1]; · iexact Hzo1
  isplitl [Hgl02]; · iexact Hgl02
  iexact Hgl12

theorem part27 (c : Dev nD) (w : BitVec 32) (Q : _ → sProp 𝕄) :
    Ctx m K ⊢ iprop(own1 c (halfW osM 1) fullShare (outH m (org 1 1 c) 1) -∗
      ownAny c (outB oM (org 1 2 c) 1) -∗
      semVal ((c : Thread nD τ), SemLoc.dma 32) 0 -∗
      Flight EC (c : Thread nD τ) (SemLoc.dma 31) () Noh iprop(own1 c (outB oM (org 0 2 c) 0) fullShare (outH m (org 0 2 c) 0) ∗ own1 c (halfW osM 0) fullShare (outH m (org 0 2 c) 0)) -∗
      Owe c (todo17 c) -∗
      cred (tallyAt (cell c (.rsS 0 1)) () (amt (.rsS 0 1))) -∗
      atPos ER (cell c (.rsS 0 1)) 0 ∅ 0 -∗
      ((own1 c (halfW osM 1) fullShare (outH m (org 1 2 c) 1)
        ∗ own1 c (outB oM (org 1 2 c) 1) fullShare (outH m (org 1 2 c) 1)
        ∗ semVal ((c : Thread nD τ), SemLoc.dma 32) 0
        ∗ Owe c (todo17 c)
        ∗ own1 c (outB oM (org 0 2 c) 0) fullShare (outH m (org 0 2 c) 0)
        ∗ own1 c (halfW osM 0) fullShare (outH m (org 0 2 c) 0)
        ∗ semVal ((c : Thread nD τ), SemLoc.dma 31) 0
        ∗ ownAny c (slot22 srM 0 1)
        ∗ semVal (cell c (.rsS 0 1)) 0) -∗ Q ⟨⟩)
      -∗ WP c (k0_part27 (F := F) xM (Memref.isWhole_whole _) wM (Memref.isWhole_whole _) oM (Memref.isWhole_whole _) xbM (Memref.isWhole_whole _) wbM (Memref.isWhole_whole _) stM (Memref.isWhole_whole _) acM (Memref.isWhole_whole _) osM (Memref.isWhole_whole _) srM (Memref.isWhole_whole _) rrM (Memref.isWhole_whole _) qM (Memref.isWhole_whole _) agM (Memref.isWhole_whole _) amM (Memref.isWhole_whole _) cc0_scratch10 cc0_scratch11 cc0_scratch12 cc0_scratch13 cc0_scratch14 cc0_scratch15 cc0_scratch16 cc0_scratch17 cc0_scratch18 c (scale m) w (k0_pay37 (agV m 1 2 c))) Q) := by
  simp only [k0_part27_eq_skeleton]; unfold k0_part27_skel
  simp only [semSignalWord, semWaitWord, Prog.lift, Prog.bind_op, Prog.bind_ret, Prog.pure_eq_ret]
  iintro #HC Hos1 Hout12 Hzo1 Hfo0 HO Hcs01 Has01 Hk
  ihave Hos1 := (own1_any c _ _) $$ Hos1
  iapply (step_put c rfl) $$ Hos1
  iintro Hos1
  ihave Hos1 := (as1 (Y := outH m (org 1 2 c) 1) rfl) $$ Hos1
  iapply (curry3 (step_oh c (org 1 2 c) 1 _ (off12_at c 2))) $$ Hos1 Hout12 Hzo1
  iintro Hfo1
  iapply (curry3 (step_local m K c rfl units_oh _ (todo17 c) rfl)) $$ HC Hfo0 HO
  iintro ⟨⟨Hout02, Hos0⟩, Hzo0, HO⟩
  iapply (curry3 (step_local m K c rfl units_oh _ (todo17 c) rfl)) $$ HC Hfo1 HO
  iintro ⟨⟨Hout12, Hos1⟩, Hzo1, HO⟩
  iapply (curry4 (step_wait m K c (.rsS 0 1) (fun h => nomatch h) rfl 0 rfl (units_sr 0 1) (todo17 c) rfl (got_rsS m c 0 1))) $$ HC Hcs01 HO Has01
  iintro ⟨HO, Hsr01, Hzs01⟩
  iapply (done c (a := PUnit.unit))
  iapply Hk
  isplitl [Hos1]; · iexact Hos1
  isplitl [Hout12]; · iexact Hout12
  isplitl [Hzo1]; · iexact Hzo1
  isplitl [HO]; · iexact HO
  isplitl [Hout02]; · iexact Hout02
  isplitl [Hos0]; · iexact Hos0
  isplitl [Hzo0]; · iexact Hzo0
  isplitl [Hsr01]; · iexact Hsr01
  iexact Hzs01

theorem part28 (c : Dev nD) (Q : _ → sProp 𝕄) :
    Ctx m K ⊢ iprop(cred (tallyAt (cell c (.rsS 1 1)) () (amt (.rsS 1 1))) -∗
      atPos ER (cell c (.rsS 1 1)) 0 ∅ 0 -∗
      Owe c (todo17 c) -∗
      cred (tallyAt (cell c (.rsS 0 0)) () (amt (.rsS 0 0))) -∗
      atPos ER (cell c (.rsS 0 0)) (0 + 1) ∅ 0 -∗
      cred (tallyAt (cell c (.rsS 1 0)) () (amt (.rsS 1 0))) -∗
      atPos ER (cell c (.rsS 1 0)) (0 + 1) ∅ 0 -∗
      ((Owe c (todo17 c)
        ∗ ownAny c (slot22 srM 1 1)
        ∗ semVal (cell c (.rsS 1 1)) 0
        ∗ ownAny c (slot22 srM 0 0)
        ∗ semVal (cell c (.rsS 0 0)) 0
        ∗ ownAny c (slot22 srM 1 0)
        ∗ semVal (cell c (.rsS 1 0)) 0) -∗ Q ⟨⟩)
      -∗ WP c (k0_part28 (F := F) xM (Memref.isWhole_whole _) wM (Memref.isWhole_whole _) oM (Memref.isWhole_whole _) xbM (Memref.isWhole_whole _) wbM (Memref.isWhole_whole _) stM (Memref.isWhole_whole _) acM (Memref.isWhole_whole _) osM (Memref.isWhole_whole _) srM (Memref.isWhole_whole _) rrM (Memref.isWhole_whole _) qM (Memref.isWhole_whole _) agM (Memref.isWhole_whole _) amM (Memref.isWhole_whole _) cc0_scratch10 cc0_scratch11 cc0_scratch12 cc0_scratch13 cc0_scratch14 cc0_scratch15 cc0_scratch16 cc0_scratch17 cc0_scratch18) Q) := by
  simp only [k0_part28_eq_skeleton]; unfold k0_part28_skel
  simp only [semSignalWord, semWaitWord, Prog.lift, Prog.bind_op, Prog.bind_ret, Prog.pure_eq_ret]
  iintro #HC Hcs11 Has11 HO Hcs00 Has00 Hcs10 Has10 Hk
  iapply (curry4 (step_wait m K c (.rsS 1 1) (fun h => nomatch h) rfl 0 rfl (units_sr 1 1) (todo17 c) rfl (got_rsS m c 1 1))) $$ HC Hcs11 HO Has11
  iintro ⟨HO, Hsr11, Hzs11⟩
  iapply (curry4 (step_wait m K c (.rsS 0 0) (fun h => nomatch h) rfl (0 + 1) rfl (units_sr 0 0) (todo17 c) rfl (got_rsS m c 0 0))) $$ HC Hcs00 HO Has00
  iintro ⟨HO, Hsr00, Hzs00⟩
  iapply (curry4 (step_wait m K c (.rsS 1 0) (fun h => nomatch h) rfl (0 + 1) rfl (units_sr 1 0) (todo17 c) rfl (got_rsS m c 1 0))) $$ HC Hcs10 HO Has10
  iintro ⟨HO, Hsr10, Hzs10⟩
  iapply (done c (a := PUnit.unit))
  iapply Hk
  isplitl [HO]; · iexact HO
  isplitl [Hsr11]; · iexact Hsr11
  isplitl [Hzs11]; · iexact Hzs11
  isplitl [Hsr00]; · iexact Hsr00
  isplitl [Hzs00]; · iexact Hzs00
  isplitl [Hsr10]; · iexact Hsr10
  iexact Hzs10

theorem part29 (c : Dev nD) (Q : _ → sProp 𝕄) :
    Ctx m K ⊢ iprop(cred (tallyAt (cell c (.amS 0)) () (amt (.amS 0))) -∗
      atPos ER (cell c (.amS 0)) 0 ∅ 0 -∗
      Owe c (todo17 c) -∗
      cred (tallyAt (cell c (.amS 1)) () (amt (.amS 1))) -∗
      atPos ER (cell c (.amS 1)) 0 ∅ 0 -∗
      cred (tallyAt (cell c (.amS 2)) () (amt (.amS 2))) -∗
      atPos ER (cell c (.amS 2)) 0 ∅ 0 -∗
      cred (tallyAt (cell c (.agS 0 0)) () (amt (.agS 0 0))) -∗
      atPos ER (cell c (.agS 0 0)) 0 ∅ 0 -∗
      ((Owe c (todo17 c)
        ∗ own1 c (amxW amM c) (shA 0) (amx m c)
        ∗ semVal (cell c (.amS 0)) 0
        ∗ own1 c (amxW amM c) (shA 1) (amx m c)
        ∗ semVal (cell c (.amS 1)) 0
        ∗ own1 c (amxW amM c) (shA 2) (amx m c)
        ∗ semVal (cell c (.amS 2)) 0
        ∗ own1 c (halfW qM 0) fullShare.right (qv m c 0)
        ∗ semVal (cell c (.agS 0 0)) 0) -∗ Q ⟨⟩)
      -∗ WP c (k0_part29 (F := F) xM (Memref.isWhole_whole _) wM (Memref.isWhole_whole _) oM (Memref.isWhole_whole _) xbM (Memref.isWhole_whole _) wbM (Memref.isWhole_whole _) stM (Memref.isWhole_whole _) acM (Memref.isWhole_whole _) osM (Memref.isWhole_whole _) srM (Memref.isWhole_whole _) rrM (Memref.isWhole_whole _) qM (Memref.isWhole_whole _) agM (Memref.isWhole_whole _) amM (Memref.isWhole_whole _) cc0_scratch10 cc0_scratch11 cc0_scratch12 cc0_scratch13 cc0_scratch14 cc0_scratch15 cc0_scratch16 cc0_scratch17 cc0_scratch18 c) Q) := by
  simp only [k0_part29_eq_skeleton]; unfold k0_part29_skel
  simp only [semSignalWord, semWaitWord, Prog.lift, Prog.bind_op, Prog.bind_ret, Prog.pure_eq_ret]
  iintro #HC Hcm0s Ham0s HO Hcm1s Ham1s Hcm2s Ham2s Hch00 Hah00 Hk
  iapply (curry4 (step_wait m K c (.amS 0) (fun h => nomatch h) rfl 0 rfl units_am (todo17 c) rfl (got_amS m c 0))) $$ HC Hcm0s HO Ham0s
  iintro ⟨HO, Hamo0, Hzm0s⟩
  iapply (curry4 (step_wait m K c (.amS 1) (fun h => nomatch h) rfl 0 rfl units_am (todo17 c) rfl (got_amS m c 1))) $$ HC Hcm1s HO Ham1s
  iintro ⟨HO, Hamo1, Hzm1s⟩
  iapply (curry4 (step_wait m K c (.amS 2) (fun h => nomatch h) rfl 0 rfl units_am (todo17 c) rfl (got_amS m c 2))) $$ HC Hcm2s HO Ham2s
  iintro ⟨HO, Hamo2, Hzm2s⟩
  iapply (curry4 (step_wait m K c (.agS 0 0) (fun h => nomatch h) rfl 0 rfl (units_q 0) (todo17 c) rfl (got_agS0 m c 0))) $$ HC Hch00 HO Hah00
  iintro ⟨HO, Hq0r, Hzh00⟩
  iapply (done c (a := PUnit.unit))
  iapply Hk
  isplitl [HO]; · iexact HO
  isplitl [Hamo0]; · iexact Hamo0
  isplitl [Hzm0s]; · iexact Hzm0s
  isplitl [Hamo1]; · iexact Hamo1
  isplitl [Hzm1s]; · iexact Hzm1s
  isplitl [Hamo2]; · iexact Hamo2
  isplitl [Hzm2s]; · iexact Hzm2s
  isplitl [Hq0r]; · iexact Hq0r
  iexact Hzh00

theorem part30 (c : Dev nD) (Q : _ → sProp 𝕄) :
    Ctx m K ⊢ iprop(cred (tallyAt (cell c (.agS 1 0)) () (amt (.agS 1 0))) -∗
      atPos ER (cell c (.agS 1 0)) 0 ∅ 0 -∗
      Owe c (todo17 c) -∗
      cred (tallyAt (cell c (.agS 0 1)) () (amt (.agS 0 1))) -∗
      atPos ER (cell c (.agS 0 1)) 0 ∅ 0 -∗
      cred (tallyAt (cell c (.agS 1 1)) () (amt (.agS 1 1))) -∗
      atPos ER (cell c (.agS 1 1)) 0 ∅ 0 -∗
      ((Owe c (todo17 c)
        ∗ own1 c (halfW qM 1) fullShare.right (qv m c 1)
        ∗ semVal (cell c (.agS 1 0)) 0
        ∗ own1 c (slot23 agM 0 0) fullShare.right (agV m 0 0 c)
        ∗ semVal (cell c (.agS 0 1)) 0
        ∗ own1 c (slot23 agM 1 0) fullShare.right (agV m 1 0 c)
        ∗ semVal (cell c (.agS 1 1)) 0) -∗ Q ⟨⟩)
      -∗ WP c (k0_part30 (F := F) xM (Memref.isWhole_whole _) wM (Memref.isWhole_whole _) oM (Memref.isWhole_whole _) xbM (Memref.isWhole_whole _) wbM (Memref.isWhole_whole _) stM (Memref.isWhole_whole _) acM (Memref.isWhole_whole _) osM (Memref.isWhole_whole _) srM (Memref.isWhole_whole _) rrM (Memref.isWhole_whole _) qM (Memref.isWhole_whole _) agM (Memref.isWhole_whole _) amM (Memref.isWhole_whole _) cc0_scratch10 cc0_scratch11 cc0_scratch12 cc0_scratch13 cc0_scratch14 cc0_scratch15 cc0_scratch16 cc0_scratch17 cc0_scratch18) Q) := by
  simp only [k0_part30_eq_skeleton]; unfold k0_part30_skel
  simp only [semSignalWord, semWaitWord, Prog.lift, Prog.bind_op, Prog.bind_ret, Prog.pure_eq_ret]
  iintro #HC Hch10 Hah10 HO Hch01 Hah01 Hch11 Hah11 Hk
  iapply (curry4 (step_wait m K c (.agS 1 0) (fun h => nomatch h) rfl 0 rfl (units_q 1) (todo17 c) rfl (got_agS0 m c 1))) $$ HC Hch10 HO Hah10
  iintro ⟨HO, Hq1r, Hzh10⟩
  iapply (curry4 (step_wait m K c (.agS 0 1) (fun h => nomatch h) rfl 0 rfl (units_ag 0 0) (todo17 c) rfl (got_agS1 m c 0))) $$ HC Hch01 HO Hah01
  iintro ⟨HO, Hgr00, Hzh01⟩
  iapply (curry4 (step_wait m K c (.agS 1 1) (fun h => nomatch h) rfl 0 rfl (units_ag 1 0) (todo17 c) rfl (got_agS1 m c 1))) $$ HC Hch11 HO Hah11
  iintro ⟨HO, Hgr10, Hzh11⟩
  iapply (done c (a := PUnit.unit))
  iapply Hk
  isplitl [HO]; · iexact HO
  isplitl [Hq1r]; · iexact Hq1r
  isplitl [Hzh10]; · iexact Hzh10
  isplitl [Hgr00]; · iexact Hgr00
  isplitl [Hzh01]; · iexact Hzh01
  isplitl [Hgr10]; · iexact Hgr10
  iexact Hzh11

end Cert.KernelIdeal.Run

end
-- ==== Proof.Body.lean ====
/-
# The body as a whole

The parts one after another.
-/
module

public import proofs.«01_k».proof.Proof.BodyA
public import proofs.«01_k».proof.Proof.BodyB
public import proofs.«01_k».proof.Proof.BodyC
public import proofs.«01_k».proof.Proof.BodyD

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)

variable {F : FTy → Type} [FloatOps F]

local notation "𝕄" => MT nD τ sig Unit (Elt F) ℕ UU ℕ

variable (m : (ℓ : Loc nD τ sig) → Buf (Elt F) ℓ)

variable (K : Dev nD × Fin 30 → ℕ)

theorem seq_wp {α β : Type} (c : Dev nD) {p : Prog (TpuEff nD τ sig (Elt F) Λ₀ .tc) α} {k : α → Prog (TpuEff nD τ sig (Elt F) Λ₀ .tc) β} {Q : β → sProp 𝕄} :
    WP c p (fun a => WP c (k a) Q) ⊢ WP c (p >>= k) Q := by
  unfold WP; rw [wp_bind]

/-- All but the last wait. -/
theorem part31 (c : Dev nD) (Q : _ → sProp 𝕄) :
    Ctx m K ⊢ iprop(Owe c (todo0 c) -∗
      own1 c (halfW wM 0) fullShare (wv m c 0) -∗
      own1 c (halfW wM 1) fullShare (wv m c 1) -∗
      own1 c (rowsW xM (fwd 0 c)) fullShare (xv m c (fwd 0 c)) -∗
      own1 c (rowsW xM (fwd 1 c)) fullShare (xv m c (fwd 1 c)) -∗
      own1 c (rowsW xM (fwd 2 c)) fullShare (xv m c (fwd 2 c)) -∗
      own1 c (rowsW xM (fwd 3 c)) fullShare (xv m c (fwd 3 c)) -∗
      ownAny c (stageW stM 0) -∗
      ownAny c (stageW stM 1) -∗
      ownAny c (halfW wbM 0) -∗
      ownAny c (halfW wbM 1) -∗
      ownAny c (rowsW xbM (fwd 0 c)) -∗
      ownAny c (rowsW xbM (fwd 1 c)) -∗
      ownAny c (rowsW xbM (fwd 2 c)) -∗
      ownAny c (rowsW xbM (fwd 3 c)) -∗
      ownAny c (halfW acM 0) -∗
      ownAny c (halfW acM 1) -∗
      ownAny c (fullW osM) -∗
      ownAny c (slot22 srM 0 0) -∗
      ownAny c (slot22 srM 0 1) -∗
      ownAny c (slot22 srM 1 0) -∗
      ownAny c (slot22 srM 1 1) -∗
      ownAny c (halfW qM 0) -∗
      ownAny c (halfW qM 1) -∗
      ownAny c (amxW amM c) -∗
      ownAny c (outRow oM c) -∗
      ownAny c (outB oM (org 0 0 c) 0) -∗
      ownAny c (outB oM (org 0 1 c) 0) -∗
      ownAny c (outB oM (org 0 2 c) 0) -∗
      ownAny c (outB oM (org 1 0 c) 1) -∗
      ownAny c (outB oM (org 1 1 c) 1) -∗
      ownAny c (outB oM (org 1 2 c) 1) -∗
      semVal ((c : Thread nD τ), SemLoc.dma 0) 0 -∗
      semVal ((c : Thread nD τ), SemLoc.dma 1) 0 -∗
      semVal ((c : Thread nD τ), SemLoc.dma 31) 0 -∗
      semVal ((c : Thread nD τ), SemLoc.dma 32) 0 -∗
      semVal ((c : Thread nD τ), SemLoc.dma 33) 0 -∗
      dutyTok ER (cell (prv c) .bar) 0 false -∗
      dutyTok ER (cell (nxt c) .bar) 0 true -∗
      barPay (prv c) false -∗
      barPay (nxt c) true -∗
      cred (tallyAt (cell c .bar) () 2) -∗
      atPos ER (cell c .bar) 0 ∅ 0 -∗
      atPos ER (cell c (.rsS 0 0)) 0 ∅ 0 -∗
      dutyTok ER (cell c (.rsS 0 0)) 0 false -∗
      atPos ER (cell c (.rsS 0 1)) 0 ∅ 0 -∗
      dutyTok ER (cell c (.rsS 0 1)) 0 false -∗
      dutyTok ER (cell c (.rsS 0 0)) 1 false -∗
      atPos ER (cell c (.rsR 0 0)) 0 ∅ 0 -∗
      cred (tallyAt (cell c (.rsR 0 0)) () (amt (.rsR 0 0))) -∗
      dutyTok ER (cell (tgt 0 c) (.rsR 0 0)) 0 false -∗
      atPos ER (cell c (.agR 0 0)) 0 ∅ 0 -∗
      cred (tallyAt (cell c (.agR 0 0)) () (amt (.agR 0 0))) -∗
      dutyTok ER (cell (tgt 0 c) (.agR 0 0)) 0 false -∗
      atPos ER (cell c (.agS 0 0)) 0 ∅ 0 -∗
      dutyTok ER (cell c (.agS 0 0)) 0 false -∗
      atPos ER (cell c (.rsR 0 1)) 0 ∅ 0 -∗
      cred (tallyAt (cell c (.rsR 0 1)) () (amt (.rsR 0 1))) -∗
      dutyTok ER (cell (tgt 0 c) (.rsR 0 1)) 0 false -∗
      atPos ER (cell c (.agR 0 1)) 0 ∅ 0 -∗
      cred (tallyAt (cell c (.agR 0 1)) () (amt (.agR 0 1))) -∗
      dutyTok ER (cell (tgt 0 c) (.agR 0 1)) 0 false -∗
      atPos ER (cell c (.agS 0 1)) 0 ∅ 0 -∗
      dutyTok ER (cell c (.agS 0 1)) 0 false -∗
      atPos ER (cell c (.rsR 0 2)) 0 ∅ 0 -∗
      cred (tallyAt (cell c (.rsR 0 2)) () (amt (.rsR 0 2))) -∗
      dutyTok ER (cell (tgt 0 c) (.rsR 0 2)) 0 false -∗
      atPos ER (cell c (.agR 0 2)) 0 ∅ 0 -∗
      cred (tallyAt (cell c (.agR 0 2)) () (amt (.agR 0 2))) -∗
      dutyTok ER (cell (tgt 0 c) (.agR 0 2)) 0 false -∗
      atPos ER (cell c (.agS 0 2)) 0 ∅ 0 -∗
      dutyTok ER (cell c (.agS 0 2)) 0 false -∗
      atPos ER (cell c (.rsS 1 0)) 0 ∅ 0 -∗
      dutyTok ER (cell c (.rsS 1 0)) 0 false -∗
      atPos ER (cell c (.rsS 1 1)) 0 ∅ 0 -∗
      dutyTok ER (cell c (.rsS 1 1)) 0 false -∗
      dutyTok ER (cell c (.rsS 1 0)) 1 false -∗
      atPos ER (cell c (.rsR 1 0)) 0 ∅ 0 -∗
      cred (tallyAt (cell c (.rsR 1 0)) () (amt (.rsR 1 0))) -∗
      dutyTok ER (cell (tgt 1 c) (.rsR 1 0)) 0 false -∗
      atPos ER (cell c (.agR 1 0)) 0 ∅ 0 -∗
      cred (tallyAt (cell c (.agR 1 0)) () (amt (.agR 1 0))) -∗
      dutyTok ER (cell (tgt 1 c) (.agR 1 0)) 0 false -∗
      atPos ER (cell c (.agS 1 0)) 0 ∅ 0 -∗
      dutyTok ER (cell c (.agS 1 0)) 0 false -∗
      atPos ER (cell c (.rsR 1 1)) 0 ∅ 0 -∗
      cred (tallyAt (cell c (.rsR 1 1)) () (amt (.rsR 1 1))) -∗
      dutyTok ER (cell (tgt 1 c) (.rsR 1 1)) 0 false -∗
      atPos ER (cell c (.agR 1 1)) 0 ∅ 0 -∗
      cred (tallyAt (cell c (.agR 1 1)) () (amt (.agR 1 1))) -∗
      dutyTok ER (cell (tgt 1 c) (.agR 1 1)) 0 false -∗
      atPos ER (cell c (.agS 1 1)) 0 ∅ 0 -∗
      dutyTok ER (cell c (.agS 1 1)) 0 false -∗
      atPos ER (cell c (.rsR 1 2)) 0 ∅ 0 -∗
      cred (tallyAt (cell c (.rsR 1 2)) () (amt (.rsR 1 2))) -∗
      dutyTok ER (cell (tgt 1 c) (.rsR 1 2)) 0 false -∗
      atPos ER (cell c (.agR 1 2)) 0 ∅ 0 -∗
      cred (tallyAt (cell c (.agR 1 2)) () (amt (.agR 1 2))) -∗
      dutyTok ER (cell (tgt 1 c) (.agR 1 2)) 0 false -∗
      atPos ER (cell c (.agS 1 2)) 0 ∅ 0 -∗
      dutyTok ER (cell c (.agS 1 2)) 0 false -∗
      atPos ER (cell c (.amS 0)) 0 ∅ 0 -∗
      dutyTok ER (cell c (.amS 0)) 0 false -∗
      dutyTok ER (cell (fwd 1 c) (.amR c)) 0 false -∗
      atPos ER (cell c (.amR (fwd 1 c))) 0 ∅ 0 -∗
      cred (tallyAt (cell c (.amR (fwd 1 c))) () (amt (.amR (fwd 1 c)))) -∗
      atPos ER (cell c (.amS 1)) 0 ∅ 0 -∗
      dutyTok ER (cell c (.amS 1)) 0 false -∗
      dutyTok ER (cell (fwd 2 c) (.amR c)) 0 false -∗
      atPos ER (cell c (.amR (fwd 2 c))) 0 ∅ 0 -∗
      cred (tallyAt (cell c (.amR (fwd 2 c))) () (amt (.amR (fwd 2 c)))) -∗
      atPos ER (cell c (.amS 2)) 0 ∅ 0 -∗
      dutyTok ER (cell c (.amS 2)) 0 false -∗
      dutyTok ER (cell (fwd 3 c) (.amR c)) 0 false -∗
      atPos ER (cell c (.amR (fwd 3 c))) 0 ∅ 0 -∗
      cred (tallyAt (cell c (.amR (fwd 3 c))) () (amt (.amR (fwd 3 c)))) -∗
      ((atPos ER (cell c (.agS 1 2)) 0 ∅ 0
        ∗ own1 c (halfW wM 0) fullShare (wv m c 0)
        ∗ own1 c (halfW wM 1) fullShare (wv m c 1)
        ∗ own1 c (rowsW xM (fwd 3 c)) fullShare (xv m c (fwd 3 c))
        ∗ own1 c (rowsW xM (fwd 1 c)) fullShare (xv m c (fwd 1 c))
        ∗ semVal (cell c .bar) 0
        ∗ own1 c (stageW stM 0) fullShare (lift3 (xv m c (fwd 2 c)))
        ∗ own1 c (rowsW xM (fwd 2 c)) fullShare (xv m c (fwd 2 c))
        ∗ semVal ((c : Thread nD τ), SemLoc.dma 0) 0
        ∗ own1 c (rowsW xbM (fwd 2 c)) fullShare (xb m c (fwd 2 c))
        ∗ semVal (cell c (.rsR 0 0)) 0
        ∗ own1 c (slot23 rrM 1 0) fullShare (sV m 1 0 (src 1 c))
        ∗ semVal (cell c (.rsR 1 0)) 0
        ∗ own1 c (slot23 rrM 0 0) fullShare (sV m 0 0 (src 0 c))
        ∗ own1 c (stageW stM 1) fullShare (lift3 (xv m c (fwd 0 c)))
        ∗ own1 c (rowsW xM (fwd 0 c)) fullShare (xv m c (fwd 0 c))
        ∗ semVal ((c : Thread nD τ), SemLoc.dma 1) 0
        ∗ own1 c (rowsW xbM (fwd 1 c)) fullShare (xb m c (fwd 1 c))
        ∗ own1 c (rowsW xbM (fwd 3 c)) fullShare (xb m c (fwd 3 c))
        ∗ semVal (cell c (.rsR 0 1)) 0
        ∗ semVal (cell c (.rsR 1 1)) 0
        ∗ own1 c (slot23 rrM 0 1) fullShare (sV m 0 1 (src 0 c))
        ∗ own1 c (slot23 rrM 1 1) fullShare (sV m 1 1 (src 1 c))
        ∗ own1 c (rowsW xbM (fwd 0 c)) fullShare (xb m c (fwd 0 c))
        ∗ own1 c (halfW wbM 0) fullShare (wb m c 0)
        ∗ own1 c (halfW wbM 1) fullShare (wb m c 1)
        ∗ own1 c (slot23 rrM 0 2) fullShare (sV m 0 2 (src 0 c))
        ∗ semVal (cell c (.rsR 0 2)) 0
        ∗ semVal (cell c (.rsR 1 2)) 0
        ∗ own1 c (slot23 rrM 1 2) fullShare (sV m 1 2 (src 1 c))
        ∗ semVal (cell c (.amR (fwd 1 c))) 0
        ∗ semVal (cell c (.amR (fwd 2 c))) 0
        ∗ semVal (cell c (.amR (fwd 3 c))) 0
        ∗ own1 c (amxW amM (fwd 1 c)) fullShare.right (amx m (fwd 1 c))
        ∗ own1 c (amxW amM (fwd 2 c)) fullShare.right (amx m (fwd 2 c))
        ∗ own1 c (amxW amM (fwd 3 c)) fullShare.right (amx m (fwd 3 c))
        ∗ own1 c (amxAll amM) fullShare.left (amxA m)
        ∗ own1 c (halfW acM 0) fullShare (acc m c 0)
        ∗ own1 c (halfW acM 1) fullShare (acc m c 1)
        ∗ own1 c (fullW qM) fullShare.left (qw m c)
        ∗ semVal (cell c (.agR 0 0)) 0
        ∗ semVal (cell c (.agR 1 0)) 0
        ∗ own1 c (outRow oM c) fullShare (outW m c)
        ∗ semVal ((c : Thread nD τ), SemLoc.dma 33) 0
        ∗ own1 c (slot23 agM 0 0) fullShare.left (agV m 0 0 c)
        ∗ own1 c (slot23 agM 1 0) fullShare.left (agV m 1 0 c)
        ∗ semVal (cell c (.agR 0 1)) 0
        ∗ semVal (cell c (.agR 1 1)) 0
        ∗ cred (tallyAt (cell c (.agS 1 2)) () (amt (.agS 1 2)))
        ∗ own1 c (outB oM (org 0 0 c) 0) fullShare (outH m (org 0 0 c) 0)
        ∗ own1 c (outB oM (org 1 0 c) 1) fullShare (outH m (org 1 0 c) 1)
        ∗ own1 c (slot23 agM 0 1) fullShare.left (agV m 0 1 c)
        ∗ own1 c (slot23 agM 1 1) fullShare.left (agV m 1 1 c)
        ∗ semVal (cell c (.agR 0 2)) 0
        ∗ semVal (cell c (.agR 1 2)) 0
        ∗ own1 c (outB oM (org 0 1 c) 0) fullShare (outH m (org 0 1 c) 0)
        ∗ own1 c (outB oM (org 1 1 c) 1) fullShare (outH m (org 1 1 c) 1)
        ∗ own1 c (slot23 agM 0 2) fullShare (agV m 0 2 c)
        ∗ own1 c (slot23 agM 1 2) fullShare (agV m 1 2 c)
        ∗ own1 c (halfW osM 1) fullShare (outH m (org 1 2 c) 1)
        ∗ own1 c (outB oM (org 1 2 c) 1) fullShare (outH m (org 1 2 c) 1)
        ∗ semVal ((c : Thread nD τ), SemLoc.dma 32) 0
        ∗ own1 c (outB oM (org 0 2 c) 0) fullShare (outH m (org 0 2 c) 0)
        ∗ own1 c (halfW osM 0) fullShare (outH m (org 0 2 c) 0)
        ∗ semVal ((c : Thread nD τ), SemLoc.dma 31) 0
        ∗ ownAny c (slot22 srM 0 1)
        ∗ semVal (cell c (.rsS 0 1)) 0
        ∗ ownAny c (slot22 srM 1 1)
        ∗ semVal (cell c (.rsS 1 1)) 0
        ∗ ownAny c (slot22 srM 0 0)
        ∗ semVal (cell c (.rsS 0 0)) 0
        ∗ ownAny c (slot22 srM 1 0)
        ∗ semVal (cell c (.rsS 1 0)) 0
        ∗ own1 c (amxW amM c) (shA 0) (amx m c)
        ∗ semVal (cell c (.amS 0)) 0
        ∗ own1 c (amxW amM c) (shA 1) (amx m c)
        ∗ semVal (cell c (.amS 1)) 0
        ∗ own1 c (amxW amM c) (shA 2) (amx m c)
        ∗ semVal (cell c (.amS 2)) 0
        ∗ own1 c (halfW qM 0) fullShare.right (qv m c 0)
        ∗ semVal (cell c (.agS 0 0)) 0
        ∗ Owe c (todo17 c)
        ∗ own1 c (halfW qM 1) fullShare.right (qv m c 1)
        ∗ semVal (cell c (.agS 1 0)) 0
        ∗ own1 c (slot23 agM 0 0) fullShare.right (agV m 0 0 c)
        ∗ semVal (cell c (.agS 0 1)) 0
        ∗ own1 c (slot23 agM 1 0) fullShare.right (agV m 1 0 c)
        ∗ semVal (cell c (.agS 1 1)) 0
        ∗ own1 c (slot23 agM 0 1) fullShare.right (agV m 0 1 c)
        ∗ semVal (cell c (.agS 0 2)) 0) -∗ Q ⟨⟩)
      -∗ WP c (k0_part31 (F := F) xM (Memref.isWhole_whole _) wM (Memref.isWhole_whole _) oM (Memref.isWhole_whole _) xbM (Memref.isWhole_whole _) wbM (Memref.isWhole_whole _) stM (Memref.isWhole_whole _) acM (Memref.isWhole_whole _) osM (Memref.isWhole_whole _) srM (Memref.isWhole_whole _) rrM (Memref.isWhole_whole _) qM (Memref.isWhole_whole _) agM (Memref.isWhole_whole _) amM (Memref.isWhole_whole _) cc0_scratch10 cc0_scratch11 cc0_scratch12 cc0_scratch13 cc0_scratch14 cc0_scratch15 cc0_scratch16 cc0_scratch17 cc0_scratch18) Q) := by
  simp only [k0_part31_eq_skeleton]; unfold k0_part31_skel
  iintro #HC HO Hw0 Hw1 Hx0 Hx1 Hx2 Hx3 Hst0 Hst1 Hwb0 Hwb1 Hxb0 Hxb1 Hxb2 Hxb3 Hac0 Hac1 Hos Hsr00 Hsr01 Hsr10 Hsr11 Hq0 Hq1 Ham Hout Hout00 Hout01 Hout02 Hout10 Hout11 Hout12 Hz0 Hz1 Hzo0 Hzo1 Hzown Htb0 Htb1 Hbp0 Hbp1 Hcb Hab Has00 Hts00 Has01 Hts01 Hts00b Har00 Hcr00 Htr00 Hag00 Hcg00 Htg00 Hah00 Hth00 Har01 Hcr01 Htr01 Hag01 Hcg01 Htg01 Hah01 Hth01 Har02 Hcr02 Htr02 Hag02 Hcg02 Htg02 Hah02 Hth02 Has10 Hts10 Has11 Hts11 Hts10b Har10 Hcr10 Htr10 Hag10 Hcg10 Htg10 Hah10 Hth10 Har11 Hcr11 Htr11 Hag11 Hcg11 Htg11 Hah11 Hth11 Har12 Hcr12 Htr12 Hag12 Hcg12 Htg12 Hah12 Hth12 Ham0s Htm0s Htm0r Ham0r Hcm0r Ham1s Htm1s Htm1r Ham1r Hcm1r Ham2s Htm2s Htm2r Ham2r Hcm2r Hk
  iapply (seq_wp c)
  iapply (part1 m K c) $$ HC HO Htb0 Hbp0 Htb1 Hbp1
  iintro %w21 %w51 %w71 %w141 %w161 %w181 %w201 HO
  try dsimp only
  iapply (seq_wp c)
  iapply (part2 m K c) $$ HC Hw0 Hst0 Hz0 Hw1 Hst1 Hz1 HO Hwb0 Hx3
  iintro ⟨Hw0, Hf0, Hf1, HO, Hwb0⟩
  try dsimp only
  iapply (seq_wp c)
  iapply (part3 m K c _) $$ HC Hf1 HO Hwb1 Hx1 Hf0 Hxb3
  iintro ⟨Hf1, HO, Hw1, Hwb1, Hst0, Hx3, Hz0, Hxb3⟩
  try dsimp only
  iapply (seq_wp c)
  iapply (part4 m K c _ _) $$ HC Hx2 Hst0 Hz0 Hf1 HO Hxb1 Hx0 Hcb Hab Hxb3 Hwb0
  iintro ⟨Hf0, Hf1, HO, Hx1, Hxb1, Hzb, Hpr00, Hpg00, Hpr01, Hpg01, Hpr02, Hpg02, Hpr10, Hpg10, Hpr11, Hpg11, Hpr12, Hpg12, Hpn, Hpm2, Hpp, Hxb3, Hwb0⟩
  try dsimp only
  iapply (seq_wp c)
  iapply (part5 m K c _ _) $$ HC Hxb1 Hwb1 Hsr00 Hpr00 HO Hts00 Htr00 Hsr10
  iintro ⟨Hxb1, Hwb1, HO, Hcs00, Hsr10⟩
  try dsimp only
  iapply (seq_wp c)
  iapply (part6 m K c _ _ _) $$ HC Hsr10 Hpr10 HO Hts10 Htr10 Hpm2 Hf0 Hxb2
  iintro ⟨HO, Hcs10, Hst0, Hx2, Hz0, Hxb2⟩
  try dsimp only
  iapply (seq_wp c)
  iapply (part7 m K c _ _ _) $$ HC Hxb2 Hwb0 Hwb1 Hcr00 Har00 HO
  iintro ⟨Hxb2, Hwb0, Hwb1, HO, Hrr00, Hzr00⟩
  try dsimp only
  iapply (seq_wp c)
  iapply (part8 m K c _) $$ HC Hcr10 Har10 HO Hrr00 Hsr01 Hpr01 Hts01 Htr01
  iintro ⟨HO, Hrr10, Hpo, Hzr10, Hrr00, Hcs01⟩
  try dsimp only
  iapply (seq_wp c)
  iapply (part9 m K c _ _ _) $$ HC Hsr11 Hpr11 HO Hts11 Htr11 Hf1 Hxb0
  iintro %w9 ⟨HO, Hcs11, Hst1, Hx0, Hz1, Hxb0⟩
  try dsimp only
  iapply (seq_wp c)
  iapply (part10 m K c _ _ _) $$ HC Hxb1 Hwb0 Hxb3 Hwb1 Hcr01 Har01 HO
  iintro ⟨Hxb1, Hwb0, Hxb3, Hwb1, HO, Hrr01, Hzr01⟩
  try dsimp only
  iapply (seq_wp c)
  iapply (part11 m K c _) $$ HC Hcr11 Har11 HO Hrr01 Hcs00 Has00
  iintro ⟨HO, Hrr11, Hzr11, Hrr01, Has00, Hsr00, Hre00⟩
  try dsimp only
  iapply (seq_wp c)
  iapply (part12 m K c _) $$ HC Hsr00 Hpr02 HO Hts00b Htr02 Hre00 Hrr11 Hcs10 Has10
  iintro ⟨HO, Hcs00, Hrr11, Has10, Hsr10, Hre10⟩
  try dsimp only
  iapply (seq_wp c)
  iapply (part13 m K c _ _) $$ HC Hsr10 Hpr12 HO Hts10b Htr12 Hre10 Hxb0 Hwb0 Hwb1
  iintro ⟨HO, Hcs10, Hxb0, Hwb0, Hwb1⟩
  try dsimp only
  iapply (seq_wp c)
  iapply (part14 m K c _ _) $$ HC Hcr02 Har02 HO Hcr12 Har12 Hac0
  iintro ⟨HO, Hrr02, Hzr02, Hrr12, Hzr12, Hac0⟩
  try dsimp only
  iapply (seq_wp c)
  iapply (part15 m K c _) $$ HC Hrr12 Hac1 Ham Hpn HO Htm0s Htm0r
  iintro %w15 ⟨Hrr12, Hac1, Haml, Hamo1, Hamo2, HO, Hcm0s⟩
  try dsimp only
  iapply (seq_wp c)
  iapply (part16 m K c _ _) $$ HC Hamo1 Hpo HO Htm1s Htm1r Hamo2 Hpp Htm2s Htm2r
  iintro ⟨HO, Hcm1s, Hcm2s⟩
  try dsimp only
  iapply (seq_wp c)
  iapply (part17 m K c _) $$ HC Hcm0r Ham0r HO Hcm1r Ham1r Hcm2r Ham2r Haml Hac0
  iintro ⟨HO, Hzm0r, Hzm1r, Hzm2r, Hamr0r, Hamr1r, Hamr2r, Hamt, Hac0⟩
  try dsimp only
  iapply (seq_wp c)
  iapply (part18 m K c _ _) $$ HC Hq0 Hpg00 HO Hth00 Htg00 Hac1 Hq1
  iintro ⟨Hq0l, HO, Hch00, Hac1, Hq1l, Hq1r⟩
  try dsimp only
  iapply (seq_wp c)
  iapply (part19 m K c _ _ _) $$ HC Hq1r Hpg10 HO Hth10 Htg10 Hq0l Hq1l Hos Hout Hzown Hcg00 Hag00
  iintro ⟨HO, Hch10, Hqw, Hfown, Hgl00, Hzg00, Hgr00⟩
  try dsimp only
  iapply (seq_wp c)
  iapply (part20 m K c _ _) $$ HC Hcg10 Hag10 HO Hgr00 Hpg01 Hth01 Htg01 Hpg11 Hth11 Htg11 Hfown
  iintro %w20 ⟨HO, Hgl10, Hzg10, Hch01, Hch11, Hout, Hos0, Hos1, Hzown⟩
  try dsimp only
  iapply (seq_wp c)
  iapply (part21 m K c _ _) $$ HC Hgl00 Hos0 Hout00 Hzo0 Hgl10 Hos1
  iintro ⟨Hgl00, Hfo0, Hgl10, Hos1⟩
  try dsimp only
  iapply (seq_wp c)
  iapply (part22 m K c _ _) $$ HC Hos1 Hout10 Hzo1 Hcg01 Hag01 HO Hcg11 Hag11
  iintro ⟨Hfo1, HO, Hgl01, Hzg01, Hgr01, Hgl11, Hzg11, Hgr11⟩
  try dsimp only
  iapply (seq_wp c)
  iapply (part23 m K c _ _) $$ HC Hgr01 Hpg02 HO Hth02 Htg02 Hgr11 Hpg12 Hth12 Htg12 Hfo0
  iintro ⟨HO, Hch02, Hch12, Hout00, Hos0, Hzo0⟩
  try dsimp only
  iapply (seq_wp c)
  iapply (part24 m K c _) $$ HC Hfo1 HO Hgl01 Hos0 Hout01 Hzo0 Hgl11
  iintro ⟨HO, Hout10, Hos1, Hzo1, Hgl01, Hfo0, Hgl11⟩
  try dsimp only
  iapply (seq_wp c)
  iapply (part25 m K c _ _) $$ HC Hos1 Hout11 Hzo1 Hcg02 Hag02 HO Hcg12 Hag12
  iintro ⟨Hfo1, HO, Hgl02, Hzg02, Hgl12, Hzg12⟩
  try dsimp only
  iapply (seq_wp c)
  iapply (part26 m K c _) $$ HC Hfo0 HO Hfo1 Hgl02 Hout02 Hgl12
  iintro %w26 ⟨Hfo0, HO, Hout01, Hout11, Hos1, Hzo1, Hgl02, Hgl12⟩
  try dsimp only
  iapply (seq_wp c)
  iapply (part27 m K c _) $$ HC Hos1 Hout12 Hzo1 Hfo0 HO Hcs01 Has01
  iintro ⟨Hos1, Hout12, Hzo1, HO, Hout02, Hos0, Hzo0, Hsr01, Hzs01⟩
  try dsimp only
  iapply (seq_wp c)
  iapply (part28 m K c) $$ HC Hcs11 Has11 HO Hcs00 Has00 Hcs10 Has10
  iintro ⟨HO, Hsr11, Hzs11, Hsr00, Hzs00, Hsr10, Hzs10⟩
  try dsimp only
  iapply (seq_wp c)
  iapply (part29 m K c) $$ HC Hcm0s Ham0s HO Hcm1s Ham1s Hcm2s Ham2s Hch00 Hah00
  iintro ⟨HO, Hamo0, Hzm0s, Hamo1, Hzm1s, Hamo2, Hzm2s, Hq0r, Hzh00⟩
  try dsimp only
  iapply (seq_wp c)
  iapply (part30 m K c) $$ HC Hch10 Hah10 HO Hch01 Hah01 Hch11 Hah11
  iintro ⟨HO, Hq1r, Hzh10, Hgr00, Hzh01, Hgr10, Hzh11⟩
  try dsimp only
  simp only [Prog.lift, Prog.bind_op, Prog.bind_ret, Prog.pure_eq_ret]
  iapply (curry4 (step_wait m K c (.agS 0 2) (fun h => nomatch h) rfl 0 rfl (units_ag 0 1) (todo17 c) rfl (got_agS2 m c 0))) $$ HC Hch02 HO Hah02
  iintro ⟨HO, Hgr01, Hzh02⟩
  iapply (done c (a := PUnit.unit))
  iapply Hk
  isplitl [Hah12]; · iexact Hah12
  isplitl [Hw0]; · iexact Hw0
  isplitl [Hw1]; · iexact Hw1
  isplitl [Hx3]; · iexact Hx3
  isplitl [Hx1]; · iexact Hx1
  isplitl [Hzb]; · iexact Hzb
  isplitl [Hst0]; · iexact Hst0
  isplitl [Hx2]; · iexact Hx2
  isplitl [Hz0]; · iexact Hz0
  isplitl [Hxb2]; · iexact Hxb2
  isplitl [Hzr00]; · iexact Hzr00
  isplitl [Hrr10]; · iexact Hrr10
  isplitl [Hzr10]; · iexact Hzr10
  isplitl [Hrr00]; · iexact Hrr00
  isplitl [Hst1]; · iexact Hst1
  isplitl [Hx0]; · iexact Hx0
  isplitl [Hz1]; · iexact Hz1
  isplitl [Hxb1]; · iexact Hxb1
  isplitl [Hxb3]; · iexact Hxb3
  isplitl [Hzr01]; · iexact Hzr01
  isplitl [Hzr11]; · iexact Hzr11
  isplitl [Hrr01]; · iexact Hrr01
  isplitl [Hrr11]; · iexact Hrr11
  isplitl [Hxb0]; · iexact Hxb0
  isplitl [Hwb0]; · iexact Hwb0
  isplitl [Hwb1]; · iexact Hwb1
  isplitl [Hrr02]; · iexact Hrr02
  isplitl [Hzr02]; · iexact Hzr02
  isplitl [Hzr12]; · iexact Hzr12
  isplitl [Hrr12]; · iexact Hrr12
  isplitl [Hzm0r]; · iexact Hzm0r
  isplitl [Hzm1r]; · iexact Hzm1r
  isplitl [Hzm2r]; · iexact Hzm2r
  isplitl [Hamr0r]; · iexact Hamr0r
  isplitl [Hamr1r]; · iexact Hamr1r
  isplitl [Hamr2r]; · iexact Hamr2r
  isplitl [Hamt]; · iexact Hamt
  isplitl [Hac0]; · iexact Hac0
  isplitl [Hac1]; · iexact Hac1
  isplitl [Hqw]; · iexact Hqw
  isplitl [Hzg00]; · iexact Hzg00
  isplitl [Hzg10]; · iexact Hzg10
  isplitl [Hout]; · iexact Hout
  isplitl [Hzown]; · iexact Hzown
  isplitl [Hgl00]; · iexact Hgl00
  isplitl [Hgl10]; · iexact Hgl10
  isplitl [Hzg01]; · iexact Hzg01
  isplitl [Hzg11]; · iexact Hzg11
  isplitl [Hch12]; · iexact Hch12
  isplitl [Hout00]; · iexact Hout00
  isplitl [Hout10]; · iexact Hout10
  isplitl [Hgl01]; · iexact Hgl01
  isplitl [Hgl11]; · iexact Hgl11
  isplitl [Hzg02]; · iexact Hzg02
  isplitl [Hzg12]; · iexact Hzg12
  isplitl [Hout01]; · iexact Hout01
  isplitl [Hout11]; · iexact Hout11
  isplitl [Hgl02]; · iexact Hgl02
  isplitl [Hgl12]; · iexact Hgl12
  isplitl [Hos1]; · iexact Hos1
  isplitl [Hout12]; · iexact Hout12
  isplitl [Hzo1]; · iexact Hzo1
  isplitl [Hout02]; · iexact Hout02
  isplitl [Hos0]; · iexact Hos0
  isplitl [Hzo0]; · iexact Hzo0
  isplitl [Hsr01]; · iexact Hsr01
  isplitl [Hzs01]; · iexact Hzs01
  isplitl [Hsr11]; · iexact Hsr11
  isplitl [Hzs11]; · iexact Hzs11
  isplitl [Hsr00]; · iexact Hsr00
  isplitl [Hzs00]; · iexact Hzs00
  isplitl [Hsr10]; · iexact Hsr10
  isplitl [Hzs10]; · iexact Hzs10
  isplitl [Hamo0]; · iexact Hamo0
  isplitl [Hzm0s]; · iexact Hzm0s
  isplitl [Hamo1]; · iexact Hamo1
  isplitl [Hzm1s]; · iexact Hzm1s
  isplitl [Hamo2]; · iexact Hamo2
  isplitl [Hzm2s]; · iexact Hzm2s
  isplitl [Hq0r]; · iexact Hq0r
  isplitl [Hzh00]; · iexact Hzh00
  isplitl [HO]; · iexact HO
  isplitl [Hq1r]; · iexact Hq1r
  isplitl [Hzh10]; · iexact Hzh10
  isplitl [Hgr00]; · iexact Hgr00
  isplitl [Hzh01]; · iexact Hzh01
  isplitl [Hgr10]; · iexact Hgr10
  isplitl [Hzh11]; · iexact Hzh11
  isplitl [Hgr01]; · iexact Hgr01
  iexact Hzh02

/-- The whole body. -/
theorem body_parts (c : Dev nD) (Q : _ → sProp 𝕄) :
    Ctx m K ⊢ iprop(Owe c (todo0 c) -∗
      own1 c (halfW wM 0) fullShare (wv m c 0) -∗
      own1 c (halfW wM 1) fullShare (wv m c 1) -∗
      own1 c (rowsW xM (fwd 0 c)) fullShare (xv m c (fwd 0 c)) -∗
      own1 c (rowsW xM (fwd 1 c)) fullShare (xv m c (fwd 1 c)) -∗
      own1 c (rowsW xM (fwd 2 c)) fullShare (xv m c (fwd 2 c)) -∗
      own1 c (rowsW xM (fwd 3 c)) fullShare (xv m c (fwd 3 c)) -∗
      ownAny c (stageW stM 0) -∗
      ownAny c (stageW stM 1) -∗
      ownAny c (halfW wbM 0) -∗
      ownAny c (halfW wbM 1) -∗
      ownAny c (rowsW xbM (fwd 0 c)) -∗
      ownAny c (rowsW xbM (fwd 1 c)) -∗
      ownAny c (rowsW xbM (fwd 2 c)) -∗
      ownAny c (rowsW xbM (fwd 3 c)) -∗
      ownAny c (halfW acM 0) -∗
      ownAny c (halfW acM 1) -∗
      ownAny c (fullW osM) -∗
      ownAny c (slot22 srM 0 0) -∗
      ownAny c (slot22 srM 0 1) -∗
      ownAny c (slot22 srM 1 0) -∗
      ownAny c (slot22 srM 1 1) -∗
      ownAny c (halfW qM 0) -∗
      ownAny c (halfW qM 1) -∗
      ownAny c (amxW amM c) -∗
      ownAny c (outRow oM c) -∗
      ownAny c (outB oM (org 0 0 c) 0) -∗
      ownAny c (outB oM (org 0 1 c) 0) -∗
      ownAny c (outB oM (org 0 2 c) 0) -∗
      ownAny c (outB oM (org 1 0 c) 1) -∗
      ownAny c (outB oM (org 1 1 c) 1) -∗
      ownAny c (outB oM (org 1 2 c) 1) -∗
      semVal ((c : Thread nD τ), SemLoc.dma 0) 0 -∗
      semVal ((c : Thread nD τ), SemLoc.dma 1) 0 -∗
      semVal ((c : Thread nD τ), SemLoc.dma 31) 0 -∗
      semVal ((c : Thread nD τ), SemLoc.dma 32) 0 -∗
      semVal ((c : Thread nD τ), SemLoc.dma 33) 0 -∗
      dutyTok ER (cell (prv c) .bar) 0 false -∗
      dutyTok ER (cell (nxt c) .bar) 0 true -∗
      barPay (prv c) false -∗
      barPay (nxt c) true -∗
      cred (tallyAt (cell c .bar) () 2) -∗
      atPos ER (cell c .bar) 0 ∅ 0 -∗
      atPos ER (cell c (.rsS 0 0)) 0 ∅ 0 -∗
      dutyTok ER (cell c (.rsS 0 0)) 0 false -∗
      atPos ER (cell c (.rsS 0 1)) 0 ∅ 0 -∗
      dutyTok ER (cell c (.rsS 0 1)) 0 false -∗
      dutyTok ER (cell c (.rsS 0 0)) 1 false -∗
      atPos ER (cell c (.rsR 0 0)) 0 ∅ 0 -∗
      cred (tallyAt (cell c (.rsR 0 0)) () (amt (.rsR 0 0))) -∗
      dutyTok ER (cell (tgt 0 c) (.rsR 0 0)) 0 false -∗
      atPos ER (cell c (.agR 0 0)) 0 ∅ 0 -∗
      cred (tallyAt (cell c (.agR 0 0)) () (amt (.agR 0 0))) -∗
      dutyTok ER (cell (tgt 0 c) (.agR 0 0)) 0 false -∗
      atPos ER (cell c (.agS 0 0)) 0 ∅ 0 -∗
      dutyTok ER (cell c (.agS 0 0)) 0 false -∗
      atPos ER (cell c (.rsR 0 1)) 0 ∅ 0 -∗
      cred (tallyAt (cell c (.rsR 0 1)) () (amt (.rsR 0 1))) -∗
      dutyTok ER (cell (tgt 0 c) (.rsR 0 1)) 0 false -∗
      atPos ER (cell c (.agR 0 1)) 0 ∅ 0 -∗
      cred (tallyAt (cell c (.agR 0 1)) () (amt (.agR 0 1))) -∗
      dutyTok ER (cell (tgt 0 c) (.agR 0 1)) 0 false -∗
      atPos ER (cell c (.agS 0 1)) 0 ∅ 0 -∗
      dutyTok ER (cell c (.agS 0 1)) 0 false -∗
      atPos ER (cell c (.rsR 0 2)) 0 ∅ 0 -∗
      cred (tallyAt (cell c (.rsR 0 2)) () (amt (.rsR 0 2))) -∗
      dutyTok ER (cell (tgt 0 c) (.rsR 0 2)) 0 false -∗
      atPos ER (cell c (.agR 0 2)) 0 ∅ 0 -∗
      cred (tallyAt (cell c (.agR 0 2)) () (amt (.agR 0 2))) -∗
      dutyTok ER (cell (tgt 0 c) (.agR 0 2)) 0 false -∗
      atPos ER (cell c (.agS 0 2)) 0 ∅ 0 -∗
      dutyTok ER (cell c (.agS 0 2)) 0 false -∗
      atPos ER (cell c (.rsS 1 0)) 0 ∅ 0 -∗
      dutyTok ER (cell c (.rsS 1 0)) 0 false -∗
      atPos ER (cell c (.rsS 1 1)) 0 ∅ 0 -∗
      dutyTok ER (cell c (.rsS 1 1)) 0 false -∗
      dutyTok ER (cell c (.rsS 1 0)) 1 false -∗
      atPos ER (cell c (.rsR 1 0)) 0 ∅ 0 -∗
      cred (tallyAt (cell c (.rsR 1 0)) () (amt (.rsR 1 0))) -∗
      dutyTok ER (cell (tgt 1 c) (.rsR 1 0)) 0 false -∗
      atPos ER (cell c (.agR 1 0)) 0 ∅ 0 -∗
      cred (tallyAt (cell c (.agR 1 0)) () (amt (.agR 1 0))) -∗
      dutyTok ER (cell (tgt 1 c) (.agR 1 0)) 0 false -∗
      atPos ER (cell c (.agS 1 0)) 0 ∅ 0 -∗
      dutyTok ER (cell c (.agS 1 0)) 0 false -∗
      atPos ER (cell c (.rsR 1 1)) 0 ∅ 0 -∗
      cred (tallyAt (cell c (.rsR 1 1)) () (amt (.rsR 1 1))) -∗
      dutyTok ER (cell (tgt 1 c) (.rsR 1 1)) 0 false -∗
      atPos ER (cell c (.agR 1 1)) 0 ∅ 0 -∗
      cred (tallyAt (cell c (.agR 1 1)) () (amt (.agR 1 1))) -∗
      dutyTok ER (cell (tgt 1 c) (.agR 1 1)) 0 false -∗
      atPos ER (cell c (.agS 1 1)) 0 ∅ 0 -∗
      dutyTok ER (cell c (.agS 1 1)) 0 false -∗
      atPos ER (cell c (.rsR 1 2)) 0 ∅ 0 -∗
      cred (tallyAt (cell c (.rsR 1 2)) () (amt (.rsR 1 2))) -∗
      dutyTok ER (cell (tgt 1 c) (.rsR 1 2)) 0 false -∗
      atPos ER (cell c (.agR 1 2)) 0 ∅ 0 -∗
      cred (tallyAt (cell c (.agR 1 2)) () (amt (.agR 1 2))) -∗
      dutyTok ER (cell (tgt 1 c) (.agR 1 2)) 0 false -∗
      atPos ER (cell c (.agS 1 2)) 0 ∅ 0 -∗
      dutyTok ER (cell c (.agS 1 2)) 0 false -∗
      atPos ER (cell c (.amS 0)) 0 ∅ 0 -∗
      dutyTok ER (cell c (.amS 0)) 0 false -∗
      dutyTok ER (cell (fwd 1 c) (.amR c)) 0 false -∗
      atPos ER (cell c (.amR (fwd 1 c))) 0 ∅ 0 -∗
      cred (tallyAt (cell c (.amR (fwd 1 c))) () (amt (.amR (fwd 1 c)))) -∗
      atPos ER (cell c (.amS 1)) 0 ∅ 0 -∗
      dutyTok ER (cell c (.amS 1)) 0 false -∗
      dutyTok ER (cell (fwd 2 c) (.amR c)) 0 false -∗
      atPos ER (cell c (.amR (fwd 2 c))) 0 ∅ 0 -∗
      cred (tallyAt (cell c (.amR (fwd 2 c))) () (amt (.amR (fwd 2 c)))) -∗
      atPos ER (cell c (.amS 2)) 0 ∅ 0 -∗
      dutyTok ER (cell c (.amS 2)) 0 false -∗
      dutyTok ER (cell (fwd 3 c) (.amR c)) 0 false -∗
      atPos ER (cell c (.amR (fwd 3 c))) 0 ∅ 0 -∗
      cred (tallyAt (cell c (.amR (fwd 3 c))) () (amt (.amR (fwd 3 c)))) -∗
      ((own1 c (halfW wM 0) fullShare (wv m c 0)
        ∗ own1 c (halfW wM 1) fullShare (wv m c 1)
        ∗ own1 c (rowsW xM (fwd 3 c)) fullShare (xv m c (fwd 3 c))
        ∗ own1 c (rowsW xM (fwd 1 c)) fullShare (xv m c (fwd 1 c))
        ∗ semVal (cell c .bar) 0
        ∗ own1 c (stageW stM 0) fullShare (lift3 (xv m c (fwd 2 c)))
        ∗ own1 c (rowsW xM (fwd 2 c)) fullShare (xv m c (fwd 2 c))
        ∗ semVal ((c : Thread nD τ), SemLoc.dma 0) 0
        ∗ own1 c (rowsW xbM (fwd 2 c)) fullShare (xb m c (fwd 2 c))
        ∗ semVal (cell c (.rsR 0 0)) 0
        ∗ own1 c (slot23 rrM 1 0) fullShare (sV m 1 0 (src 1 c))
        ∗ semVal (cell c (.rsR 1 0)) 0
        ∗ own1 c (slot23 rrM 0 0) fullShare (sV m 0 0 (src 0 c))
        ∗ own1 c (stageW stM 1) fullShare (lift3 (xv m c (fwd 0 c)))
        ∗ own1 c (rowsW xM (fwd 0 c)) fullShare (xv m c (fwd 0 c))
        ∗ semVal ((c : Thread nD τ), SemLoc.dma 1) 0
        ∗ own1 c (rowsW xbM (fwd 1 c)) fullShare (xb m c (fwd 1 c))
        ∗ own1 c (rowsW xbM (fwd 3 c)) fullShare (xb m c (fwd 3 c))
        ∗ semVal (cell c (.rsR 0 1)) 0
        ∗ semVal (cell c (.rsR 1 1)) 0
        ∗ own1 c (slot23 rrM 0 1) fullShare (sV m 0 1 (src 0 c))
        ∗ own1 c (slot23 rrM 1 1) fullShare (sV m 1 1 (src 1 c))
        ∗ own1 c (rowsW xbM (fwd 0 c)) fullShare (xb m c (fwd 0 c))
        ∗ own1 c (halfW wbM 0) fullShare (wb m c 0)
        ∗ own1 c (halfW wbM 1) fullShare (wb m c 1)
        ∗ own1 c (slot23 rrM 0 2) fullShare (sV m 0 2 (src 0 c))
        ∗ semVal (cell c (.rsR 0 2)) 0
        ∗ semVal (cell c (.rsR 1 2)) 0
        ∗ own1 c (slot23 rrM 1 2) fullShare (sV m 1 2 (src 1 c))
        ∗ semVal (cell c (.amR (fwd 1 c))) 0
        ∗ semVal (cell c (.amR (fwd 2 c))) 0
        ∗ semVal (cell c (.amR (fwd 3 c))) 0
        ∗ own1 c (amxW amM (fwd 1 c)) fullShare.right (amx m (fwd 1 c))
        ∗ own1 c (amxW amM (fwd 2 c)) fullShare.right (amx m (fwd 2 c))
        ∗ own1 c (amxW amM (fwd 3 c)) fullShare.right (amx m (fwd 3 c))
        ∗ own1 c (amxAll amM) fullShare.left (amxA m)
        ∗ own1 c (halfW acM 0) fullShare (acc m c 0)
        ∗ own1 c (halfW acM 1) fullShare (acc m c 1)
        ∗ own1 c (fullW qM) fullShare.left (qw m c)
        ∗ semVal (cell c (.agR 0 0)) 0
        ∗ semVal (cell c (.agR 1 0)) 0
        ∗ own1 c (outRow oM c) fullShare (outW m c)
        ∗ semVal ((c : Thread nD τ), SemLoc.dma 33) 0
        ∗ own1 c (slot23 agM 0 0) fullShare.left (agV m 0 0 c)
        ∗ own1 c (slot23 agM 1 0) fullShare.left (agV m 1 0 c)
        ∗ semVal (cell c (.agR 0 1)) 0
        ∗ semVal (cell c (.agR 1 1)) 0
        ∗ own1 c (outB oM (org 0 0 c) 0) fullShare (outH m (org 0 0 c) 0)
        ∗ own1 c (outB oM (org 1 0 c) 1) fullShare (outH m (org 1 0 c) 1)
        ∗ own1 c (slot23 agM 0 1) fullShare.left (agV m 0 1 c)
        ∗ own1 c (slot23 agM 1 1) fullShare.left (agV m 1 1 c)
        ∗ semVal (cell c (.agR 0 2)) 0
        ∗ semVal (cell c (.agR 1 2)) 0
        ∗ own1 c (outB oM (org 0 1 c) 0) fullShare (outH m (org 0 1 c) 0)
        ∗ own1 c (outB oM (org 1 1 c) 1) fullShare (outH m (org 1 1 c) 1)
        ∗ own1 c (slot23 agM 0 2) fullShare (agV m 0 2 c)
        ∗ own1 c (slot23 agM 1 2) fullShare (agV m 1 2 c)
        ∗ own1 c (halfW osM 1) fullShare (outH m (org 1 2 c) 1)
        ∗ own1 c (outB oM (org 1 2 c) 1) fullShare (outH m (org 1 2 c) 1)
        ∗ semVal ((c : Thread nD τ), SemLoc.dma 32) 0
        ∗ own1 c (outB oM (org 0 2 c) 0) fullShare (outH m (org 0 2 c) 0)
        ∗ own1 c (halfW osM 0) fullShare (outH m (org 0 2 c) 0)
        ∗ semVal ((c : Thread nD τ), SemLoc.dma 31) 0
        ∗ ownAny c (slot22 srM 0 1)
        ∗ semVal (cell c (.rsS 0 1)) 0
        ∗ ownAny c (slot22 srM 1 1)
        ∗ semVal (cell c (.rsS 1 1)) 0
        ∗ ownAny c (slot22 srM 0 0)
        ∗ semVal (cell c (.rsS 0 0)) 0
        ∗ ownAny c (slot22 srM 1 0)
        ∗ semVal (cell c (.rsS 1 0)) 0
        ∗ own1 c (amxW amM c) (shA 0) (amx m c)
        ∗ semVal (cell c (.amS 0)) 0
        ∗ own1 c (amxW amM c) (shA 1) (amx m c)
        ∗ semVal (cell c (.amS 1)) 0
        ∗ own1 c (amxW amM c) (shA 2) (amx m c)
        ∗ semVal (cell c (.amS 2)) 0
        ∗ own1 c (halfW qM 0) fullShare.right (qv m c 0)
        ∗ semVal (cell c (.agS 0 0)) 0
        ∗ Owe c (todo17 c)
        ∗ own1 c (halfW qM 1) fullShare.right (qv m c 1)
        ∗ semVal (cell c (.agS 1 0)) 0
        ∗ own1 c (slot23 agM 0 0) fullShare.right (agV m 0 0 c)
        ∗ semVal (cell c (.agS 0 1)) 0
        ∗ own1 c (slot23 agM 1 0) fullShare.right (agV m 1 0 c)
        ∗ semVal (cell c (.agS 1 1)) 0
        ∗ own1 c (slot23 agM 0 1) fullShare.right (agV m 0 1 c)
        ∗ semVal (cell c (.agS 0 2)) 0
        ∗ own1 c (slot23 agM 1 1) fullShare.right (agV m 1 1 c)
        ∗ semVal (cell c (.agS 1 2)) 0) -∗ Q ⟨⟩)
      -∗ WP c (bodyAt0 (F := F) t0_0) Q) := by
  unfold bodyAt0; simp only [cc0_body_eq_skeleton]; unfold cc0_body_skel
  iintro #HC HO Hw0 Hw1 Hx0 Hx1 Hx2 Hx3 Hst0 Hst1 Hwb0 Hwb1 Hxb0 Hxb1 Hxb2 Hxb3 Hac0 Hac1 Hos Hsr00 Hsr01 Hsr10 Hsr11 Hq0 Hq1 Ham Hout Hout00 Hout01 Hout02 Hout10 Hout11 Hout12 Hz0 Hz1 Hzo0 Hzo1 Hzown Htb0 Htb1 Hbp0 Hbp1 Hcb Hab Has00 Hts00 Has01 Hts01 Hts00b Har00 Hcr00 Htr00 Hag00 Hcg00 Htg00 Hah00 Hth00 Har01 Hcr01 Htr01 Hag01 Hcg01 Htg01 Hah01 Hth01 Har02 Hcr02 Htr02 Hag02 Hcg02 Htg02 Hah02 Hth02 Has10 Hts10 Has11 Hts11 Hts10b Har10 Hcr10 Htr10 Hag10 Hcg10 Htg10 Hah10 Hth10 Har11 Hcr11 Htr11 Hag11 Hcg11 Htg11 Hah11 Hth11 Har12 Hcr12 Htr12 Hag12 Hcg12 Htg12 Hah12 Hth12 Ham0s Htm0s Htm0r Ham0r Hcm0r Ham1s Htm1s Htm1r Ham1r Hcm1r Ham2s Htm2s Htm2r Ham2r Hcm2r Hk
  iapply (seq_wp c)
  iapply (part31 m K c) $$ HC HO Hw0 Hw1 Hx0 Hx1 Hx2 Hx3 Hst0 Hst1 Hwb0 Hwb1 Hxb0 Hxb1 Hxb2 Hxb3 Hac0 Hac1 Hos Hsr00 Hsr01 Hsr10 Hsr11 Hq0 Hq1 Ham Hout Hout00 Hout01 Hout02 Hout10 Hout11 Hout12 Hz0 Hz1 Hzo0 Hzo1 Hzown Htb0 Htb1 Hbp0 Hbp1 Hcb Hab Has00 Hts00 Has01 Hts01 Hts00b Har00 Hcr00 Htr00 Hag00 Hcg00 Htg00 Hah00 Hth00 Har01 Hcr01 Htr01 Hag01 Hcg01 Htg01 Hah01 Hth01 Har02 Hcr02 Htr02 Hag02 Hcg02 Htg02 Hah02 Hth02 Has10 Hts10 Has11 Hts11 Hts10b Har10 Hcr10 Htr10 Hag10 Hcg10 Htg10 Hah10 Hth10 Har11 Hcr11 Htr11 Hag11 Hcg11 Htg11 Hah11 Hth11 Har12 Hcr12 Htr12 Hag12 Hcg12 Htg12 Hah12 Hth12 Ham0s Htm0s Htm0r Ham0r Hcm0r Ham1s Htm1s Htm1r Ham1r Hcm1r Ham2s Htm2s Htm2r Ham2r Hcm2r
  iintro ⟨Hah12, Hw0, Hw1, Hx3, Hx1, Hzb, Hst0, Hx2, Hz0, Hxb2, Hzr00, Hrr10, Hzr10, Hrr00, Hst1, Hx0, Hz1, Hxb1, Hxb3, Hzr01, Hzr11, Hrr01, Hrr11, Hxb0, Hwb0, Hwb1, Hrr02, Hzr02, Hzr12, Hrr12, Hzm0r, Hzm1r, Hzm2r, Hamr0r, Hamr1r, Hamr2r, Hamt, Hac0, Hac1, Hqw, Hzg00, Hzg10, Hout, Hzown, Hgl00, Hgl10, Hzg01, Hzg11, Hch12, Hout00, Hout10, Hgl01, Hgl11, Hzg02, Hzg12, Hout01, Hout11, Hgl02, Hgl12, Hos1, Hout12, Hzo1, Hout02, Hos0, Hzo0, Hsr01, Hzs01, Hsr11, Hzs11, Hsr00, Hzs00, Hsr10, Hzs10, Hamo0, Hzm0s, Hamo1, Hzm1s, Hamo2, Hzm2s, Hq0r, Hzh00, HO, Hq1r, Hzh10, Hgr00, Hzh01, Hgr10, Hzh11, Hgr01, Hzh02⟩
  simp only [Prog.lift, Prog.bind_op, Prog.bind_ret, Prog.pure_eq_ret]
  iapply (curry4 (step_wait m K c (.agS 1 2) (fun h => nomatch h) rfl 0 rfl (units_ag 1 1) (todo17 c) rfl (got_agS2 m c 1))) $$ HC Hch12 HO Hah12
  iintro ⟨HO, Hgr11, Hzh12⟩
  iapply (done c (a := PUnit.unit))
  iapply Hk
  isplitl [Hw0]; · iexact Hw0
  isplitl [Hw1]; · iexact Hw1
  isplitl [Hx3]; · iexact Hx3
  isplitl [Hx1]; · iexact Hx1
  isplitl [Hzb]; · iexact Hzb
  isplitl [Hst0]; · iexact Hst0
  isplitl [Hx2]; · iexact Hx2
  isplitl [Hz0]; · iexact Hz0
  isplitl [Hxb2]; · iexact Hxb2
  isplitl [Hzr00]; · iexact Hzr00
  isplitl [Hrr10]; · iexact Hrr10
  isplitl [Hzr10]; · iexact Hzr10
  isplitl [Hrr00]; · iexact Hrr00
  isplitl [Hst1]; · iexact Hst1
  isplitl [Hx0]; · iexact Hx0
  isplitl [Hz1]; · iexact Hz1
  isplitl [Hxb1]; · iexact Hxb1
  isplitl [Hxb3]; · iexact Hxb3
  isplitl [Hzr01]; · iexact Hzr01
  isplitl [Hzr11]; · iexact Hzr11
  isplitl [Hrr01]; · iexact Hrr01
  isplitl [Hrr11]; · iexact Hrr11
  isplitl [Hxb0]; · iexact Hxb0
  isplitl [Hwb0]; · iexact Hwb0
  isplitl [Hwb1]; · iexact Hwb1
  isplitl [Hrr02]; · iexact Hrr02
  isplitl [Hzr02]; · iexact Hzr02
  isplitl [Hzr12]; · iexact Hzr12
  isplitl [Hrr12]; · iexact Hrr12
  isplitl [Hzm0r]; · iexact Hzm0r
  isplitl [Hzm1r]; · iexact Hzm1r
  isplitl [Hzm2r]; · iexact Hzm2r
  isplitl [Hamr0r]; · iexact Hamr0r
  isplitl [Hamr1r]; · iexact Hamr1r
  isplitl [Hamr2r]; · iexact Hamr2r
  isplitl [Hamt]; · iexact Hamt
  isplitl [Hac0]; · iexact Hac0
  isplitl [Hac1]; · iexact Hac1
  isplitl [Hqw]; · iexact Hqw
  isplitl [Hzg00]; · iexact Hzg00
  isplitl [Hzg10]; · iexact Hzg10
  isplitl [Hout]; · iexact Hout
  isplitl [Hzown]; · iexact Hzown
  isplitl [Hgl00]; · iexact Hgl00
  isplitl [Hgl10]; · iexact Hgl10
  isplitl [Hzg01]; · iexact Hzg01
  isplitl [Hzg11]; · iexact Hzg11
  isplitl [Hout00]; · iexact Hout00
  isplitl [Hout10]; · iexact Hout10
  isplitl [Hgl01]; · iexact Hgl01
  isplitl [Hgl11]; · iexact Hgl11
  isplitl [Hzg02]; · iexact Hzg02
  isplitl [Hzg12]; · iexact Hzg12
  isplitl [Hout01]; · iexact Hout01
  isplitl [Hout11]; · iexact Hout11
  isplitl [Hgl02]; · iexact Hgl02
  isplitl [Hgl12]; · iexact Hgl12
  isplitl [Hos1]; · iexact Hos1
  isplitl [Hout12]; · iexact Hout12
  isplitl [Hzo1]; · iexact Hzo1
  isplitl [Hout02]; · iexact Hout02
  isplitl [Hos0]; · iexact Hos0
  isplitl [Hzo0]; · iexact Hzo0
  isplitl [Hsr01]; · iexact Hsr01
  isplitl [Hzs01]; · iexact Hzs01
  isplitl [Hsr11]; · iexact Hsr11
  isplitl [Hzs11]; · iexact Hzs11
  isplitl [Hsr00]; · iexact Hsr00
  isplitl [Hzs00]; · iexact Hzs00
  isplitl [Hsr10]; · iexact Hsr10
  isplitl [Hzs10]; · iexact Hzs10
  isplitl [Hamo0]; · iexact Hamo0
  isplitl [Hzm0s]; · iexact Hzm0s
  isplitl [Hamo1]; · iexact Hamo1
  isplitl [Hzm1s]; · iexact Hzm1s
  isplitl [Hamo2]; · iexact Hamo2
  isplitl [Hzm2s]; · iexact Hzm2s
  isplitl [Hq0r]; · iexact Hq0r
  isplitl [Hzh00]; · iexact Hzh00
  isplitl [HO]; · iexact HO
  isplitl [Hq1r]; · iexact Hq1r
  isplitl [Hzh10]; · iexact Hzh10
  isplitl [Hgr00]; · iexact Hgr00
  isplitl [Hzh01]; · iexact Hzh01
  isplitl [Hgr10]; · iexact Hgr10
  isplitl [Hzh11]; · iexact Hzh11
  isplitl [Hgr01]; · iexact Hgr01
  isplitl [Hzh02]; · iexact Hzh02
  isplitl [Hgr11]; · iexact Hgr11
  iexact Hzh12

end Cert.KernelIdeal.Run

end
-- ==== Proof.Result.lean ====
/-
# The result array

What the devices write, as one array, and the cut of it into the rectangles one device writes.
-/
module

public import proofs.«01_k».proof.Proof.Places

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)

variable {F : FTy → Type} [FloatOps F]

local notation "𝕄" => MT nD τ sig Unit (Elt F) ℕ UU ℕ

variable (m : (ℓ : Loc nD τ sig) → Buf (Elt F) ℓ)

/-! ## The result as one array -/

theorem cast_lift4 {α : Type} (Y : S1024x1024.Idx → α) : shapeCast S1024x1024 (lift4 Y) shapeCasts_S1x1x1024x1024_S1024x1024 = Y :=
  funext fun j => congrArg Y (Equiv.symm_apply_apply _ j)
theorem cast_lift3 {α : Type} (Y : S1024x1024.Idx → α) : shapeCast S1024x1024 (lift3 Y) shapeCasts_S1x1024x1024_S1024x1024 = Y :=
  funext fun j => congrArg Y (Equiv.symm_apply_apply _ j)

theorem cast_same {α : Type} {s : Shape} (X : s.Idx → α) (h : s.ShapeCasts s) : shapeCast s X h = X :=
  funext fun j => congrArg X (Shape.reshapeEquiv_self h j)

theorem outH_apply (p : Dev nD) (r : Fin 2) (j : S1024x1024.Idx) :
    outH m p r j = FloatOps.truncf .bf16 bitsLt_bf16_f32 (FloatOps.mulf (FloatOps.extf .f32 bitsLt_fp8e4m3_f32 (qv m p r j)) (scale m)) := by
  unfold outH k0_pay32
  rw [cast_lift4, cast_same]
  rfl

theorem outW_apply (p : Dev nD) (i : S1024x2048.Idx) :
    outW m p i = FloatOps.truncf .bf16 bitsLt_bf16_f32 (FloatOps.mulf (FloatOps.extf .f32 bitsLt_fp8e4m3_f32 (qw m p i)) (scale m)) := by
  unfold outW k0_pay31
  rw [cast_same]
  rfl

def lo12 (i : Fin 4096) : Fin 1024 := ⟨i.val % 1024, Nat.mod_lt _ (by decide)⟩
def hi12 (i : Fin 4096) : Fin 4 := ⟨i.val / 1024, by omega⟩

/-- The result: row chunk `p`, column half `r` at the half block written there. -/
def out : S4096x2048.Idx → Elt F .bf16 := fun i => outH m (hi12 (i 0)) (hi10 (i 1)) (fun a => match a with | 0 => lo12 (i 0) | 1 => lo10 (i 1))

theorem out_half (p : Fin 4) (r : Fin 2) (j : S1024x1024.Idx) :
    out m ((Rect.unit (s := S4096x2048) ![1024 * p.val, 1024 * r.val] S1024x1024.size (outB_inb p r)).emb j) = outH m p r j := by
  have h₀ : (j 0).val < 1024 := (j 0).isLt
  have h₁ : (j 1).val < 1024 := (j 1).isLt
  have hp : hi12 (((Rect.unit (s := S4096x2048) ![1024 * p.val, 1024 * r.val] S1024x1024.size (outB_inb p r)).emb j) 0) = p := by
    apply Fin.ext; show (1024 * p.val + 1 * (j 0).val) / 1024 = p.val; omega
  have hr : hi10 (((Rect.unit (s := S4096x2048) ![1024 * p.val, 1024 * r.val] S1024x1024.size (outB_inb p r)).emb j) 1) = r := by
    apply Fin.ext; show (1024 * r.val + 1 * (j 1).val) / 1024 = r.val; omega
  unfold out
  rw [hp, hr]
  refine congrArg (outH m p r) (funext fun a => Fin.ext ?_)
  match a with
  | 0 => show (1024 * p.val + 1 * (j 0).val) % 1024 = (j 0).val; omega
  | 1 => show (1024 * r.val + 1 * (j 1).val) % 1024 = (j 1).val; omega

theorem out_row (p : Fin 4) (j : S1024x2048.Idx) :
    out m ((Rect.unit (s := S4096x2048) ![1024 * p.val, 0] S1024x2048.size (outRow_inb p)).emb j) = outW m p j := by
  have h₀ : (j 0).val < 1024 := (j 0).isLt
  have h₁ : (j 1).val < 2048 := (j 1).isLt
  have hp : hi12 (((Rect.unit (s := S4096x2048) ![1024 * p.val, 0] S1024x2048.size (outRow_inb p)).emb j) 0) = p := by
    apply Fin.ext; show (1024 * p.val + 1 * (j 0).val) / 1024 = p.val; omega
  have hr : hi10 (((Rect.unit (s := S4096x2048) ![1024 * p.val, 0] S1024x2048.size (outRow_inb p)).emb j) 1) = hi10 (j 1) := by
    apply Fin.ext; show (0 + 1 * (j 1).val) / 1024 = (j 1).val / 1024; omega
  unfold out
  rw [hp, hr, outH_apply, outW_apply]
  have hq : qv m p (hi10 (j 1)) (fun a => match a with
      | 0 => lo12 (((Rect.unit (s := S4096x2048) ![1024 * p.val, 0] S1024x2048.size (outRow_inb p)).emb j) 0)
      | 1 => lo10 (((Rect.unit (s := S4096x2048) ![1024 * p.val, 0] S1024x2048.size (outRow_inb p)).emb j) 1)) = qw m p j := by
    unfold qw
    refine congrArg (qv m p (hi10 (j 1))) (funext fun a => Fin.ext ?_)
    match a with
    | 0 => show (1024 * p.val + 1 * (j 0).val) % 1024 = (j 0).val; omega
    | 1 => show (0 + 1 * (j 1).val) % 1024 = (j 1).val % 1024; omega
  rw [← hq]

/-! ## The result cut as one device writes it -/

/-- Which copy of device `c` writes row chunk `p`, column half `h`: its own, or the one of direction `h` at some step. -/
def whose (c p : Fin 4) (h : Fin 2) : Option (Fin 2 × Fin 3) :=
  if p = c then none else if org h 0 c = p then some (h, 0) else if org h 1 c = p then some (h, 1) else some (h, 2)

theorem whose_none : ∀ (c p : Fin 4) (h : Fin 2), whose c p h = none ↔ p = c := by decide
theorem whose_some : ∀ (c p : Fin 4) (h : Fin 2) (x : Fin 2 × Fin 3), whose c p h = some x ↔ p = org x.1 x.2.val c ∧ h = x.1 := by decide

/-- The rectangles device `c` writes. -/
def cut (c : Fin 4) : Option (Fin 2 × Fin 3) → Rect S4096x2048
  | none => Rect.unit (s := S4096x2048) ![1024 * c.val, 0] S1024x2048.size (outRow_inb c)
  | some x => Rect.unit (s := S4096x2048) ![1024 * (org x.1 x.2.val c).val, 1024 * x.1.val] S1024x1024.size (outB_inb (org x.1 x.2.val c) x.1)

theorem cut_stride (c : Fin 4) : ∀ t a, (cut c t).stride a = 1
  | none, _ => rfl
  | some _, _ => rfl

theorem cut_key (c : Fin 4) (t : Option (Fin 2 × Fin 3)) (i : S4096x2048.Idx) : i ∈ (cut c t).set ↔ whose c (hi12 (i 0)) (hi10 (i 1)) = t := by
  have h₀ : (i 0).val < 4096 := (i 0).isLt
  have h₁ : (i 1).val < 2048 := (i 1).isLt
  cases t with
  | none =>
    rw [whose_none, cut, Rect.mem_set_unit, Fin.forall_fin_two, Fin.ext_iff]
    change (1024 * c.val ≤ (i 0).val ∧ (i 0).val < 1024 * c.val + 1024) ∧ (0 ≤ (i 1).val ∧ (i 1).val < 0 + 2048) ↔ (i 0).val / 1024 = c.val
    omega
  | some x =>
    rw [whose_some, cut, Rect.mem_set_unit, Fin.forall_fin_two, Fin.ext_iff, Fin.ext_iff]
    change (1024 * (org x.1 x.2.val c).val ≤ (i 0).val ∧ (i 0).val < 1024 * (org x.1 x.2.val c).val + 1024) ∧ (1024 * x.1.val ≤ (i 1).val ∧ (i 1).val < 1024 * x.1.val + 1024)
      ↔ (i 0).val / 1024 = (org x.1 x.2.val c).val ∧ (i 1).val / 1024 = x.1.val
    omega

omit [FloatOps F] in
theorem bigSep_cut (Φ : Option (Fin 2 × Fin 3) → sProp 𝕄) : bigSep Finset.univ Φ
    = iprop(Φ none ∗ Φ (some (0, 0)) ∗ Φ (some (0, 1)) ∗ Φ (some (0, 2)) ∗ Φ (some (1, 0)) ∗ Φ (some (1, 1)) ∗ Φ (some (1, 2))) :=
  bigSep_univ_eq_bigSepL [none, some (0, 0), some (0, 1), some (0, 2), some (1, 0), some (1, 1), some (1, 2)] (by decide) (by decide) Φ

theorem any_out (c : Dev nD) : (ownAny c oM : sProp 𝕄) = iprop(ownAny c (outRow oM c) ∗ ownAny c (outB oM (org 0 0 c) 0) ∗ ownAny c (outB oM (org 0 1 c) 0) ∗ ownAny c (outB oM (org 0 2 c) 0)
    ∗ ownAny c (outB oM (org 1 0 c) 1) ∗ ownAny c (outB oM (org 1 1 c) 1) ∗ ownAny c (outB oM (org 1 2 c) 1)) := by
  rw [any_tiles (s := S4096x2048) c oM (r := cut c) (cut_stride c) _ (cut_key c), bigSep_cut]
  rfl

theorem own1_out (c : Dev nD) : (own1 c oM fullShare (out m) : sProp 𝕄) = iprop(own1 c (outRow oM c) fullShare (outW m c)
    ∗ own1 c (outB oM (org 0 0 c) 0) fullShare (outH m (org 0 0 c) 0) ∗ own1 c (outB oM (org 0 1 c) 0) fullShare (outH m (org 0 1 c) 0)
    ∗ own1 c (outB oM (org 0 2 c) 0) fullShare (outH m (org 0 2 c) 0) ∗ own1 c (outB oM (org 1 0 c) 1) fullShare (outH m (org 1 0 c) 1)
    ∗ own1 c (outB oM (org 1 1 c) 1) fullShare (outH m (org 1 1 c) 1) ∗ own1 c (outB oM (org 1 2 c) 1) fullShare (outH m (org 1 2 c) 1)) := by
  rw [own1_tiles (s := S4096x2048) c oM (r := cut c) (cut_stride c) _ (cut_key c), bigSep_cut]
  have hn : (fun j => out m ((cut c none).emb j)) = outW m c := funext fun j => out_row m c j
  have hs (x : Fin 2 × Fin 3) : (fun j => out m ((cut c (some x)).emb j)) = outH m (org x.1 x.2.val c) x.1 := funext fun j => out_half m _ _ j
  rw [hn, hs, hs, hs, hs, hs, hs]
  rfl

end Cert.KernelIdeal.Run

end
-- ==== Proof.Ends.lean ====
/-
# What a device starts from and what it leaves

The buffers and the protocol's ghost state of one device, as the launch deals them, against the pieces that the
kernel's body takes and gives back.
-/
module

public import proofs.«01_k».proof.Proof.Body
public import proofs.«01_k».proof.Proof.Result

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)

variable {F : FTy → Type} [FloatOps F]

local notation "𝕄" => MT nD τ sig Unit (Elt F) ℕ UU ℕ

variable (m : (ℓ : Loc nD τ sig) → Buf (Elt F) ℓ)

/-! ## The memory a device starts from, and what it leaves -/

/-- The scratch buffers of device `c`, at contents nobody knows. -/
def Scr (c : Dev nD) : sProp 𝕄 :=
  iprop(ownAny c xbM ∗ ownAny c wbM ∗ ownAny c stM ∗ ownAny c acM ∗ ownAny c osM ∗ ownAny c srM ∗ ownAny c rrM ∗ ownAny c qM ∗ ownAny c agM ∗ ownAny c amM)

/-- The operands of device `c` as launched. -/
def Ops (c : Dev nD) : sProp 𝕄 :=
  iprop(own1 c xM fullShare (m ((c : Thread nD τ).loc main_arg0)) ∗ own1 c wM fullShare (m ((c : Thread nD τ).loc main_arg1)))

theorem xM_rows (c : Dev nD) : (own1 c xM fullShare (m ((c : Thread nD τ).loc main_arg0)) : sProp 𝕄)
    = iprop(own1 c (rowsW xM (fwd 0 c)) fullShare (xv m c (fwd 0 c)) ∗ own1 c (rowsW xM (fwd 1 c)) fullShare (xv m c (fwd 1 c))
      ∗ own1 c (rowsW xM (fwd 2 c)) fullShare (xv m c (fwd 2 c)) ∗ own1 c (rowsW xM (fwd 3 c)) fullShare (xv m c (fwd 3 c))) := by
  rw [own1_rows, bigSep_ring c]
  rfl

theorem wM_halves (c : Dev nD) : (own1 c wM fullShare (m ((c : Thread nD τ).loc main_arg1)) : sProp 𝕄)
    = iprop(own1 c (halfW wM 0) fullShare (wv m c 0) ∗ own1 c (halfW wM 1) fullShare (wv m c 1)) := by
  rw [own1_halves]
  rfl

/-- What device `c` hands to the device before it, and to the device after it. -/
theorem give_prv (c : Dev nD) : (iprop((ownAny c (slot23 rrM 0 0) ∗ ownAny c (slot23 rrM 0 1) ∗ ownAny c (slot23 rrM 0 2))
      ∗ (ownAny c (slot23 agM 0 0) ∗ ownAny c (slot23 agM 0 1) ∗ ownAny c (slot23 agM 0 2))
      ∗ ownAny c (amxW amM (fwd 3 c)) ∗ ownAny c (amxW amM (fwd 2 c))) : sProp 𝕄) ⊢ barPay (prv c) false := by
  have h₁ : tgt 0 (prv c) = c := by revert c; decide
  have h₂ : nxt (prv c) = c := by revert c; decide
  have h₃ : prv (prv c) = fwd 2 c := by revert c; decide
  unfold barPay
  rw [h₁, h₂, h₃]

theorem give_nxt (c : Dev nD) : (iprop((ownAny c (slot23 rrM 1 0) ∗ ownAny c (slot23 rrM 1 1) ∗ ownAny c (slot23 rrM 1 2))
      ∗ (ownAny c (slot23 agM 1 0) ∗ ownAny c (slot23 agM 1 1) ∗ ownAny c (slot23 agM 1 2))
      ∗ ownAny c (amxW amM (fwd 1 c))) : sProp 𝕄) ⊢ barPay (nxt c) true := by
  have h₁ : tgt 1 (nxt c) = c := by revert c; decide
  have h₂ : prv (nxt c) = c := by revert c; decide
  unfold barPay
  rw [h₁, h₂]

/-- The two halves of the quantised chunk, whose shares lie apart. -/
theorem close_q (c : Dev nD) : (iprop(own1 c (fullW qM) fullShare.left (qw m c) ∗ own1 c (halfW qM 0) fullShare.right (qv m c 0)
      ∗ own1 c (halfW qM 1) fullShare.right (qv m c 1)) : sProp 𝕄) ⊢ ownAny c qM := by
  iintro ⟨H, H0, H1⟩
  ihave Hr := (chunk_join m c fullShare.right) $$ H0 H1
  ihave H := (curry2 (own1_join c (fullW qM) fullShare (qw m c))) $$ H Hr
  ihave H := (Entails.of_eq (own1_full c qM fullShare (qw m c)).symm) $$ H
  iapply (own1_any c qM _) $$ H

/-- A buffer of which one share went on its way and came back. -/
theorem close_two (c : Dev nD) {sp : Space} {s : Shape} {e : EltTy} (M : Memref sig .tc sp s e) (X : s.Idx → Elt F e) :
    (own1 c M fullShare.left X : sProp 𝕄) ⊢ iprop(own1 c M fullShare.right X -∗ ownAny c M) :=
  curry2 ((own1_join c M fullShare X).trans (own1_any c M X))

/-- The four maxima: the own slot was lent to three copies. -/
theorem close_am (c : Dev nD) : (iprop(own1 c (amxAll amM) fullShare.left (amxA m)
      ∗ (own1 c (amxW amM c) (shA 0) (amx m c) ∗ own1 c (amxW amM c) (shA 1) (amx m c) ∗ own1 c (amxW amM c) (shA 2) (amx m c))
      ∗ own1 c (amxW amM (fwd 1 c)) fullShare.right (amx m (fwd 1 c)) ∗ own1 c (amxW amM (fwd 2 c)) fullShare.right (amx m (fwd 2 c))
      ∗ own1 c (amxW amM (fwd 3 c)) fullShare.right (amx m (fwd 3 c))) : sProp 𝕄) ⊢ ownAny c amM := by
  rw [any_amx c amM, ← table_all, fwd_zero]
  iintro ⟨⟨L0, L1, L2, L3⟩, ⟨A0, A1, A2⟩, R1, R2, R3⟩
  ihave A := (curry2 (show iprop(own1 c (amxW amM c) (shA 1) (amx m c) ∗ own1 c (amxW amM c) (shA 2) (amx m c))
    ⊢ (own1 c (amxW amM c) fullShare.right.right (amx m c) : sProp 𝕄) from own1_join c (amxW amM c) fullShare.right.right (amx m c))) $$ A1 A2
  ihave A := (curry2 (show iprop(own1 c (amxW amM c) (shA 0) (amx m c) ∗ own1 c (amxW amM c) fullShare.right.right (amx m c))
    ⊢ (own1 c (amxW amM c) fullShare.right (amx m c) : sProp 𝕄) from own1_join c (amxW amM c) fullShare.right (amx m c))) $$ A0 A
  isplitl [L0 A]; · iapply (close_two c _ _) $$ L0 A
  isplitl [L1 R1]; · iapply (close_two c _ _) $$ L1 R1
  isplitl [L2 R2]; · iapply (close_two c _ _) $$ L2 R2
  iapply (close_two c _ _) $$ L3 R3

/-! ## The protocol's ghost state of one device, as chains -/

/-- The cells of a device, the slots of the maxima from its own on. -/
theorem cells_chain (c : Dev nD) (Φ : Cl → sProp 𝕄) : (bigSep Finset.univ fun n : Fin 30 => Φ (cl n))
    = iprop(Φ .bar ∗ Φ (.rsS 0 0) ∗ Φ (.rsS 0 1) ∗ Φ (.rsS 1 0) ∗ Φ (.rsS 1 1) ∗ Φ (.rsR 0 0) ∗ Φ (.rsR 0 1) ∗ Φ (.rsR 0 2) ∗ Φ (.rsR 1 0) ∗ Φ (.rsR 1 1) ∗ Φ (.rsR 1 2) ∗ Φ (.agS 0 0) ∗ Φ (.agS 0 1) ∗ Φ (.agS 0 2) ∗ Φ (.agS 1 0) ∗ Φ (.agS 1 1) ∗ Φ (.agS 1 2) ∗ Φ (.agR 0 0) ∗ Φ (.agR 0 1) ∗ Φ (.agR 0 2) ∗ Φ (.agR 1 0) ∗ Φ (.agR 1 1) ∗ Φ (.agR 1 2) ∗ Φ (.amS 0) ∗ Φ (.amS 1) ∗ Φ (.amS 2) ∗ Φ (.amR (fwd 0 c)) ∗ Φ (.amR (fwd 1 c)) ∗ Φ (.amR (fwd 2 c)) ∗ Φ (.amR (fwd 3 c))) := by
  refine (bigSep_univ_eq_bigSepL [Cl.bar.num, (Cl.rsS 0 0).num, (Cl.rsS 0 1).num, (Cl.rsS 1 0).num, (Cl.rsS 1 1).num, (Cl.rsR 0 0).num, (Cl.rsR 0 1).num, (Cl.rsR 0 2).num, (Cl.rsR 1 0).num, (Cl.rsR 1 1).num, (Cl.rsR 1 2).num, (Cl.agS 0 0).num, (Cl.agS 0 1).num, (Cl.agS 0 2).num, (Cl.agS 1 0).num, (Cl.agS 1 1).num, (Cl.agS 1 2).num, (Cl.agR 0 0).num, (Cl.agR 0 1).num, (Cl.agR 0 2).num, (Cl.agR 1 0).num, (Cl.agR 1 1).num, (Cl.agR 1 2).num, (Cl.amS 0).num, (Cl.amS 1).num, (Cl.amS 2).num, (Cl.amR (fwd 0 c)).num, (Cl.amR (fwd 1 c)).num, (Cl.amR (fwd 2 c)).num, (Cl.amR (fwd 3 c)).num]
    (by revert c; decide +kernel) (by revert c; decide +kernel) _).trans ?_
  simp only [cl_num, bigSepL_cons_cons, bigSepL_singleton]
  rfl

theorem cell_cl (c : Dev nD) (n : Fin 30) : cell c (cl n) = kcell (c, n) := congrArg (fun x => kcell (c, x)) (num_cl n)

/-- The duties device `c` pays: the cell's device, the cell, the round, the duty. -/
def due (c : Dev nD) : Fin 32 → Dev nD × Cl × ℕ × Bool :=
  ![((prv c), .bar, 0, false), ((nxt c), .bar, 0, true), (c, (.rsS 0 0), 0, false), (c, (.rsS 0 1), 0, false), (c, (.rsS 0 0), 1, false), ((tgt 0 c), (.rsR 0 0), 0, false), ((tgt 0 c), (.agR 0 0), 0, false), (c, (.agS 0 0), 0, false), ((tgt 0 c), (.rsR 0 1), 0, false), ((tgt 0 c), (.agR 0 1), 0, false), (c, (.agS 0 1), 0, false), ((tgt 0 c), (.rsR 0 2), 0, false), ((tgt 0 c), (.agR 0 2), 0, false), (c, (.agS 0 2), 0, false), (c, (.rsS 1 0), 0, false), (c, (.rsS 1 1), 0, false), (c, (.rsS 1 0), 1, false), ((tgt 1 c), (.rsR 1 0), 0, false), ((tgt 1 c), (.agR 1 0), 0, false), (c, (.agS 1 0), 0, false), ((tgt 1 c), (.rsR 1 1), 0, false), ((tgt 1 c), (.agR 1 1), 0, false), (c, (.agS 1 1), 0, false), ((tgt 1 c), (.rsR 1 2), 0, false), ((tgt 1 c), (.agR 1 2), 0, false), (c, (.agS 1 2), 0, false), (c, (.amS 0), 0, false), ((fwd 1 c), (.amR c), 0, false), (c, (.amS 1), 0, false), ((fwd 2 c), (.amR c), 0, false), (c, (.amS 2), 0, false), ((fwd 3 c), (.amR c), 0, false)]

theorem due_inj : Function.Injective fun x : Dev nD × Fin 32 => due x.1 x.2 := by
  have h : ∀ (c c' : Dev nD) (j j' : Fin 32), due c j = due c' j' → c = c' ∧ j = j' := by decide +kernel
  rintro ⟨c, j⟩ ⟨c', j'⟩ hh
  obtain ⟨rfl, rfl⟩ := h c c' j j' hh
  rfl

/-- A duty's token. -/
abbrev tokOf (x : Dev nD × Fin 32) : GSem nD τ sig × ℕ × Bool := (cell (due x.1 x.2).1 (due x.1 x.2).2.1, (due x.1 x.2).2.2)

theorem num_inj : Function.Injective Cl.num := fun a b h => by rw [← cl_num a, h, cl_num]

theorem tokOf_inj : Function.Injective tokOf := by
  intro x y h
  have h₁ := kcell_inj (congrArg Prod.fst h)
  have h₂ := congrArg Prod.snd h
  have a : (due x.1 x.2).1 = (due y.1 y.2).1 := congrArg (fun z : Dev nD × Fin 30 => z.1) h₁
  have b : (due x.1 x.2).2.1 = (due y.1 y.2).2.1 := num_inj (congrArg (fun z : Dev nD × Fin 30 => z.2) h₁)
  exact due_inj (show due x.1 x.2 = due y.1 y.2 from Prod.ext a (Prod.ext b h₂))

/-- The tokens of the duties device `c` pays. -/
def Toks (c : Dev nD) : sProp 𝕄 := bigSep Finset.univ fun j : Fin 32 => dutyTok ER (tokOf (c, j)).1 (tokOf (c, j)).2.1 (tokOf (c, j)).2.2

theorem Toks_chain (c : Dev nD) : (Toks c : sProp 𝕄)
    = iprop(dutyTok ER (cell (prv c) .bar) 0 false ∗ dutyTok ER (cell (nxt c) .bar) 0 true ∗ dutyTok ER (cell c (.rsS 0 0)) 0 false ∗ dutyTok ER (cell c (.rsS 0 1)) 0 false ∗ dutyTok ER (cell c (.rsS 0 0)) 1 false ∗ dutyTok ER (cell (tgt 0 c) (.rsR 0 0)) 0 false ∗ dutyTok ER (cell (tgt 0 c) (.agR 0 0)) 0 false ∗ dutyTok ER (cell c (.agS 0 0)) 0 false ∗ dutyTok ER (cell (tgt 0 c) (.rsR 0 1)) 0 false ∗ dutyTok ER (cell (tgt 0 c) (.agR 0 1)) 0 false ∗ dutyTok ER (cell c (.agS 0 1)) 0 false ∗ dutyTok ER (cell (tgt 0 c) (.rsR 0 2)) 0 false ∗ dutyTok ER (cell (tgt 0 c) (.agR 0 2)) 0 false ∗ dutyTok ER (cell c (.agS 0 2)) 0 false ∗ dutyTok ER (cell c (.rsS 1 0)) 0 false ∗ dutyTok ER (cell c (.rsS 1 1)) 0 false ∗ dutyTok ER (cell c (.rsS 1 0)) 1 false ∗ dutyTok ER (cell (tgt 1 c) (.rsR 1 0)) 0 false ∗ dutyTok ER (cell (tgt 1 c) (.agR 1 0)) 0 false ∗ dutyTok ER (cell c (.agS 1 0)) 0 false ∗ dutyTok ER (cell (tgt 1 c) (.rsR 1 1)) 0 false ∗ dutyTok ER (cell (tgt 1 c) (.agR 1 1)) 0 false ∗ dutyTok ER (cell c (.agS 1 1)) 0 false ∗ dutyTok ER (cell (tgt 1 c) (.rsR 1 2)) 0 false ∗ dutyTok ER (cell (tgt 1 c) (.agR 1 2)) 0 false ∗ dutyTok ER (cell c (.agS 1 2)) 0 false ∗ dutyTok ER (cell c (.amS 0)) 0 false ∗ dutyTok ER (cell (fwd 1 c) (.amR c)) 0 false ∗ dutyTok ER (cell c (.amS 1)) 0 false ∗ dutyTok ER (cell (fwd 2 c) (.amR c)) 0 false ∗ dutyTok ER (cell c (.amS 2)) 0 false ∗ dutyTok ER (cell (fwd 3 c) (.amR c)) 0 false) := by
  unfold Toks
  exact bigSep_univ_eq_bigSepL [0, 1, 2, 3, 4, 5, 6, 7, 8, 9, 10, 11, 12, 13, 14, 15, 16, 17, 18, 19, 20, 21, 22, 23, 24, 25, 26, 27, 28, 29, 30, 31] (by decide) (by decide) _

/-- Device `c`'s positions on its cells. -/
def Pos (c : Dev nD) : sProp 𝕄 := bigSep Finset.univ fun n : Fin 30 => atPos ER (kcell (c, n)) 0 ∅ 0

theorem Pos_chain (c : Dev nD) : (Pos c : sProp 𝕄)
    = iprop(atPos ER (cell c .bar) 0 ∅ 0 ∗ atPos ER (cell c (.rsS 0 0)) 0 ∅ 0 ∗ atPos ER (cell c (.rsS 0 1)) 0 ∅ 0 ∗ atPos ER (cell c (.rsS 1 0)) 0 ∅ 0 ∗ atPos ER (cell c (.rsS 1 1)) 0 ∅ 0 ∗ atPos ER (cell c (.rsR 0 0)) 0 ∅ 0 ∗ atPos ER (cell c (.rsR 0 1)) 0 ∅ 0 ∗ atPos ER (cell c (.rsR 0 2)) 0 ∅ 0 ∗ atPos ER (cell c (.rsR 1 0)) 0 ∅ 0 ∗ atPos ER (cell c (.rsR 1 1)) 0 ∅ 0 ∗ atPos ER (cell c (.rsR 1 2)) 0 ∅ 0 ∗ atPos ER (cell c (.agS 0 0)) 0 ∅ 0 ∗ atPos ER (cell c (.agS 0 1)) 0 ∅ 0 ∗ atPos ER (cell c (.agS 0 2)) 0 ∅ 0 ∗ atPos ER (cell c (.agS 1 0)) 0 ∅ 0 ∗ atPos ER (cell c (.agS 1 1)) 0 ∅ 0 ∗ atPos ER (cell c (.agS 1 2)) 0 ∅ 0 ∗ atPos ER (cell c (.agR 0 0)) 0 ∅ 0 ∗ atPos ER (cell c (.agR 0 1)) 0 ∅ 0 ∗ atPos ER (cell c (.agR 0 2)) 0 ∅ 0 ∗ atPos ER (cell c (.agR 1 0)) 0 ∅ 0 ∗ atPos ER (cell c (.agR 1 1)) 0 ∅ 0 ∗ atPos ER (cell c (.agR 1 2)) 0 ∅ 0 ∗ atPos ER (cell c (.amS 0)) 0 ∅ 0 ∗ atPos ER (cell c (.amS 1)) 0 ∅ 0 ∗ atPos ER (cell c (.amS 2)) 0 ∅ 0 ∗ atPos ER (cell c (.amR (fwd 0 c))) 0 ∅ 0 ∗ atPos ER (cell c (.amR (fwd 1 c))) 0 ∅ 0 ∗ atPos ER (cell c (.amR (fwd 2 c))) 0 ∅ 0 ∗ atPos ER (cell c (.amR (fwd 3 c))) 0 ∅ 0) := by
  have h := cells_chain c (fun k => (atPos ER (cell c k) 0 ∅ 0 : sProp 𝕄))
  rw [← h]
  unfold Pos
  exact bigSep_congr fun n _ => by rw [cell_cl]

/-- Device `c`'s cells at zero. -/
theorem zeros_chain (c : Dev nD) : (bigSep Finset.univ fun n : Fin 30 => semVal (kcell (c, n)) 0 : sProp 𝕄)
    = iprop(semVal (cell c .bar) 0 ∗ semVal (cell c (.rsS 0 0)) 0 ∗ semVal (cell c (.rsS 0 1)) 0 ∗ semVal (cell c (.rsS 1 0)) 0 ∗ semVal (cell c (.rsS 1 1)) 0 ∗ semVal (cell c (.rsR 0 0)) 0 ∗ semVal (cell c (.rsR 0 1)) 0 ∗ semVal (cell c (.rsR 0 2)) 0 ∗ semVal (cell c (.rsR 1 0)) 0 ∗ semVal (cell c (.rsR 1 1)) 0 ∗ semVal (cell c (.rsR 1 2)) 0 ∗ semVal (cell c (.agS 0 0)) 0 ∗ semVal (cell c (.agS 0 1)) 0 ∗ semVal (cell c (.agS 0 2)) 0 ∗ semVal (cell c (.agS 1 0)) 0 ∗ semVal (cell c (.agS 1 1)) 0 ∗ semVal (cell c (.agS 1 2)) 0 ∗ semVal (cell c (.agR 0 0)) 0 ∗ semVal (cell c (.agR 0 1)) 0 ∗ semVal (cell c (.agR 0 2)) 0 ∗ semVal (cell c (.agR 1 0)) 0 ∗ semVal (cell c (.agR 1 1)) 0 ∗ semVal (cell c (.agR 1 2)) 0 ∗ semVal (cell c (.amS 0)) 0 ∗ semVal (cell c (.amS 1)) 0 ∗ semVal (cell c (.amS 2)) 0 ∗ semVal (cell c (.amR (fwd 0 c))) 0 ∗ semVal (cell c (.amR (fwd 1 c))) 0 ∗ semVal (cell c (.amR (fwd 2 c))) 0 ∗ semVal (cell c (.amR (fwd 3 c))) 0) := by
  have h := cells_chain c (fun k => (semVal (cell c k) 0 : sProp 𝕄))
  rw [← h]
  exact bigSep_congr fun n _ => by rw [cell_cl]

/-- The units device `c` waits for on cell `k` in all. -/
def due_in (c : Dev nD) : Cl → ℕ
  | .bar => 2
  | .rsR r s => amt (.rsR r s)
  | .agR r t => amt (.agR r t)
  | .amR p => if p = c then 0 else amt (.amR p)
  | _ => 0

/-- Device `c`'s credit at launch. -/
def Creds (c : Dev nD) : sProp 𝕄 := bigSep Finset.univ fun n : Fin 30 => cred (tallyAt (kcell (c, n)) () (due_in c (cl n)))

theorem Creds_chain (c : Dev nD) : (Creds c : sProp 𝕄)
    ⊢ iprop(cred (tallyAt (cell c .bar) () 2) ∗ cred (tallyAt (cell c (.rsR 0 0)) () (amt (.rsR 0 0))) ∗ cred (tallyAt (cell c (.agR 0 0)) () (amt (.agR 0 0))) ∗ cred (tallyAt (cell c (.rsR 0 1)) () (amt (.rsR 0 1))) ∗ cred (tallyAt (cell c (.agR 0 1)) () (amt (.agR 0 1))) ∗ cred (tallyAt (cell c (.rsR 0 2)) () (amt (.rsR 0 2))) ∗ cred (tallyAt (cell c (.agR 0 2)) () (amt (.agR 0 2))) ∗ cred (tallyAt (cell c (.rsR 1 0)) () (amt (.rsR 1 0))) ∗ cred (tallyAt (cell c (.agR 1 0)) () (amt (.agR 1 0))) ∗ cred (tallyAt (cell c (.rsR 1 1)) () (amt (.rsR 1 1))) ∗ cred (tallyAt (cell c (.agR 1 1)) () (amt (.agR 1 1))) ∗ cred (tallyAt (cell c (.rsR 1 2)) () (amt (.rsR 1 2))) ∗ cred (tallyAt (cell c (.agR 1 2)) () (amt (.agR 1 2))) ∗ cred (tallyAt (cell c (.amR (fwd 1 c))) () (amt (.amR (fwd 1 c)))) ∗ cred (tallyAt (cell c (.amR (fwd 2 c))) () (amt (.amR (fwd 2 c)))) ∗ cred (tallyAt (cell c (.amR (fwd 3 c))) () (amt (.amR (fwd 3 c))))) := by
  have n₁ : fwd 1 c ≠ c := by revert c; decide
  have n₂ : fwd 2 c ≠ c := by revert c; decide
  have n₃ : fwd 3 c ≠ c := by revert c; decide
  have h := cells_chain c (fun k => (cred (tallyAt (cell c k) () (due_in c k)) : sProp 𝕄))
  have h' : (Creds c : sProp 𝕄) = bigSep Finset.univ fun n : Fin 30 => cred (tallyAt (cell c (cl n)) () (due_in c (cl n))) := by
    unfold Creds
    exact bigSep_congr fun n _ => by rw [cell_cl]
  have e₁ : due_in c (.amR (fwd 1 c)) = amt (.amR (fwd 1 c)) := if_neg n₁
  have e₂ : due_in c (.amR (fwd 2 c)) = amt (.amR (fwd 2 c)) := if_neg n₂
  have e₃ : due_in c (.amR (fwd 3 c)) = amt (.amR (fwd 3 c)) := if_neg n₃
  rw [h', h, e₁, e₂, e₃]
  iintro ⟨Hcb, -, -, -, -, Hcr00, Hcr01, Hcr02, Hcr10, Hcr11, Hcr12, -, -, -, -, -, -, Hcg00, Hcg01, Hcg02, Hcg10, Hcg11, Hcg12, -, -, -, -, Hcm0r, Hcm1r, Hcm2r⟩
  isplitl [Hcb]; · iexact Hcb
  isplitl [Hcr00]; · iexact Hcr00
  isplitl [Hcg00]; · iexact Hcg00
  isplitl [Hcr01]; · iexact Hcr01
  isplitl [Hcg01]; · iexact Hcg01
  isplitl [Hcr02]; · iexact Hcr02
  isplitl [Hcg02]; · iexact Hcg02
  isplitl [Hcr10]; · iexact Hcr10
  isplitl [Hcg10]; · iexact Hcg10
  isplitl [Hcr11]; · iexact Hcr11
  isplitl [Hcg11]; · iexact Hcg11
  isplitl [Hcr12]; · iexact Hcr12
  isplitl [Hcg12]; · iexact Hcg12
  isplitl [Hcm0r]; · iexact Hcm0r
  isplitl [Hcm1r]; · iexact Hcm1r
  iexact Hcm2r

/-! ## The kernel's own semaphores -/

abbrev osem : Fin 34 → SemLoc sig := fun i => .dma i

/-- The semaphores no other device touches, at zero. -/
def Loc5 (c : Dev nD) : sProp 𝕄 :=
  iprop(semVal ((c : Thread nD τ), SemLoc.dma 0) 0 ∗ semVal ((c : Thread nD τ), SemLoc.dma 1) 0 ∗ semVal ((c : Thread nD τ), SemLoc.dma 31) 0 ∗ semVal ((c : Thread nD τ), SemLoc.dma 32) 0 ∗ semVal ((c : Thread nD τ), SemLoc.dma 33) 0)

theorem zeros_list (c : Dev nD) : (bigSep Finset.univ fun n : Fin 30 => semVal (kcell (c, n)) 0 : sProp 𝕄)
    = iprop(semVal ((c : Thread nD τ), SemLoc.reg barS) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0) :=
  bigSep_univ_eq_bigSepL [0, 1, 2, 3, 4, 5, 6, 7, 8, 9, 10, 11, 12, 13, 14, 15, 16, 17, 18, 19, 20, 21, 22, 23, 24, 25, 26, 27, 28, 29] (by decide) (by decide) _

theorem own_list (c : Dev nD) : (Pipeline.ownSems0 (Ix := Unit) (Name := ℕ) (U := UU) (Lvl := ℕ) (Val := Elt F) (τ := τ) osem c : sProp 𝕄)
    = iprop(semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0) :=
  Pipeline.ownSems0_eq_of_list c osem [0, 1, 2, 3, 4, 5, 6, 7, 8, 9, 10, 11, 12, 13, 14, 15, 16, 17, 18, 19, 20, 21, 22, 23, 24, 25, 26, 27, 28, 29, 30, 31, 32, 33] (by decide) (by decide)

theorem unscoped_list (c : Dev nD) : (unscopedSems0 c : sProp 𝕄) = semVal ((c : Thread nD τ), SemLoc.reg barS) 0 := by
  unfold unscopedSems0; rw [bigSep_eq_bigSepL_of_eq [SemLoc.reg barS] (by decide) (by decide)]; rfl

/-- A device's semaphores at zero are the protocol's cells and the five others. -/
theorem sems_open (c : Dev nD) :
    iprop(Pipeline.ownSems0 (Ix := Unit) (Name := ℕ) (U := UU) (Lvl := ℕ) (Val := Elt F) (τ := τ) osem c ∗ unscopedSems0 c)
      ⊢ iprop((bigSep Finset.univ fun n : Fin 30 => semVal (kcell (c, n)) 0) ∗ Loc5 c : sProp 𝕄) := by
  rw [own_list, unscoped_list, zeros_list]
  unfold Loc5
  iintro ⟨⟨Z0, Z1, Z2, Z3, Z4, Z5, Z6, Z7, Z8, Z9, Z10, Z11, Z12, Z13, Z14, Z15, Z16, Z17, Z18, Z19, Z20, Z21, Z22, Z23, Z24, Z25, Z26, Z27, Z28, Z29, Z30, Z31, Z32, Z33⟩, Zb⟩
  isplitl [Zb Z2 Z3 Z4 Z5 Z6 Z7 Z8 Z9 Z10 Z11 Z12 Z13 Z14 Z15 Z16 Z17 Z18 Z19 Z20 Z21 Z22 Z23 Z24 Z25 Z26 Z27 Z28 Z29 Z30]
  · isplitl [Zb]; · iexact Zb
    isplitl [Z2]; · iexact Z2
    isplitl [Z3]; · iexact Z3
    isplitl [Z4]; · iexact Z4
    isplitl [Z5]; · iexact Z5
    isplitl [Z6]; · iexact Z6
    isplitl [Z7]; · iexact Z7
    isplitl [Z8]; · iexact Z8
    isplitl [Z9]; · iexact Z9
    isplitl [Z10]; · iexact Z10
    isplitl [Z11]; · iexact Z11
    isplitl [Z12]; · iexact Z12
    isplitl [Z13]; · iexact Z13
    isplitl [Z14]; · iexact Z14
    isplitl [Z15]; · iexact Z15
    isplitl [Z16]; · iexact Z16
    isplitl [Z17]; · iexact Z17
    isplitl [Z18]; · iexact Z18
    isplitl [Z19]; · iexact Z19
    isplitl [Z20]; · iexact Z20
    isplitl [Z21]; · iexact Z21
    isplitl [Z22]; · iexact Z22
    isplitl [Z23]; · iexact Z23
    isplitl [Z24]; · iexact Z24
    isplitl [Z25]; · iexact Z25
    isplitl [Z26]; · iexact Z26
    isplitl [Z27]; · iexact Z27
    isplitl [Z28]; · iexact Z28
    isplitl [Z29]; · iexact Z29
    iexact Z30
  isplitl [Z0]; · iexact Z0
  isplitl [Z1]; · iexact Z1
  isplitl [Z31]; · iexact Z31
  isplitl [Z32]; · iexact Z32
  iexact Z33

theorem sems_close (c : Dev nD) :
    iprop((bigSep Finset.univ fun n : Fin 30 => semVal (kcell (c, n)) 0) ∗ Loc5 c : sProp 𝕄)
      ⊢ iprop(Pipeline.ownSems0 (Ix := Unit) (Name := ℕ) (U := UU) (Lvl := ℕ) (Val := Elt F) (τ := τ) osem c ∗ unscopedSems0 c) := by
  rw [own_list, unscoped_list, zeros_list]
  unfold Loc5
  iintro ⟨⟨Zb, Z2, Z3, Z4, Z5, Z6, Z7, Z8, Z9, Z10, Z11, Z12, Z13, Z14, Z15, Z16, Z17, Z18, Z19, Z20, Z21, Z22, Z23, Z24, Z25, Z26, Z27, Z28, Z29, Z30⟩, Z0, Z1, Z31, Z32, Z33⟩
  isplitl [Z0 Z1 Z2 Z3 Z4 Z5 Z6 Z7 Z8 Z9 Z10 Z11 Z12 Z13 Z14 Z15 Z16 Z17 Z18 Z19 Z20 Z21 Z22 Z23 Z24 Z25 Z26 Z27 Z28 Z29 Z30 Z31 Z32 Z33]
  · isplitl [Z0]; · iexact Z0
    isplitl [Z1]; · iexact Z1
    isplitl [Z2]; · iexact Z2
    isplitl [Z3]; · iexact Z3
    isplitl [Z4]; · iexact Z4
    isplitl [Z5]; · iexact Z5
    isplitl [Z6]; · iexact Z6
    isplitl [Z7]; · iexact Z7
    isplitl [Z8]; · iexact Z8
    isplitl [Z9]; · iexact Z9
    isplitl [Z10]; · iexact Z10
    isplitl [Z11]; · iexact Z11
    isplitl [Z12]; · iexact Z12
    isplitl [Z13]; · iexact Z13
    isplitl [Z14]; · iexact Z14
    isplitl [Z15]; · iexact Z15
    isplitl [Z16]; · iexact Z16
    isplitl [Z17]; · iexact Z17
    isplitl [Z18]; · iexact Z18
    isplitl [Z19]; · iexact Z19
    isplitl [Z20]; · iexact Z20
    isplitl [Z21]; · iexact Z21
    isplitl [Z22]; · iexact Z22
    isplitl [Z23]; · iexact Z23
    isplitl [Z24]; · iexact Z24
    isplitl [Z25]; · iexact Z25
    isplitl [Z26]; · iexact Z26
    isplitl [Z27]; · iexact Z27
    isplitl [Z28]; · iexact Z28
    isplitl [Z29]; · iexact Z29
    isplitl [Z30]; · iexact Z30
    isplitl [Z31]; · iexact Z31
    isplitl [Z32]; · iexact Z32
    iexact Z33
  iexact Zb

end Cert.KernelIdeal.Run

end
-- ==== Proof.Run.lean ====
/-
# One device's run

From what the launch deals a device to what it leaves: the kernel's body once, at a symbolic device.
-/
module

public import proofs.«01_k».proof.Proof.Ends

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)

variable {F : FTy → Type} [FloatOps F]

local notation "𝕄" => MT nD τ sig Unit (Elt F) ℕ UU ℕ

variable (m : (ℓ : Loc nD τ sig) → Buf (Elt F) ℓ)

variable (K : Dev nD × Fin 30 → ℕ)

/-- What the body starts from, and what it leaves. -/
def Start (c : Dev nD) : sProp 𝕄 :=
  iprop(Ctx m K ∗ Owe c (todo0 c) ∗ Pos c ∗ Toks c ∗ Creds c ∗ Loc5 c ∗ Ops m c ∗ ownAny c oM ∗ Scr c)

def End (c : Dev nD) : sProp 𝕄 :=
  iprop(Owe c [] ∗ (bigSep Finset.univ fun n : Fin 30 => semVal (kcell (c, n)) 0) ∗ Loc5 c ∗ Ops m c ∗ own1 c oM fullShare (out m) ∗ Scr c)

theorem full_any (c : Dev nD) {sp : Space} {e : EltTy} (M : Memref sig .tc sp S1024x2048 e) : (ownAny c M : sProp 𝕄) ⊢ ownAny c (fullW M) := by
  unfold ownAny
  iintro ⟨%X, H⟩
  iexists X
  rw [← own1_full]
  iexact H

/-- The body's pieces put together. -/
theorem end_run (c : Dev nD) : (iprop(Owe c []
    ∗ (semVal (cell c .bar) 0 ∗ semVal (cell c (.rsS 0 0)) 0 ∗ semVal (cell c (.rsS 0 1)) 0 ∗ semVal (cell c (.rsS 1 0)) 0 ∗ semVal (cell c (.rsS 1 1)) 0 ∗ semVal (cell c (.rsR 0 0)) 0 ∗ semVal (cell c (.rsR 0 1)) 0 ∗ semVal (cell c (.rsR 0 2)) 0 ∗ semVal (cell c (.rsR 1 0)) 0 ∗ semVal (cell c (.rsR 1 1)) 0 ∗ semVal (cell c (.rsR 1 2)) 0 ∗ semVal (cell c (.agS 0 0)) 0 ∗ semVal (cell c (.agS 0 1)) 0 ∗ semVal (cell c (.agS 0 2)) 0 ∗ semVal (cell c (.agS 1 0)) 0 ∗ semVal (cell c (.agS 1 1)) 0 ∗ semVal (cell c (.agS 1 2)) 0 ∗ semVal (cell c (.agR 0 0)) 0 ∗ semVal (cell c (.agR 0 1)) 0 ∗ semVal (cell c (.agR 0 2)) 0 ∗ semVal (cell c (.agR 1 0)) 0 ∗ semVal (cell c (.agR 1 1)) 0 ∗ semVal (cell c (.agR 1 2)) 0 ∗ semVal (cell c (.amS 0)) 0 ∗ semVal (cell c (.amS 1)) 0 ∗ semVal (cell c (.amS 2)) 0 ∗ semVal (cell c (.amR (fwd 0 c))) 0 ∗ semVal (cell c (.amR (fwd 1 c))) 0 ∗ semVal (cell c (.amR (fwd 2 c))) 0 ∗ semVal (cell c (.amR (fwd 3 c))) 0)
    ∗ (semVal ((c : Thread nD τ), SemLoc.dma 0) 0 ∗ semVal ((c : Thread nD τ), SemLoc.dma 1) 0 ∗ semVal ((c : Thread nD τ), SemLoc.dma 31) 0 ∗ semVal ((c : Thread nD τ), SemLoc.dma 32) 0 ∗ semVal ((c : Thread nD τ), SemLoc.dma 33) 0)
    ∗ (own1 c (rowsW xM (fwd 0 c)) fullShare (xv m c (fwd 0 c)) ∗ own1 c (rowsW xM (fwd 1 c)) fullShare (xv m c (fwd 1 c)) ∗ own1 c (rowsW xM (fwd 2 c)) fullShare (xv m c (fwd 2 c)) ∗ own1 c (rowsW xM (fwd 3 c)) fullShare (xv m c (fwd 3 c)))
    ∗ (own1 c (halfW wM 0) fullShare (wv m c 0) ∗ own1 c (halfW wM 1) fullShare (wv m c 1))
    ∗ (own1 c (outRow oM c) fullShare (outW m c) ∗ own1 c (outB oM (org 0 0 c) 0) fullShare (outH m (org 0 0 c) 0) ∗ own1 c (outB oM (org 0 1 c) 0) fullShare (outH m (org 0 1 c) 0) ∗ own1 c (outB oM (org 0 2 c) 0) fullShare (outH m (org 0 2 c) 0) ∗ own1 c (outB oM (org 1 0 c) 1) fullShare (outH m (org 1 0 c) 1) ∗ own1 c (outB oM (org 1 1 c) 1) fullShare (outH m (org 1 1 c) 1) ∗ own1 c (outB oM (org 1 2 c) 1) fullShare (outH m (org 1 2 c) 1))
    ∗ (own1 c (rowsW xbM (fwd 0 c)) fullShare (xb m c (fwd 0 c)) ∗ own1 c (rowsW xbM (fwd 1 c)) fullShare (xb m c (fwd 1 c)) ∗ own1 c (rowsW xbM (fwd 2 c)) fullShare (xb m c (fwd 2 c)) ∗ own1 c (rowsW xbM (fwd 3 c)) fullShare (xb m c (fwd 3 c)))
    ∗ (own1 c (halfW wbM 0) fullShare (wb m c 0) ∗ own1 c (halfW wbM 1) fullShare (wb m c 1))
    ∗ (own1 c (stageW stM 0) fullShare (lift3 (xv m c (fwd 2 c))) ∗ own1 c (stageW stM 1) fullShare (lift3 (xv m c (fwd 0 c))))
    ∗ (own1 c (halfW acM 0) fullShare (acc m c 0) ∗ own1 c (halfW acM 1) fullShare (acc m c 1))
    ∗ (own1 c (halfW osM 0) fullShare (outH m (org 0 2 c) 0) ∗ own1 c (halfW osM 1) fullShare (outH m (org 1 2 c) 1))
    ∗ (ownAny c (slot22 srM 0 0) ∗ ownAny c (slot22 srM 0 1) ∗ ownAny c (slot22 srM 1 0) ∗ ownAny c (slot22 srM 1 1))
    ∗ (own1 c (slot23 rrM 0 0) fullShare (sV m 0 0 (src 0 c)) ∗ own1 c (slot23 rrM 0 1) fullShare (sV m 0 1 (src 0 c)) ∗ own1 c (slot23 rrM 0 2) fullShare (sV m 0 2 (src 0 c)) ∗ own1 c (slot23 rrM 1 0) fullShare (sV m 1 0 (src 1 c)) ∗ own1 c (slot23 rrM 1 1) fullShare (sV m 1 1 (src 1 c)) ∗ own1 c (slot23 rrM 1 2) fullShare (sV m 1 2 (src 1 c)))
    ∗ (own1 c (fullW qM) fullShare.left (qw m c) ∗ own1 c (halfW qM 0) fullShare.right (qv m c 0) ∗ own1 c (halfW qM 1) fullShare.right (qv m c 1))
    ∗ (own1 c (slot23 agM 0 0) fullShare.left (agV m 0 0 c) ∗ own1 c (slot23 agM 0 0) fullShare.right (agV m 0 0 c) ∗ own1 c (slot23 agM 0 1) fullShare.left (agV m 0 1 c) ∗ own1 c (slot23 agM 0 1) fullShare.right (agV m 0 1 c) ∗ own1 c (slot23 agM 0 2) fullShare (agV m 0 2 c) ∗ own1 c (slot23 agM 1 0) fullShare.left (agV m 1 0 c) ∗ own1 c (slot23 agM 1 0) fullShare.right (agV m 1 0 c) ∗ own1 c (slot23 agM 1 1) fullShare.left (agV m 1 1 c) ∗ own1 c (slot23 agM 1 1) fullShare.right (agV m 1 1 c) ∗ own1 c (slot23 agM 1 2) fullShare (agV m 1 2 c))
    ∗ (own1 c (amxAll amM) fullShare.left (amxA m) ∗ own1 c (amxW amM c) (shA 0) (amx m c) ∗ own1 c (amxW amM c) (shA 1) (amx m c) ∗ own1 c (amxW amM c) (shA 2) (amx m c) ∗ own1 c (amxW amM (fwd 1 c)) fullShare.right (amx m (fwd 1 c)) ∗ own1 c (amxW amM (fwd 2 c)) fullShare.right (amx m (fwd 2 c)) ∗ own1 c (amxW amM (fwd 3 c)) fullShare.right (amx m (fwd 3 c)))) : sProp 𝕄) ⊢ End m c := by
  unfold End Ops Scr Loc5
  rw [zeros_chain, xM_rows, wM_halves, own1_out, any_rows c xbM, any_halves c wbM, any_stage c stM, any_halves c acM, any_halves c osM, any_22 c srM,
    any_23 c rrM, any_23 c agM]
  iintro ⟨HO, Hz, Hf, ⟨Hx0, Hx1, Hx2, Hx3⟩, Hw, Ho, ⟨Hxb0, Hxb1, Hxb2, Hxb3⟩, ⟨Hwb0, Hwb1⟩, ⟨Hst0, Hst1⟩, ⟨Hac0, Hac1⟩, ⟨Hos0, Hos1⟩, Hsr,
    ⟨Hrr00, Hrr01, Hrr02, Hrr10, Hrr11, Hrr12⟩, Hq, ⟨Hgl00, Hgr00, Hgl01, Hgr01, Hgl02, Hgl10, Hgr10, Hgl11, Hgr11, Hgl12⟩, Hamt, Hamo0, Hamo1, Hamo2, Hamr⟩
  isplitl [HO]; · iexact HO
  isplitl [Hz]; · iexact Hz
  isplitl [Hf]; · iexact Hf
  isplitl [Hx0 Hx1 Hx2 Hx3 Hw]
  · isplitl [Hx0 Hx1 Hx2 Hx3]
    · isplitl [Hx0]; · iexact Hx0
      isplitl [Hx1]; · iexact Hx1
      isplitl [Hx2]; · iexact Hx2
      iexact Hx3
    iexact Hw
  isplitl [Ho]; · iexact Ho
  isplitl [Hxb0 Hxb1 Hxb2 Hxb3]
  · isplitl [Hxb0]; · iapply (own1_any c _ _) $$ Hxb0
    isplitl [Hxb1]; · iapply (own1_any c _ _) $$ Hxb1
    isplitl [Hxb2]; · iapply (own1_any c _ _) $$ Hxb2
    iapply (own1_any c _ _) $$ Hxb3
  isplitl [Hwb0 Hwb1]
  · isplitl [Hwb0]; · iapply (own1_any c _ _) $$ Hwb0
    iapply (own1_any c _ _) $$ Hwb1
  isplitl [Hst0 Hst1]
  · isplitl [Hst0]; · iapply (own1_any c _ _) $$ Hst0
    iapply (own1_any c _ _) $$ Hst1
  isplitl [Hac0 Hac1]
  · isplitl [Hac0]; · iapply (own1_any c _ _) $$ Hac0
    iapply (own1_any c _ _) $$ Hac1
  isplitl [Hos0 Hos1]
  · isplitl [Hos0]; · iapply (own1_any c _ _) $$ Hos0
    iapply (own1_any c _ _) $$ Hos1
  isplitl [Hsr]; · iexact Hsr
  isplitl [Hrr00 Hrr01 Hrr02 Hrr10 Hrr11 Hrr12]
  · isplitl [Hrr00]; · iapply (own1_any c _ _) $$ Hrr00
    isplitl [Hrr01]; · iapply (own1_any c _ _) $$ Hrr01
    isplitl [Hrr02]; · iapply (own1_any c _ _) $$ Hrr02
    isplitl [Hrr10]; · iapply (own1_any c _ _) $$ Hrr10
    isplitl [Hrr11]; · iapply (own1_any c _ _) $$ Hrr11
    iapply (own1_any c _ _) $$ Hrr12
  isplitl [Hq]; · iapply (close_q m c) $$ Hq
  isplitl [Hgl00 Hgr00 Hgl01 Hgr01 Hgl02 Hgl10 Hgr10 Hgl11 Hgr11 Hgl12]
  · isplitl [Hgl00 Hgr00]; · iapply (close_two c _ _) $$ Hgl00 Hgr00
    isplitl [Hgl01 Hgr01]; · iapply (close_two c _ _) $$ Hgl01 Hgr01
    isplitl [Hgl02]; · iapply (own1_any c _ _) $$ Hgl02
    isplitl [Hgl10 Hgr10]; · iapply (close_two c _ _) $$ Hgl10 Hgr10
    isplitl [Hgl11 Hgr11]; · iapply (close_two c _ _) $$ Hgl11 Hgr11
    iapply (own1_any c _ _) $$ Hgl12
  iapply (close_am m c)
  isplitl [Hamt]; · iexact Hamt
  isplitl [Hamo0 Hamo1 Hamo2]
  · isplitl [Hamo0]; · iexact Hamo0
    isplitl [Hamo1] <;> iassumption
  iexact Hamr

set_option maxHeartbeats 1600000 in
/-- The whole body of device `c`. -/
theorem body_run (c : Dev nD) : Start m K c ⊢ WP c (bodyAt0 (F := F) t0_0) (fun _ => End m c) := by
  unfold Start Ops Scr Loc5
  rw [Pos_chain, Toks_chain, xM_rows, wM_halves, any_out, any_rows c xbM, any_halves c wbM, any_stage c stM, any_halves c acM, any_22 c srM, any_23 c rrM,
    any_halves c qM, any_23 c agM, any_amx c amM]
  iintro ⟨#HC, HO, ⟨Hab, Has00, Has01, Has10, Has11, Har00, Har01, Har02, Har10, Har11, Har12, Hah00, Hah01, Hah02, Hah10, Hah11, Hah12, Hag00, Hag01, Hag02, Hag10, Hag11, Hag12, Ham0s, Ham1s, Ham2s, Ham0, Ham0r, Ham1r, Ham2r⟩, ⟨Htb0, Htb1, Hts00, Hts01, Hts00b, Htr00, Htg00, Hth00, Htr01, Htg01, Hth01, Htr02, Htg02, Hth02, Hts10, Hts11, Hts10b, Htr10, Htg10, Hth10, Htr11, Htg11, Hth11, Htr12, Htg12, Hth12, Htm0s, Htm0r, Htm1s, Htm1r, Htm2s, Htm2r⟩, Hcr, ⟨Hz0, Hz1, Hzo0, Hzo1, Hzown⟩, ⟨⟨Hx0, Hx1, Hx2, Hx3⟩, Hw0, Hw1⟩,
    ⟨Hout, Hout00, Hout01, Hout02, Hout10, Hout11, Hout12⟩, ⟨Hxb0, Hxb1, Hxb2, Hxb3⟩, ⟨Hwb0, Hwb1⟩, ⟨Hst0, Hst1⟩, ⟨Hac0, Hac1⟩, Hos,
    ⟨Hsr00, Hsr01, Hsr10, Hsr11⟩, ⟨R00, R01, R02, R10, R11, R12⟩, ⟨Hq0, Hq1⟩, ⟨G00, G01, G02, G10, G11, G12⟩, Ham, A1, A2, A3⟩
  ihave ⟨Hcb, Hcr00, Hcg00, Hcr01, Hcg01, Hcr02, Hcg02, Hcr10, Hcg10, Hcr11, Hcg11, Hcr12, Hcg12, Hcm0r, Hcm1r, Hcm2r⟩ := (Creds_chain c) $$ Hcr
  ihave Ham := (Entails.of_eq (congrArg (fun d => (ownAny c (amxW amM d) : sProp 𝕄)) (fwd_zero c))) $$ Ham
  ihave Hos := (full_any c osM) $$ Hos
  ihave Hbp0 := (give_prv c) $$ [R00 R01 R02 G00 G01 G02 A3 A2]
  · isplitl [R00 R01 R02]
    · isplitl [R00]; · iexact R00
      isplitl [R01] <;> iassumption
    isplitl [G00 G01 G02]
    · isplitl [G00]; · iexact G00
      isplitl [G01] <;> iassumption
    isplitl [A3] <;> iassumption
  ihave Hbp1 := (give_nxt c) $$ [R10 R11 R12 G10 G11 G12 A1]
  · isplitl [R10 R11 R12]
    · isplitl [R10]; · iexact R10
      isplitl [R11] <;> iassumption
    isplitl [G10 G11 G12]
    · isplitl [G10]; · iexact G10
      isplitl [G11] <;> iassumption
    iexact A1
  imod (curry2 (close m K c (.amR (fwd 0 c)) 0 (by rw [fwd_zero]; exact nr_am0 c))) $$ HC Ham0 with Hzc
  iapply (body_parts m K c _) $$ HC HO Hw0 Hw1 Hx0 Hx1 Hx2 Hx3 Hst0 Hst1 Hwb0 Hwb1 Hxb0 Hxb1 Hxb2 Hxb3 Hac0 Hac1 Hos Hsr00 Hsr01 Hsr10 Hsr11 Hq0 Hq1 Ham Hout Hout00 Hout01 Hout02 Hout10 Hout11 Hout12 Hz0 Hz1 Hzo0 Hzo1 Hzown Htb0 Htb1 Hbp0 Hbp1 Hcb Hab Has00 Hts00 Has01 Hts01 Hts00b Har00 Hcr00 Htr00 Hag00 Hcg00 Htg00 Hah00 Hth00 Har01 Hcr01 Htr01 Hag01 Hcg01 Htg01 Hah01 Hth01 Har02 Hcr02 Htr02 Hag02 Hcg02 Htg02 Hah02 Hth02 Has10 Hts10 Has11 Hts11 Hts10b Har10 Hcr10 Htr10 Hag10 Hcg10 Htg10 Hah10 Hth10 Har11 Hcr11 Htr11 Hag11 Hcg11 Htg11 Hah11 Hth11 Har12 Hcr12 Htr12 Hag12 Hcg12 Htg12 Hah12 Hth12 Ham0s Htm0s Htm0r Ham0r Hcm0r Ham1s Htm1s Htm1r Ham1r Hcm1r Ham2s Htm2s Htm2r Ham2r Hcm2r
  iintro ⟨Hw0, Hw1, Hx3, Hx1, Hzb, Hst0, Hx2, Hz0, Hxb2, Hzr00, Hrr10, Hzr10, Hrr00, Hst1, Hx0, Hz1, Hxb1, Hxb3, Hzr01, Hzr11, Hrr01, Hrr11, Hxb0, Hwb0, Hwb1, Hrr02, Hzr02, Hzr12, Hrr12, Hzm0r, Hzm1r, Hzm2r, Hamr0r, Hamr1r, Hamr2r, Hamt, Hac0, Hac1, Hqw, Hzg00, Hzg10, Hout, Hzown, Hgl00, Hgl10, Hzg01, Hzg11, Hout00, Hout10, Hgl01, Hgl11, Hzg02, Hzg12, Hout01, Hout11, Hgl02, Hgl12, Hos1, Hout12, Hzo1, Hout02, Hos0, Hzo0, Hsr01, Hzs01, Hsr11, Hzs11, Hsr00, Hzs00, Hsr10, Hzs10, Hamo0, Hzm0s, Hamo1, Hzm1s, Hamo2, Hzm2s, Hq0r, Hzh00, HO, Hq1r, Hzh10, Hgr00, Hzh01, Hgr10, Hzh11, Hgr01, Hzh02, Hgr11, Hzh12⟩
  iapply (end_run m c)
  isplitl [HO]; · iexact HO
  isplitl [Hzb Hzs00 Hzs01 Hzs10 Hzs11 Hzr00 Hzr01 Hzr02 Hzr10 Hzr11 Hzr12 Hzh00 Hzh01 Hzh02 Hzh10 Hzh11 Hzh12 Hzg00 Hzg01 Hzg02 Hzg10 Hzg11 Hzg12 Hzm0s Hzm1s Hzm2s Hzc Hzm0r Hzm1r Hzm2r]
  · isplitl [Hzb]; · iexact Hzb
    isplitl [Hzs00]; · iexact Hzs00
    isplitl [Hzs01]; · iexact Hzs01
    isplitl [Hzs10]; · iexact Hzs10
    isplitl [Hzs11]; · iexact Hzs11
    isplitl [Hzr00]; · iexact Hzr00
    isplitl [Hzr01]; · iexact Hzr01
    isplitl [Hzr02]; · iexact Hzr02
    isplitl [Hzr10]; · iexact Hzr10
    isplitl [Hzr11]; · iexact Hzr11
    isplitl [Hzr12]; · iexact Hzr12
    isplitl [Hzh00]; · iexact Hzh00
    isplitl [Hzh01]; · iexact Hzh01
    isplitl [Hzh02]; · iexact Hzh02
    isplitl [Hzh10]; · iexact Hzh10
    isplitl [Hzh11]; · iexact Hzh11
    isplitl [Hzh12]; · iexact Hzh12
    isplitl [Hzg00]; · iexact Hzg00
    isplitl [Hzg01]; · iexact Hzg01
    isplitl [Hzg02]; · iexact Hzg02
    isplitl [Hzg10]; · iexact Hzg10
    isplitl [Hzg11]; · iexact Hzg11
    isplitl [Hzg12]; · iexact Hzg12
    isplitl [Hzm0s]; · iexact Hzm0s
    isplitl [Hzm1s]; · iexact Hzm1s
    isplitl [Hzm2s]; · iexact Hzm2s
    isplitl [Hzc]; · iexact Hzc
    isplitl [Hzm0r]; · iexact Hzm0r
    isplitl [Hzm1r]; · iexact Hzm1r
    iexact Hzm2r
  isplitl [Hz0 Hz1 Hzo0 Hzo1 Hzown]
  · isplitl [Hz0]; · iexact Hz0
    isplitl [Hz1]; · iexact Hz1
    isplitl [Hzo0]; · iexact Hzo0
    isplitl [Hzo1]; · iexact Hzo1
    iexact Hzown
  isplitl [Hx0 Hx1 Hx2 Hx3]
  · isplitl [Hx0]; · iexact Hx0
    isplitl [Hx1]; · iexact Hx1
    isplitl [Hx2]; · iexact Hx2
    iexact Hx3
  isplitl [Hw0 Hw1]
  · isplitl [Hw0]; · iexact Hw0
    iexact Hw1
  isplitl [Hout Hout00 Hout01 Hout02 Hout10 Hout11 Hout12]
  · isplitl [Hout]; · iexact Hout
    isplitl [Hout00]; · iexact Hout00
    isplitl [Hout01]; · iexact Hout01
    isplitl [Hout02]; · iexact Hout02
    isplitl [Hout10]; · iexact Hout10
    isplitl [Hout11]; · iexact Hout11
    iexact Hout12
  isplitl [Hxb0 Hxb1 Hxb2 Hxb3]
  · isplitl [Hxb0]; · iexact Hxb0
    isplitl [Hxb1]; · iexact Hxb1
    isplitl [Hxb2]; · iexact Hxb2
    iexact Hxb3
  isplitl [Hwb0 Hwb1]
  · isplitl [Hwb0]; · iexact Hwb0
    iexact Hwb1
  isplitl [Hst0 Hst1]
  · isplitl [Hst0]; · iexact Hst0
    iexact Hst1
  isplitl [Hac0 Hac1]
  · isplitl [Hac0]; · iexact Hac0
    iexact Hac1
  isplitl [Hos0 Hos1]
  · isplitl [Hos0]; · iexact Hos0
    iexact Hos1
  isplitl [Hsr00 Hsr01 Hsr10 Hsr11]
  · isplitl [Hsr00]; · iexact Hsr00
    isplitl [Hsr01]; · iexact Hsr01
    isplitl [Hsr10]; · iexact Hsr10
    iexact Hsr11
  isplitl [Hrr00 Hrr01 Hrr02 Hrr10 Hrr11 Hrr12]
  · isplitl [Hrr00]; · iexact Hrr00
    isplitl [Hrr01]; · iexact Hrr01
    isplitl [Hrr02]; · iexact Hrr02
    isplitl [Hrr10]; · iexact Hrr10
    isplitl [Hrr11]; · iexact Hrr11
    iexact Hrr12
  isplitl [Hqw Hq0r Hq1r]
  · isplitl [Hqw]; · iexact Hqw
    isplitl [Hq0r]; · iexact Hq0r
    iexact Hq1r
  isplitl [Hgl00 Hgr00 Hgl01 Hgr01 Hgl02 Hgl10 Hgr10 Hgl11 Hgr11 Hgl12]
  · isplitl [Hgl00]; · iexact Hgl00
    isplitl [Hgr00]; · iexact Hgr00
    isplitl [Hgl01]; · iexact Hgl01
    isplitl [Hgr01]; · iexact Hgr01
    isplitl [Hgl02]; · iexact Hgl02
    isplitl [Hgl10]; · iexact Hgl10
    isplitl [Hgr10]; · iexact Hgr10
    isplitl [Hgl11]; · iexact Hgl11
    isplitl [Hgr11]; · iexact Hgr11
    iexact Hgl12
  isplitl [Hamt]; · iexact Hamt
  isplitl [Hamo0]; · iexact Hamo0
  isplitl [Hamo1]; · iexact Hamo1
  isplitl [Hamo2]; · iexact Hamo2
  isplitl [Hamr0r]; · iexact Hamr0r
  isplitl [Hamr1r]; · iexact Hamr1r
  iexact Hamr2r

end Cert.KernelIdeal.Run

end
-- ==== Proof.Launch.lean ====
/-
# The launch

The four devices' runs put together.
-/
module

public import proofs.«01_k».proof.Proof.Run
public import Idealize.ShloMosaic.Lib.Pipeline.Quiescent

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)

variable {F : FTy → Type} [FloatOps F]

local notation "𝕄" => MT nD τ sig Unit (Elt F) ℕ UU ℕ

variable (m : (ℓ : Loc nD τ sig) → Buf (Elt F) ℓ)

/-! ## The proof data of the launch -/

/-- What the launch deals device `c` besides its scratch buffers. -/
def Deal (c : Dev nD) : sProp 𝕄 :=
  iprop(∃ K, Ctx m K ∗ Pos c ∗ Toks c ∗ Creds c ∗ Loc5 c ∗ Ops m c ∗ ownAny c oM)

/-- What is left besides them. -/
def Left (c : Dev nD) : sProp 𝕄 :=
  iprop((bigSep Finset.univ fun n : Fin 30 => semVal (kcell (c, n)) 0) ∗ Loc5 c ∗ Ops m c ∗ own1 c oM fullShare (out m))

def O₀ (c : Dev nD) : CellTallies nD τ sig Unit := debt (todo0 c)

def dats (_ : Fin 1) (c : Dev nD) : Pipeline.Dat τ (Elt F) Unit ℕ UU ℕ cfg0 c where
  A w := w.elim0
  after w _ := w.elim0
  Φ t := match t with
    | ⟨0, _⟩ => iprop(Deal m c ∗ Scr c)
    | ⟨_ + 1, _⟩ => iprop(Left m c ∗ Scr c)
  q _ := fullShare
  owed t := match t with
    | ⟨0, _⟩ => O₀ c
    | ⟨_ + 1, _⟩ => 0

/-- One device's run, between the launch's two ends. -/
theorem device_run (c : Dev nD) : iprop((Deal m c ∗ Scr c) ∗ Owe c (todo0 c))
    ⊢ WP c (bodyAt0 (F := F) t0_0) (fun _ => iprop((Left m c ∗ Scr c) ∗ Owe c [])) := by
  have h : ∀ a : PUnit, End m c ⊢ iprop((Left m c ∗ Scr c) ∗ Owe c []) := fun _ => by
    unfold End Left
    iintro ⟨HO, Hz, HL, HM, Ho, HS⟩
    isplitr [HO]
    · isplitr [HS]
      · isplitl [Hz]; · iexact Hz
        isplitl [HL]; · iexact HL
        isplitl [HM]; · iexact HM
        iexact Ho
      iexact HS
    iexact HO
  unfold Deal
  iintro ⟨⟨⟨%K, HC, HP, HT, HD, HL, HM, Ho⟩, HS⟩, HO⟩
  iapply ((body_run m K c).trans (wp_mono frame (wpE (defs₀ (F := F)) 𝒱₀ (c : Thread nD τ) none) Set.univ h))
  unfold Start
  isplitl [HC]; · iexact HC
  isplitl [HO]; · iexact HO
  isplitl [HP]; · iexact HP
  isplitl [HT]; · iexact HT
  isplitl [HD]; · iexact HD
  isplitl [HL]; · iexact HL
  isplitl [HM]; · iexact HM
  isplitl [Ho]; · iexact Ho
  iexact HS

set_option maxRecDepth 8000 in
theorem body_obligation (c : Dev nD) : Pipeline.BodyObligation (dats (F := F) m 0 c) (defs₀ (F := F)) 𝒱₀ () Set.univ := fun t => by
  rw [fin_N0 t]
  have hE : ∀ R : Fin cfg0.W → sProp 𝕄, bigSep Finset.univ R = iprop(emp) := fun R => by
    rw [show (Finset.univ : Finset (Fin cfg0.W)) = ∅ from rfl, BI.bigSep_empty]; rfl
  rw [hE, hE]
  have hi : iprop(iprop(Deal m c ∗ Scr c) ∗ (∃ W, ⌜↑W ⊆ (dats m 0 c).bound () t0_0.castSucc⌝ ∗ owes (c : Thread nD τ) (debt (todo0 c)) W) ∗ emp)
      ⊢ iprop((Deal m c ∗ Scr c) ∗ Owe c (todo0 c)) := by
    unfold Owe
    iintro ⟨H, ⟨%W, -, HO⟩, -⟩
    isplitl [H]; · iexact H
    iexists W; iexact HO
  have ho : ∀ a : PUnit, iprop((Left m c ∗ Scr c) ∗ Owe c [])
      ⊢ iprop(iprop(Left m c ∗ Scr c) ∗ (∃ W, ⌜↑W ⊆ (dats m 0 c).bound () t0_0.succ⌝ ∗ owes (c : Thread nD τ) (0 : CellTallies nD τ sig Unit) W) ∗ emp) := fun _ => by
    unfold Owe
    iintro ⟨H, ⟨%W, HO⟩⟩
    isplitl [H]; · iexact H
    isplitl
    · iexists W
      isplitr; · ipureintro; exact fun _ _ => Or.inl trivial
      iexact HO
    iempintro
  exact hi.trans ((device_run m c).trans (wp_mono frame (wpE (defs₀ (F := F)) 𝒱₀ (c : Thread nD τ) none) Set.univ ho))

/-! ## The ghost state dealt -/

def ringCells : Finset (GSem nD τ sig) := Finset.univ.map ⟨kcell, kcell_inj⟩
def ringToks : Finset (GSem nD τ sig × ℕ × Bool) := Finset.univ.map ⟨tokOf, tokOf_inj⟩

def u₀ : UU := (initOf (Pipeline.cells cfgs cellOf_inj) (Pipeline.launchToks cfgs cellOf_inj), (initOf ringCells ringToks, 1))

def G (c : Dev nD) : sProp 𝕄 :=
  iprop((bigSep Finset.univ fun n : Fin 30 => roundState ER (Rd m) (kcell (c, n)) 0) ∗ (bigSep Finset.univ fun n : Fin 30 => reached ER (kcell (c, n)) 0)
    ∗ Pos c ∗ Toks c)

def records (K : Dev nD × Fin 30 → ℕ) : sProp 𝕄 :=
  iprop((bigSep Finset.univ fun ck : Dev nD × Fin 30 => cellInv ER (Rd m) (K ck) (kcell ck)) ∗ (bigSep Finset.univ fun ck : Dev nD × Fin 30 => reached ER (kcell ck) 0))

instance records_persistent (K : Dev nD × Fin 30 → ℕ) : BI.Persistent (records m K) := by unfold records; infer_instance

def G' (c : Dev nD) : sProp 𝕄 := iprop(∃ K, records m K ∗ Pos c ∗ Toks c ∗ Loc5 c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun n : Fin 30 => Φ (kcell (c, n)) := by
    unfold ringCells; rw [bigSep_map, bigSep_univ_prod]; rfl
  have hT : bigSep ringToks (fun x => (dutyTok ER x.1 x.2.1 x.2.2 : sProp 𝕄)) = bigSep Finset.univ fun c : Dev nD => Toks c := by
    unfold ringToks Toks; rw [bigSep_map, bigSep_univ_prod]; rfl
  iintro HX
  imod (Rounds.fund ER (Rd m) ringCells ringToks) $$ HX with ⟨Hst, Hr, Hat, Htok⟩
  imodintro
  ihave Hst := (Entails.of_eq (hX fun g => roundState ER (Rd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G Pos; simp only [bigSep_sep']
  isplitl [Hst]; · iexact Hst
  isplitl [Hr]; · iexact Hr
  isplitl [Hat]; · iexact Hat
  iexact Htok

/-- A device's invariants allocated. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun n => iprop(∃ κ : ℕ, cellInv ER (Rd m) κ (kcell (c, n))))
          ∗ (bigSep Finset.univ fun n : Fin 30 => reached ER (kcell (c, n)) 0) ∗ Pos c ∗ Toks c ∗ Loc5 c) := by
  unfold G
  iintro ⟨Hos, Hus, Hst, Hr, Hat, Htok⟩
  ihave ⟨Hv, HL⟩ := (curry2 (sems_open (F := F) c)) $$ Hos Hus
  imod (show iprop((bigSep Finset.univ fun n : Fin 30 => semVal (kcell (c, n)) 0) ∗ bigSep Finset.univ fun n : Fin 30 => roundState ER (Rd m) (kcell (c, n)) 0)
      ⊢ (|={Set.univ}=> bigSep Finset.univ fun n => iprop(∃ κ : ℕ, cellInv ER (Rd m) κ (kcell (c, n))) : sProp 𝕄) from by
        rw [← bigSep_sep']
        exact (bigSep_mono fun n _ => (Rounds.body_intro ER (Rd m) (kcell (c, n))).trans inv_alloc).trans (bigSep_fupd _ _)) $$ [Hv Hst] with Hinv
  · isplitl [Hv] <;> iassumption
  imodintro
  isplitl [Hinv]; · iexact Hinv
  isplitl [Hr]; · iexact Hr
  isplitl [Hat]; · iexact Hat
  isplitl [Htok]; · iexact Htok
  iexact HL

theorem regroup :
    (bigSep Finset.univ fun c : Dev nD => iprop((bigSep Finset.univ fun n => iprop(∃ κ : ℕ, cellInv ER (Rd m) κ (kcell (c, n))))
          ∗ (bigSep Finset.univ fun n : Fin 30 => reached ER (kcell (c, n)) 0) ∗ Pos c ∗ Toks c ∗ Loc5 c) : sProp 𝕄)
      ⊢ bigSep Finset.univ (G' m) := by
  rw [bigSep_sep', bigSep_sep', ← bigSep_univ_prod (fun ck : Dev nD × Fin 30 => iprop(∃ κ : ℕ, cellInv ER (Rd m) κ (kcell ck))),
    ← bigSep_univ_prod (fun ck : Dev nD × Fin 30 => (reached ER (kcell ck) 0 : sProp 𝕄))]
  iintro ⟨HI, HR, Hrest⟩
  ihave ⟨%K, HI⟩ := (BI.bigSep_exists_pi Finset.univ (fun (ck : Dev nD × Fin 30) (κ : ℕ) => (cellInv ER (Rd m) κ (kcell ck) : sProp 𝕄))) $$ HI
  ihave #HC := (show iprop((bigSep Finset.univ fun ck : Dev nD × Fin 30 => cellInv ER (Rd m) (K ck) (kcell ck)) ∗ (bigSep Finset.univ fun ck : Dev nD × Fin 30 => reached ER (kcell ck) 0))
    ⊢ records m K from by unfold records; exact BI.Entails.refl _) $$ [HI HR]
  · isplitl [HI] <;> iassumption
  iapply (show iprop(records m K ∗ bigSep Finset.univ fun c : Dev nD => iprop(Pos c ∗ Toks c ∗ Loc5 c)) ⊢ bigSep Finset.univ (G' m) from
    (sep_mono_left (BI.bigSep_of_persistent Finset.univ (records m K))).trans (by
      rw [← bigSep_sep']
      refine bigSep_mono fun c _ => ?_
      unfold G'
      show (iprop(records m K ∗ Pos c ∗ Toks c ∗ Loc5 c) : sProp 𝕄) ⊢ _
      iintro H
      iexists K
      iexact H))
  isplitr; · iexact HC
  iexact Hrest

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit at launch -/

theorem debt_count (c : Dev nD) (k : Cl) (l : List (Dev nD × Cl)) : debt l (cell c k) () = l.count (c, k) * amt k := by
  induction l with
  | nil => rw [List.count_nil, Nat.zero_mul]; rfl
  | cons p l ih =>
    unfold debt
    rw [Pi.add_apply, Finsupp.add_apply, tallyAt_apply, ih, List.count_cons]
    by_cases h : p = (c, k)
    · subst h
      rw [if_pos ⟨rfl, rfl⟩, if_pos (by simp), Nat.add_mul, Nat.one_mul]
    · have h' : cell c k ≠ cell p.1 p.2 := fun e => h (by
        have e' := kcell_inj e
        have a : c = p.1 := congrArg (fun z : Dev nD × Fin 30 => z.1) e'
        have b : k = p.2 := num_inj (congrArg (fun z : Dev nD × Fin 30 => z.2) e')
        exact (Prod.ext a b).symm)
      rw [if_neg (fun e => h' e.1), if_neg (by simpa using h), Nat.add_zero, Nat.add_zero]

/-- How many of all the devices' payments go to a cell. -/
def times (c : Dev nD) : Cl → ℕ
  | .bar => 2
  | .rsR _ _ => 1
  | .agR _ _ => 1
  | .amR p => if p = c then 0 else 1
  | _ => 0

theorem count_all : ∀ (c : Dev nD) (n : Fin 30), ∑ d : Dev nD, (todo0 d).count (c, cl n) = times c (cl n) := by decide +kernel

theorem times_amt (c : Dev nD) (k : Cl) : times c k * amt k = due_in c k := by
  cases k with
  | bar => rfl
  | rsS _ _ => exact Nat.zero_mul _
  | rsR _ _ => exact Nat.one_mul _
  | agS _ _ => exact Nat.zero_mul _
  | agR _ _ => exact Nat.one_mul _
  | amS _ => exact Nat.zero_mul _
  | amR p =>
    show (if p = c then 0 else 1) * amt (.amR p) = if p = c then 0 else amt (.amR p)
    split
    · exact Nat.zero_mul _
    · exact Nat.one_mul _

theorem launch_cell (c : Dev nD) (n : Fin 30) :
    tallyOn (kcell (c, n)) (launchCredit (Pipeline.owing O₀) 0 (kcell (c, n))) = (tallyAt (kcell (c, n)) () (due_in c (cl n)) : CellTallies nD τ sig Unit) := by
  unfold tallyAt; refine congrArg _ (Finsupp.ext fun u => ?_); cases u
  rw [Pipeline.launchCredit_owing, Finsupp.single_eq_same, ← cell_cl]
  unfold O₀
  rw [Finset.sum_congr rfl fun d _ => debt_count c (cl n) (todo0 d), ← Finset.sum_mul, count_all, times_amt]

theorem creds (c : Dev nD) : (Pipeline.launchCred O₀ c : sProp 𝕄) ⊢ Creds c := by
  have h : bigSep (Finset.univ.map ⟨csem, csem_inj⟩) (fun sm => (cred (tallyOn ((c : Thread nD τ), sm) (launchCredit (Pipeline.owing O₀) 0 ((c : Thread nD τ), sm))) : sProp 𝕄))
      = Creds c := by
    unfold Creds
    rw [bigSep_map]
    exact bigSep_congr fun n _ => congrArg cred (launch_cell c n)
  unfold Pipeline.launchCred
  rw [← h]
  exact BI.bigSep_subset (Finset.subset_univ _)

/-! ## The side conditions of the launch -/

theorem any_whole (c : Dev nD) (b : Ref sig .tc) :
    (ownAny c (Memref.whole b) : sProp 𝕄) = iprop(∃ f : Buf (Elt F) ((c : Thread nD τ).loc b), ((c : Thread nD τ).loc b) ↦{fullShare} f) := by
  unfold ownAny
  exact Memref.IsWhole.exists_owns_eq (Memref.isWhole_whole b) fullShare

theorem Scr_eq (c : Dev nD) : (Pipeline.scopedRest cfg0.spec c : sProp 𝕄) = Scr c := by
  rw [scopedRest0_eq]
  unfold Scr
  rw [any_whole, any_whole, any_whole, any_whole, any_whole, any_whole, any_whole, any_whole, any_whole, any_whole]

theorem start_intro (c : Dev nD) (ρ : Dev nD → PrngReg) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(Deal m c ∗ emp) := by
  rw [Pipeline.unscopedRestP_none, unscopedRest0_eq]
  unfold G'
  iintro ⟨⟨H0, H1, H2⟩, Hlev, Hcr, -, %K, HR, HP, HT, HL⟩
  ihave Hcr := (creds (F := F) c) $$ Hcr
  ihave H0 := (Entails.of_eq (owns_whole (c : Thread nD τ) main_arg0 fullShare _).symm) $$ H0
  ihave H1 := (Entails.of_eq (owns_whole (c : Thread nD τ) main_arg1 fullShare _).symm) $$ H1
  ihave H2 := (Entails.of_eq (owns_whole (c : Thread nD τ) main_v1 fullShare _).symm) $$ H2
  ihave H2 := (own1_any c oM _) $$ H2
  imodintro
  unfold Deal Ops Ctx records
  icases HR with ⟨HI, HR⟩
  isplitl
  · iexists K
    isplitl [HI HR Hlev]
    · isplitl [HI]; · iexact HI
      isplitl [HR] <;> iassumption
    isplitl [HP]; · iexact HP
    isplitl [HT]; · iexact HT
    isplitl [Hcr]; · iexact Hcr
    isplitl [HL]; · iexact HL
    isplitl [H0 H1]
    · isplitl [H0]; · iexact H0
      iexact H1
    iexact H2
  · iempintro

/-- What is read at the end: the barrier's counter and the three buffers. -/
def Y (c : Dev nD) : sProp 𝕄 := iprop(unscopedSems0 c ∗ Ops m c ∗ own1 c oM fullShare (out m))

theorem first (c : Dev nD) :
    iprop(Deal m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = iprop(Deal m c ∗ Scr c) from rfl, Scr_eq]
  iintro ⟨H, -, HS⟩
  isplitl [H] <;> iassumption

theorem last (c : Dev nD) :
    (dats m 0 c).Φ (Fin.last cfg0.N) ⊢ iprop(Y m c ∗ Pipeline.ownSems0 osem c ∗ Pipeline.scopedRest cfg0.spec c) := by
  rw [show (dats m 0 c).Φ (Fin.last cfg0.N) = iprop(Left m c ∗ Scr c) from rfl, Scr_eq]
  unfold Left Y
  iintro ⟨⟨Hz, HL, HM, Ho⟩, HS⟩
  ihave ⟨Hs, Hu⟩ := (curry2 (sems_close (F := F) c)) $$ Hz HL
  isplitl [Hu HM Ho]
  · isplitl [Hu]; · iexact Hu
    isplitl [HM] <;> iassumption
  isplitl [Hs] <;> iassumption

theorem waits (c : Dev nD) : (levAts L lv : sProp 𝕄) ⊢ Pipeline.cellsWaits cfgs (dats m) () 0 c :=
  Pipeline.cellsWaits_intro cfgs (dats m) () 0 c fun w => w.elim0

/-- What the run leaves on device `c`. -/
def Final (c : Dev nD) (s : MemSt nD τ sig (Elt F)) : Prop :=
  s.mem ((c : Thread nD τ).loc main_arg0) = m ((c : Thread nD τ).loc main_arg0) ∧ s.mem ((c : Thread nD τ).loc main_arg1) = m ((c : Thread nD τ).loc main_arg1)
    ∧ s.mem ((c : Thread nD τ).loc main_v1) = out m

theorem read_final (c : Dev nD) (s' : Phys nD τ sig (Elt F)) : iprop(Y m c ∗ emp ∗ SI s')
    ⊢ |={Set.univ}=> iprop(⌜(∀ sm : SemLoc sig, sm.isScoped .tc = false → s'.mem.sem ((c.tc : Thread nD τ), sm) = 0) ∧ Final m c s'.mem⌝ ∗ SI s') := by
  unfold Y Ops
  iintro ⟨⟨Hu, ⟨H0, H1⟩, H2⟩, -, HSI⟩
  ihave H0 := (Entails.of_eq (owns_whole (c : Thread nD τ) main_arg0 fullShare _)) $$ H0
  ihave H1 := (Entails.of_eq (owns_whole (c : Thread nD τ) main_arg1 fullShare _)) $$ H1
  ihave H2 := (Entails.of_eq (owns_whole (c : Thread nD τ) main_v1 fullShare _)) $$ H2
  icombine HSI H0 gives %h0
  icombine HSI H1 gives %h1
  icombine HSI H2 gives %h2
  ihave %hs := (tcUnscoped_read c s') $$ [Hu HSI]
  · isplitl [Hu] <;> iassumption
  imodintro
  isplitr
  · ipureintro
    exact ⟨hs, Buf.eq_of_forall_mem_univ h0, Buf.eq_of_forall_mem_univ h1, Buf.eq_of_forall_mem_univ h2⟩
  iexact HSI

theorem ownSemFacts : Pipeline.OwnSemFacts cfg0.spec osem := by decide

set_option maxRecDepth 8000 in
/-- From any memory with zero counters, every execution of @main on the four devices terminates, and leaves on every
    device the operands as they were, the result computed, and every semaphore counter at zero. -/
theorem run_main (ρ : Dev nD → PrngReg) : θ_run defs (onTc (τ := τ) (main (F := F))) ⟨m, fun _ => 0, ρ⟩ (fun r => (∀ c, Final m c r.2) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c).loose) (hne := fun w => w.elim0) (harr := arr_whole0) (hstage := stage_whole0) (hshare := fun _ w => w.elim0)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave ⟨HP, HX⟩ := (ownU_pair _ _) $$ Hu
      ihave ⟨HX, -⟩ := (own_pair_emb embR _ _) $$ HX
      imod (fund_ring m) $$ HX with HG
      imodintro
      isplitl [HP] <;> iassumption)
    (hglob := glob m)
    (hA := fun _ w => w.elim0) (hpf := fun _ k => k.elim0)
    (X := Deal m) (Y := Y m) (Z := fun _ => iprop(emp))
    (hX := fun c => start_intro m c ρ) (hin := first m) (hout := last m)
    (QY := fun c s => (∀ sm : SemLoc sig, sm.isScoped .tc = false → s.sem ((c.tc : Thread nD τ), sm) = 0) ∧ Final m c s)
    (hY := read_final m)
    (hQ := fun _ h hs => ⟨fun c => (h c).2.2.2, sem_eq_zero hs fun c => (h c).2.2.1⟩)

end Cert.KernelIdeal.Run

end
-- ==== Proof.Spec.lean ====
/-
# The values in the claim

The product of two arrays clipped below at zero, its largest entry over 448, and the entries divided by that scale,
clipped above at 448 and multiplied back: in extended reals, where the roundings are the identity. And the maximum over a
whole array, which both programs take, as a supremum.
-/
module

public import Idealize.ShloMosaic.Lib.MatmulPlain
public import Idealize.ShloMosaic.Lib.StackMember
public import Idealize.ShloMosaic.Lib.Pipeline.Value

@[expose] public section

noncomputable section

namespace Cert.Spec

open Idealize.ShloMosaic Idealize.ShloMosaic.ValueIdx

abbrev SA : Shape := ⟨2, ![4096, 4096]⟩
abbrev SB : Shape := ⟨2, ![4096, 2048]⟩

/-- 448, as its bits. -/
def top : EReal := Ideal.ofBits .f32 0x43E00000#32

/-- Entry `(a, b)` of the product, clipped below at zero. -/
def relu (A : SA.Idx → EReal) (B : SB.Idx → EReal) (a : Fin 4096) (b : Fin 2048) : EReal :=
  max (∑ K : Fin 4096, A (ix2 a K) * B (ix2 K b)) 0

/-- The largest entry. -/
def peak (A : SA.Idx → EReal) (B : SB.Idx → EReal) : EReal := ⨆ i : SB.Idx, relu A B (i 0) (i 1)

/-- The scale. -/
def scale (A : SA.Idx → EReal) (B : SB.Idx → EReal) : EReal := Ideal.div (peak A B) top

/-- `y` over the scale `s`, clipped above, and times the scale. -/
def quant (s y : EReal) : EReal := min (Ideal.div y s) top * s

/-! ## The clip from below

The reference clips at -448 too. An entry over the scale is not negative, so that changes nothing. -/

/-- -448, as its bits. -/
def low : EReal := Ideal.ofBits .f32 0xC3E00000#32

theorem top_eq : top = ((448 : ℝ) : EReal) := by
  unfold top
  simp [Ideal.ofBits, Ideal.ieee]
  rw [← EReal.coe_mul]
  norm_num
theorem low_eq : low = ((-448 : ℝ) : EReal) := by
  unfold low
  simp [Ideal.ofBits, Ideal.ieee]
  rw [← EReal.coe_mul]
  norm_num

theorem top_pos : (0 : EReal) < top := top_eq ▸ EReal.coe_pos.mpr (by norm_num)
theorem low_neg : low ≤ (0 : EReal) := low_eq ▸ EReal.coe_nonpos.mpr (by norm_num)

theorem div_nonneg {y s : EReal} (hy : 0 ≤ y) (hs : 0 ≤ s) (h : s ≠ 0) : 0 ≤ Ideal.div y s := by
  rw [Ideal.div, if_neg h]
  exact mul_nonneg hy (EReal.inv_nonneg_of_nonneg hs)

theorem scale_nonneg (A : SA.Idx → EReal) (B : SB.Idx → EReal) : 0 ≤ scale A B :=
  div_nonneg ((le_max_right _ _).trans (le_iSup (fun i : SB.Idx => relu A B (i 0) (i 1)) (ix2 0 0))) top_pos.le top_pos.ne'

/-- The quantiser that clips on both sides. -/
theorem quant_clip {y s : EReal} (hy : 0 ≤ y) (hs : 0 ≤ s) : min top (max low (Ideal.div y s)) * s = quant s y := by
  unfold quant
  by_cases h : s = 0
  · rw [h, mul_zero, mul_zero]
  · rw [max_eq_right (low_neg.trans (div_nonneg hy hs h)), min_comm]

/-! ## The maximum over a whole array -/

/-- The fold of `max` from the least element is the supremum. -/
theorem fold_max {ι : Type} [Fintype ι] (f : ι → EReal) : Finset.univ.fold max ⊥ f = ⨆ i, f i := by
  rw [← Finset.sup_univ_eq_iSup]
  rfl

/-- Minus infinity, as its bits. -/
theorem bits_bot : Ideal.ofBits .f32 0xFF800000#32 = (⊥ : EReal) := by simp [Ideal.ofBits, Ideal.ieee]

variable {s t : Shape} {axes : List (Fin s.rank)}

/-- Two indices of a shape whose axes all have length one are equal. -/
theorem idx_one (ht : ∀ b, t.size b = 1) (i j : t.Idx) : i = j :=
  funext fun b => Fin.ext (by have hi := (i b).isLt; have hj := (j b).isLt; have h := ht b; omega)

/-- A maximum reduction onto one place is the supremum over the array. -/
theorem multiReduction_top (ht : ∀ b, t.size b = 1) (X : FVec Ideal s .f32) (h : s.Reduces axes t) (hφ : FKind.Formats .f32)
    (hacc : 0xFF800000#32 = FKind.maximumf.neutral .f32 hφ) (j : t.Idx) :
    multiReduction .maximumf axes t X 0xFF800000#32 h hφ hacc j = (⨆ i, X i : EReal) := by
  rw [multiReduction_maximumf_eq_fold, Finset.filter_true_of_mem fun i _ => idx_one ht _ _]
  exact (congrArg (fun b : EReal => Finset.univ.fold max b X) bits_bot).trans (fold_max X)

/-- So the one place of its result, taken out, is that supremum. -/
theorem extract_top (ht : ∀ b, t.size b = 1) {u : Shape} (X : FVec Ideal s .f32) (h : s.Reduces axes t) (hφ : FKind.Formats .f32)
    (hacc : 0xFF800000#32 = FKind.maximumf.neutral .f32 hφ) (hc : t.ShapeCasts u) (pos : Fin u.rank → ℕ) (hp : ∀ a, pos a < u.size a) :
    extractAt pos (shapeCast u (multiReduction .maximumf axes t X 0xFF800000#32 h hφ hacc) hc) hp = (⨆ i, X i : EReal) :=
  multiReduction_top ht X h hφ hacc _

/-- The same of a host reduction. -/
theorem hostReduce_top {u : Shape} (ht : ∀ b, t.size b = 1) (X : FVec Ideal s .f32) (v : FVec Ideal u .f32) (h : s.ReducesTo axes t)
    (hu : 0 < u.numel) (hv : v (Shape.Idx.first hu) = (⊥ : EReal)) (j : t.Idx) :
    Host.reduce (FloatOps.maximumf (F := Ideal) (φ := .f32)) X v h hu j = (⨆ i, X i : EReal) := by
  rw [Host.reduce_eq_fold, Finset.filter_true_of_mem fun i _ => idx_one ht _ _]
  exact (congrArg (fun b : EReal => Finset.univ.fold max b X) hv).trans (fold_max X)

/-- A change of shape keeps the supremum. -/
theorem iSup_shapeCast (X : s.Idx → EReal) (h : s.ShapeCasts t) : ⨆ j, shapeCast t X h j = ⨆ i, X i :=
  Equiv.iSup_comp (g := X) (Shape.reshapeEquiv h)

end Cert.Spec

end
-- ==== Proof.RefValue.lean ====
/-
# The reference's result

The reference's result array, entry by entry, in extended reals.
-/
module

public import proofs.«01_k».proof.Proof.Gen.ReferenceIdeal.Value
public import proofs.«01_k».proof.Proof.Spec
public import Idealize.ShloMosaic.Lib.StableHlo.RunRead

@[expose] public section

noncomputable section

namespace Cert.ReferenceIdeal.Read

open Cert.ReferenceIdeal Cert.ReferenceIdeal.Gen Cert.ReferenceIdeal.Value
open Idealize.ShloMosaic Idealize.ShloMosaic.TcCoe Idealize.ShloMosaic.ValueIdx Idealize.SL.Sem

variable {F : FTy → Type} [FloatOps F]

theorem origin : (![0, 0] : Fin 2 → ℕ) = fun _ => 0 := funext fun a => by fin_cases a <;> rfl

/-- The one word of a one by one array. -/
def word : S1x1.Idx := ix2 0 0

/-- The body leaves its store's value at the whole first operand and the one word of the second. -/
theorem body_out (c : Dev nD) (M₀ : Memref sig .tc .vmem S4096x2048 .f32) (h₀ : M₀.IsWhole) (M₁ : Memref sig .tc .smem S1x1 .f32) (h₁ : M₁.IsWhole)
    (M₂ : Memref sig .tc .vmem S4096x2048 .bf16) (h₂ : M₂.IsWhole) (x : Vec F S4096x2048 .f32) (y : Vec F S1x1 .f32) :
    out0_A_2 c M₀ h₀ M₁ h₁ M₂ h₂ x y = k0_pay1 (y word) x := by
  have hx : View.ld (M₀.view.read (Elt F) (h₀.unread x)) (Rect.unit ![0, 0] S4096x2048.size inb_S4096x2048_S4096x2048_0_0) = x := by
    rw [h₀.read_unread]
    exact View.ld_unit_zero origin _ x
  have hy : ∀ i, View.readAt (Elt F) M₁.view (Rect.unit (s := S1x1) ![0, 0] S1x1.size inb_S1x1_S1x1_0_0).toLoadRect (h₁.unread y) i = y word := fun i => by
    rw [View.readAt_eq_ld, h₁.read_unread]
    exact congrArg y (Spec.idx_one (t := S1x1) (by decide) _ _)
  exact (View.read_writes_junk_eq_canon _ _).trans ((View.canon_unit_zero origin _ _).trans (congrArg₂ k0_pay1 (hy _) hx))

variable (m : (ℓ : Loc nD τ sig) → Buf (Elt F) ℓ) (ρ : Dev nD → PrngReg)

/-! ## The one grid point's blocks are the arrays -/

theorem index0 : ∀ (t : Fin cfg0.N) (a : Fin 2), win0_0.index t a = 0 := (by decide +kernel : ∀ (t : Fin grid0.N) (a : Fin 2), _)
theorem index1 : ∀ (t : Fin cfg0.N) (a : Fin 2), win0_1.index t a = 0 := (by decide +kernel : ∀ (t : Fin grid0.N) (a : Fin 2), _)
theorem index2 : ∀ (t : Fin cfg0.N) (a : Fin 2), win0_2.index t a = 0 := (by decide +kernel : ∀ (t : Fin grid0.N) (a : Fin 2), _)

theorem place0 (t : Fin cfg0.N) (j : S4096x2048.Idx) : ((cfg0.win 0).blk t).view.emb j = j := by
  have e := index0 t
  funext a; apply Fin.ext
  match a with
  | 0 => show win0_0.index t (0 : Fin 2) * 4096 + 1 * (j 0).val = (j 0).val; rw [e]; omega
  | 1 => show win0_0.index t (1 : Fin 2) * 2048 + 1 * (j 1).val = (j 1).val; rw [e]; omega
theorem place2 (t : Fin cfg0.N) (j : S4096x2048.Idx) : ((cfg0.win 2).blk t).view.emb j = j := by
  have e := index2 t
  funext a; apply Fin.ext
  match a with
  | 0 => show win0_2.index t (0 : Fin 2) * 4096 + 1 * (j 0).val = (j 0).val; rw [e]; omega
  | 1 => show win0_2.index t (1 : Fin 2) * 2048 + 1 * (j 1).val = (j 1).val; rw [e]; omega

theorem block0 (c : Dev nD) (t : Fin cfg0.N) : iblk m c 0 t = V m c main_v2 :=
  funext fun j => congrArg (V m c main_v2) (place0 t j)
theorem block1 (c : Dev nD) (t : Fin cfg0.N) : iblk m c 1 t = V m c main_v6 :=
  funext fun j => congrArg (V m c main_v6) (Spec.idx_one (t := S1x1) (by decide) (((cfg0.win 1).blk t).view.emb j) j)

/-- The result array after the run. -/
theorem result (c : Dev nD) : (dats m 0 c).arrAt 2 cfg0.N = k0_pay1 (V m c main_v6 word) (V m c main_v2) := by
  refine (dats m 0 c).arrAt_eq_of_cover 2 _ (fun t _ => ?_) fun i => ⟨⟨0, by decide⟩, flush0_2 _, ?_⟩
  · rw [flushed2_A, body_out, block0, block1]
    funext j
    show k0_pay1 (V m c main_v6 word) (V m c main_v2) j = k0_pay1 (V m c main_v6 word) (V m c main_v2) (((cfg0.win 2).blk t).view.emb j)
    rw [place2]
  · have h := ((cfg0.win 2).blk (⟨0, by decide⟩ : Fin cfg0.N)).view.emb_mem_set i
    rwa [place2] at h

/-! ## The arrays the body finds -/

/-- The product clipped below. -/
def clipped (A : Vec F S4096x4096 .f32) (B : Vec F S4096x2048 .f32) : Vec F S4096x2048 .f32 :=
  maximumf (Host.dotGeneral dot_S4096x4096_S4096x2048_S4096x2048_1_0_0_1_n_n none A B)
    (broadcastInDim S4096x2048 ![] bcast_S_S4096x2048 (constant S_ .f32 0x00000000#32))
/-- The scale of an array. -/
def scaleOf (Y : Vec F S4096x2048 .f32) : Vec F S_ .f32 :=
  Host.divf (Host.reduce FloatOps.maximumf (Host.absf Y) (constant S_ .f32 0xFF800000#32) reducesTo_S4096x2048_S_d0_1 h_S_) (constant S_ .f32 0x43E00000#32)

theorem V_v2 (c : Dev nD) : V m c main_v2 = clipped (m ((c : Thread nD τ).loc main_arg0)) (m ((c : Thread nD τ).loc main_arg1)) := by
  unfold V
  after_results_simp
  rfl

theorem V_v6 (c : Dev nD) : V m c main_v6 = shapeCast S1x1 (scaleOf (clipped (m ((c : Thread nD τ).loc main_arg0)) (m ((c : Thread nD τ).loc main_arg1)))) shapeCasts_S_S1x1 := by
  unfold V
  after_results_simp
  rfl

/-! ## In extended reals -/

theorem dot_plain : dot_S4096x4096_S4096x2048_S4096x2048_1_0_0_1_n_n = DotDims.plain 4096 4096 2048 := rfl

theorem clipped_apply (A : Vec Ideal S4096x4096 .f32) (B : Vec Ideal S4096x2048 .f32) (i : S4096x2048.Idx) :
    clipped A B i = Spec.relu A B (i 0) (i 1) := by
  unfold clipped
  rw [dot_plain]
  show max (Host.dotGeneral (DotDims.plain 4096 4096 2048) none A B i) (Ideal.ofBits .f32 0x00000000#32) = _
  rw [Ideal.ofBits_zero_f32]
  refine congrArg (max · (0 : EReal)) ((congrArg _ (eq_ix2 i)).trans (StackMember.dotGeneral_plain_apply none A B (i 0) (i 1)))

theorem scaleOf_apply (A : Vec Ideal S4096x4096 .f32) (B : Vec Ideal S4096x2048 .f32) (j : S_.Idx) :
    scaleOf (clipped A B) j = Spec.scale A B := by
  have hp : Host.reduce (FloatOps.maximumf (F := Ideal) (φ := .f32)) (Host.absf (clipped A B)) (constant S_ .f32 0xFF800000#32)
      reducesTo_S4096x2048_S_d0_1 h_S_ j = Spec.peak A B := by
    rw [Spec.hostReduce_top (fun b => b.elim0) _ _ _ _ Spec.bits_bot]
    refine iSup_congr fun i => ?_
    have e : Host.absf (clipped A B) i = max (clipped A B i) (-clipped A B i) := rfl
    rw [e, clipped_apply]
    have h : (0 : EReal) ≤ Spec.relu A B (i 0) (i 1) := le_max_right _ _
    exact max_eq_left ((EReal.neg_le_neg_iff.mpr h).trans (by simpa using h))
  exact congrArg₂ Ideal.div hp rfl

theorem pay_apply (s : EReal) (x : Vec Ideal S4096x2048 .f32) (i : S4096x2048.Idx) : k0_pay1 s x i = (min Spec.top (max Spec.low (Ideal.div (x i) s)) * s : EReal) := by
  unfold k0_pay1
  rw [shapeCast_self]
  rfl

/-- The result array in extended reals. -/
def value (A : Vec Ideal S4096x4096 .f32) (B : Vec Ideal S4096x2048 .f32) : S4096x2048.Idx → EReal :=
  fun i => Spec.quant (Spec.scale A B) (Spec.relu A B (i 0) (i 1))

theorem result_ideal (m : (ℓ : Loc nD τ sig) → Buf (Elt Ideal) ℓ) (c : Dev nD) : (dats m 0 c).arrAt 2 cfg0.N
    = value (m ((c : Thread nD τ).loc main_arg0)) (m ((c : Thread nD τ).loc main_arg1)) := by
  rw [result, V_v2, V_v6]
  have hs : shapeCast S1x1 (scaleOf (clipped (m ((c : Thread nD τ).loc main_arg0)) (m ((c : Thread nD τ).loc main_arg1)))) shapeCasts_S_S1x1 word
      = Spec.scale (m ((c : Thread nD τ).loc main_arg0)) (m ((c : Thread nD τ).loc main_arg1)) := scaleOf_apply _ _ _
  rw [hs]
  funext i
  rw [pay_apply, clipped_apply]
  exact Spec.quant_clip (le_max_right _ _) (Spec.scale_nonneg _ _)

/-- The reference's run. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v7) = value (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (result_ideal m c), (h c).2⟩) (run_blocks m ρ)

end Cert.ReferenceIdeal.Read

end
-- ==== Proof.Values.lean ====
/-
# The kernel's values in extended reals

Each value of `Contents.lean` read at one place, where the roundings are the identity and an addition is exact: the local
products as sums, the four terms the reduce-scatter adds, the device maxima, the scale.
-/
module

public import proofs.«01_k».proof.Proof.Result
public import proofs.«01_k».proof.Proof.Spec

@[expose] public section

noncomputable section

namespace Cert.KernelIdeal.Run

open Cert.KernelIdeal Cert.KernelIdeal.Gen

open Idealize.ShloMosaic
open Idealize.ShloMosaic.TcCoe
open Idealize.ShloMosaic.ValueIdx
open Idealize.SL.Sem

variable (m : (ℓ : Loc nD τ sig) → Buf (Elt Ideal) ℓ)

/-! ## The local product -/

theorem xb_eq (c : Dev nD) (k : Fin 4) : xb m c k = xv m c k := by
  unfold xb k0_pay3
  rw [cast_lift3]
  exact cast_same _ _

theorem wb_eq (c : Dev nD) (r : Fin 2) : wb m c r = wv m c r := by
  unfold wb k0_pay1
  rw [cast_lift3]
  exact cast_same _ _

theorem dot_plain : dot_S1024x1024_S1024x1024_S1024x1024_1_0_0_1_n_n = DotDims.plain 1024 1024 1024 := rfl

/-- A place of a half block. -/
abbrev at2 (a b : Fin 1024) : S1024x1024.Idx := ix2 a b

theorem prod_apply (c : Dev nD) (k : Fin 4) (r : Fin 2) (a b : Fin 1024) :
    prod m c k r (at2 a b) = (∑ q : Fin 1024, xv m c k (at2 a q) * wv m c r (at2 q b) : EReal) := by
  unfold prod k0_pay5
  rw [xb_eq, wb_eq, dot_plain]
  refine (Ideal.matmul_plain_apply none (xv m c k) (wv m c r) _ a b).trans ?_
  refine Eq.trans ?_ (zero_add _)
  exact congrArg (· + _) Ideal.ofBits_zero_f32

/-! ## The reduce-scatter -/

/-- What travels, as a plain block. -/
def part (r : Fin 2) : ℕ → Dev nD → S1024x1024.Idx → EReal
  | 0, c => fun j => prod m c (chunk r 0 c) r j
  | s + 1, c => fun j => prod m c (chunk r (s + 1) c) r j + part r s (src r c) j

theorem sV_eq (r : Fin 2) : ∀ (s : ℕ) (c : Dev nD), sV m r s c = shapeCast S1x1x1024x1024 (part m r s c) shapeCasts_S1024x1024_S1x1x1024x1024
  | 0, c => rfl
  | s + 1, c => by
    have e : shapeCast S1024x1024 (sV m r s (src r c)) shapeCasts_S1x1x1024x1024_S1024x1024 = part m r s (src r c) := by
      rw [sV_eq r s, shapeCast_shapeCast]
    show k0_pay11 (prod m c (chunk r (s + 1) c) r) (sV m r s (src r c)) = _
    unfold k0_pay11
    rw [e]
    rfl

/-- Which chunk each of the three devices behind `p` adds for `p`. -/
theorem chunk_src : ∀ (r : Fin 2) (p : Fin 4), chunk r 2 (src r p) = p ∧ chunk r 1 (src r (src r p)) = p ∧ chunk r 0 (src r (src r (src r p))) = p ∧ fwd 0 p = p := by
  decide

theorem ring_univ : ∀ (r : Fin 2) (p : Fin 4), (Finset.univ : Finset (Fin 4)) = {p, src r p, src r (src r p), src r (src r (src r p))}
    ∧ p ∉ ({src r p, src r (src r p), src r (src r (src r p))} : Finset (Fin 4))
    ∧ src r p ∉ ({src r (src r p), src r (src r (src r p))} : Finset (Fin 4)) ∧ src r (src r p) ∉ ({src r (src r (src r p))} : Finset (Fin 4)) := by
  decide

/-- Going round the ring from `p` meets every device once. -/
theorem ring_sum (r : Fin 2) (p : Fin 4) (f : Fin 4 → EReal) :
    ∑ d, f d = f p + (f (src r p) + (f (src r (src r p)) + f (src r (src r (src r p))))) := by
  obtain ⟨h, h₁, h₂, h₃⟩ := ring_univ r p
  rw [h, Finset.sum_insert h₁, Finset.sum_insert h₂, Finset.sum_insert h₃, Finset.sum_singleton]

/-- The reduced half block before it is clipped. -/
theorem part_total (p : Dev nD) (r : Fin 2) (j : S1024x1024.Idx) :
    (prod m p (fwd 0 p) r j + part m r 2 (src r p) j : EReal) = ∑ d : Fin 4, prod m d p r j := by
  obtain ⟨h₂, h₁, h₀, hp⟩ := chunk_src r p
  rw [ring_sum r p]
  show prod m p (fwd 0 p) r j + (prod m (src r p) (chunk r 2 (src r p)) r j + (prod m (src r (src r p)) (chunk r 1 (src r (src r p))) r j
    + prod m (src r (src r (src r p))) (chunk r 0 (src r (src r (src r p)))) r j)) = _
  rw [h₂, h₁, h₀, hp]

/-- What the last step of a half's reduction computes. -/
theorem clip_eq (p : Dev nD) (r : Fin 2) : k0_pay21 (prod m p (fwd 0 p) r) (sV m r 2 (src r p)) = fun j => (max (∑ d : Fin 4, prod m d p r j) 0 : EReal) := by
  unfold k0_pay21
  rw [sV_eq, shapeCast_shapeCast]
  funext j
  rw [← part_total]
  exact congrArg (max _) Ideal.ofBits_zero_f32

theorem acc_apply (p : Dev nD) (r : Fin 2) (j : S1024x1024.Idx) : acc m p r j = (max (∑ d : Fin 4, prod m d p r j) 0 : EReal) := by
  unfold acc k0_pay22
  rw [cast_same, clip_eq]

/-! ## The scale -/

theorem one_place : ∀ b, S1.size b = 1 := by decide

/-- The largest entry of a half block, as the kernel takes it out. -/
def maxHalf (X : FVec Ideal S1x1024x1024 .f32) : EReal :=
  extractAt ![0, 0, 0] (shapeCast S1x1x1 (multiReduction .maximumf [1, 2] S1 X 0xFF800000#32 reduces_S1x1024x1024_S1 (.inl rfl) rfl) shapeCasts_S1_S1x1x1) inpos_S1x1x1_p0_0_0
theorem maxHalf_eq (X : FVec Ideal S1x1024x1024 .f32) : maxHalf X = ⨆ i, X i :=
  Spec.extract_top one_place X reduces_S1x1024x1024_S1 _ _ _ _ _

/-- The largest entry of the four devices' maxima. -/
def maxAll (X : FVec Ideal S1x4x8x128 .f32) : EReal :=
  extractAt ![0, 0, 0, 0] (shapeCast S1x1x1x1 (multiReduction .maximumf [1, 2, 3] S1 X 0xFF800000#32 reduces_S1x4x8x128_S1 (.inl rfl) rfl) shapeCasts_S1_S1x1x1x1) inpos_S1x1x1x1_p0_0_0_0
theorem maxAll_eq (X : FVec Ideal S1x4x8x128 .f32) : maxAll X = ⨆ i, X i :=
  Spec.extract_top one_place X reduces_S1x4x8x128_S1 _ _ _ _ _

theorem pay24_eq (P : FVec Ideal S1024x1024 .f32) (Y : Vec Ideal S1x1x1024x1024 .bf16) : k0_pay24 P Y = k0_pay21 P Y := by
  unfold k0_pay24 k0_pay21
  rfl
theorem cast_broadcast {α : Type} {s t : Shape} (v : α) (h : s.ShapeCasts t) (i : t.Idx) : shapeCast t (broadcast s v) h i = v := rfl
theorem scalar_max (a b : Ideal .f32) : Scalar.maximumf a b = (max a b : EReal) := rfl
theorem scalar_zero : (Scalar.ofBits .f32 0x00000000#32 : Ideal .f32) = (0 : EReal) := Ideal.ofBits_zero_f32
theorem scalar_div (a b : Ideal .f32) : Scalar.divf a b = Ideal.div a b := rfl
theorem pay26_apply (P : FVec Ideal S1024x1024 .f32) (X : FVec Ideal S1x1024x1024 .f32) (Y : Vec Ideal S1x1x1024x1024 .bf16) (i : S1x8x128.Idx) :
    k0_pay26 P X Y i = Scalar.maximumf (F := Ideal) (φ := .f32) (Scalar.maximumf (F := Ideal) (φ := .f32) (Scalar.ofBits .f32 0x00000000#32) (maxHalf X))
      (maxHalf (shapeCast S1x1024x1024 (k0_pay24 P Y) shapeCasts_S1024x1024_S1x1024x1024)) := by
  unfold k0_pay26 maxHalf
  exact cast_broadcast _ _ _
theorem pay27_apply (X : Vec Ideal S4x8x128 .f32) :
    k0_pay27 X = Scalar.divf (F := Ideal) (φ := .f32) (maxAll (shapeCast S1x4x8x128 X shapeCasts_S4x8x128_S1x4x8x128)) (Scalar.ofBits .f32 0x43E00000#32) := by
  unfold k0_pay27 maxAll
  rfl

theorem amx_apply (c : Dev nD) (i : S1x8x128.Idx) : amx m c i = (max (max 0 (⨆ j, acc m c 0 j)) (⨆ j, acc m c 1 j) : EReal) := by
  have h₀ : (⨆ i, k0_pay23 (prod m c (fwd 0 c) 0) (sV m 0 2 (src 0 c)) i : EReal) = ⨆ j, acc m c 0 j := by
    unfold k0_pay23
    rw [clip_eq, Spec.iSup_shapeCast]
    exact iSup_congr fun j => (acc_apply m c 0 j).symm
  have h₁ : (⨆ i, shapeCast S1x1024x1024 (k0_pay24 (prod m c (fwd 0 c) 1) (sV m 1 2 (src 1 c))) shapeCasts_S1024x1024_S1x1024x1024 i : EReal) = ⨆ j, acc m c 1 j := by
    rw [Spec.iSup_shapeCast]
    rw [pay24_eq, clip_eq]
    exact iSup_congr fun j => (acc_apply m c 1 j).symm
  unfold amx
  rw [pay26_apply, maxHalf_eq, maxHalf_eq, h₀, h₁, scalar_max, scalar_max, scalar_zero]

theorem scale_eq : scale m = Ideal.div (⨆ c : Fin 4, max (max 0 (⨆ j, acc m c 0 j)) (⨆ j, acc m c 1 j)) Spec.top := by
  have h : (⨆ i, shapeCast S1x4x8x128 (amxA m) shapeCasts_S4x8x128_S1x4x8x128 i : EReal) = ⨆ c : Fin 4, max (max 0 (⨆ j, acc m c 0 j)) (⨆ j, acc m c 1 j) := by
    rw [Spec.iSup_shapeCast]
    refine le_antisymm (iSup_le fun i => ?_) (iSup_le fun c => ?_)
    · exact (amx_apply m (i 0) _).le.trans (le_iSup (fun c : Fin 4 => max (max 0 (⨆ j, acc m c 0 j)) (⨆ j, acc m c 1 j)) (i 0))
    · exact (amx_apply m c _).ge.trans (le_iSup (fun i => (amxA m i : EReal)) (fun a => match a with | 0 => c | 1 => (0 : Fin 8) | 2 => (0 : Fin 128)))
  unfold scale
  rw [pay27_apply, maxAll_eq, h, scalar_div]
  rfl

/-! ## The result -/

theorem qv_apply (p : Dev nD) (r : Fin 2) (j : S1024x1024.Idx) : qv m p r j = (min (Ideal.div (acc m p r j) (scale m)) Spec.top : EReal) := by
  unfold qv k0_pay30
  rw [cast_same]
  rfl

theorem outH_value (p : Dev nD) (r : Fin 2) (j : S1024x1024.Idx) : outH m p r j = Spec.quant (scale m) (acc m p r j) := by
  rw [outH_apply, qv_apply]
  rfl

end Cert.KernelIdeal.Run

end
-- ==== Proof.Algebra.lean ====
/-
# The kernel's result is the reference's

With the two arrays cut over the devices as the claim cuts them, the four devices' local products sum to the whole product,
so the result array the devices end with is the one of `Spec.lean`.
-/
module

public import proofs.«01_k».proof.Proof.Values
public import Idealize.ShloMosaic.Lib.Layout

@[expose] public section

noncomputable section

namespace Cert.KernelIdeal.Run

open Cert.KernelIdeal Cert.KernelIdeal.Gen

open Idealize.ShloMosaic
open Idealize.ShloMosaic.TcCoe
open Idealize.ShloMosaic.ValueIdx
open Idealize.SL.Sem

variable (m : (ℓ : Loc nD τ sig) → Buf (Elt Ideal) ℓ)

/-- Place `a` of chunk `k`, and of half `r`. -/
def glue (k : Fin 4) (a : Fin 1024) : Fin 4096 := ⟨1024 * k.val + a.val, by omega⟩
def glue2 (r : Fin 2) (b : Fin 1024) : Fin 2048 := ⟨1024 * r.val + b.val, by omega⟩

theorem glue_parts (a : Fin 4096) : glue (hi12 a) (lo12 a) = a := Fin.ext (Nat.div_add_mod a.val 1024)
theorem glue2_parts (b : Fin 2048) : glue2 (hi10 b) (lo10 b) = b := Fin.ext (Nat.div_add_mod b.val 1024)

/-- A sum over 4096 places, chunk by chunk. -/
theorem sum_chunks (f : Fin 4096 → EReal) : ∑ d : Fin 4, ∑ q : Fin 1024, f (glue d q) = ∑ K, f K := by
  rw [← Fintype.sum_prod_type' (fun d q => f (glue d q))]
  exact Fintype.sum_equiv (finProdFinEquiv (m := 4) (n := 1024)) _ _ fun x => congrArg f (Fin.ext (Nat.add_comm _ _))

/-! ## The arrays cut over the devices -/

/-- Each device holds its column block of `A` and its row block of `B`. -/
structure Cut (A : Spec.SA.Idx → EReal) (B : Spec.SB.Idx → EReal) : Prop where
  x : ∀ c : Dev nD, m ((c : Thread nD τ).loc main_arg0) = Layout.block ⟨2, ![4096, 1024]⟩ ⟨2, ![4096, 4096]⟩ 1 4 c A
  w : ∀ c : Dev nD, m ((c : Thread nD τ).loc main_arg1) = Layout.block ⟨2, ![1024, 2048]⟩ ⟨2, ![4096, 2048]⟩ 0 4 c B

variable {m} {A : Spec.SA.Idx → EReal} {B : Spec.SB.Idx → EReal}

theorem xv_apply (h : Cut m A B) (c : Dev nD) (k : Fin 4) (a q : Fin 1024) : xv m c k (at2 a q) = A (ix2 (glue k a) (glue c q)) := by
  unfold xv
  rw [h.x c]
  refine congrArg A (funext fun b => Fin.ext ?_)
  match b with
  | 0 => show 1024 * k.val + 1 * a.val = 1024 * k.val + a.val; omega
  | 1 => show c.val * 1024 + (0 + 1 * q.val) = 1024 * c.val + q.val; omega

theorem wv_apply (h : Cut m A B) (c : Dev nD) (r : Fin 2) (q b : Fin 1024) : wv m c r (at2 q b) = B (ix2 (glue c q) (glue2 r b)) := by
  unfold wv
  rw [h.w c]
  refine congrArg B (funext fun e => Fin.ext ?_)
  match e with
  | 0 => show c.val * 1024 + (0 + 1 * q.val) = 1024 * c.val + q.val; omega
  | 1 => show 1024 * r.val + 1 * b.val = 1024 * r.val + b.val; omega

/-- A reduced half block holds the clipped product's entries. -/
theorem acc_value (h : Cut m A B) (p : Dev nD) (r : Fin 2) (a b : Fin 1024) : acc m p r (at2 a b) = Spec.relu A B (glue p a) (glue2 r b) := by
  rw [acc_apply]
  unfold Spec.relu
  rw [← sum_chunks]
  refine congrArg (max · (0 : EReal)) (Finset.sum_congr rfl fun d _ => ?_)
  rw [prod_apply]
  exact Finset.sum_congr rfl fun q _ => by rw [xv_apply h, wv_apply h]

theorem acc_value' (h : Cut m A B) (p : Dev nD) (r : Fin 2) (j : S1024x1024.Idx) : acc m p r j = Spec.relu A B (glue p (j 0)) (glue2 r (j 1)) :=
  (congrArg (acc m p r) (eq_ix2 j)).trans (acc_value h p r (j 0) (j 1))

/-- The largest of the devices' maxima is the clipped product's largest entry. -/
theorem peak_eq (h : Cut m A B) : (⨆ c : Fin 4, max (max 0 (⨆ j, acc m c 0 j)) (⨆ j, acc m c 1 j) : EReal) = Spec.peak A B := by
  have each : ∀ a b, Spec.relu A B a b ≤ Spec.peak A B := fun a b => le_iSup (fun i : Spec.SB.Idx => Spec.relu A B (i 0) (i 1)) (ix2 a b)
  have half : ∀ (c : Fin 4) (r : Fin 2), (⨆ j, acc m c r j : EReal) ≤ Spec.peak A B := fun c r => iSup_le fun j => (acc_value' h c r j).le.trans (each _ _)
  have pos : (0 : EReal) ≤ Spec.peak A B := (le_max_right _ _).trans (each 0 0)
  refine le_antisymm (iSup_le fun c => max_le (max_le pos (half c 0)) (half c 1)) (iSup_le fun i => ?_)
  have up : ∀ (c : Fin 4) (r : Fin 2), (⨆ j, acc m c r j : EReal) ≤ ⨆ c : Fin 4, max (max 0 (⨆ j, acc m c 0 j)) (⨆ j, acc m c 1 j) := fun c r => by
    refine le_trans ?_ (le_iSup _ c)
    match r with
    | 0 => exact (le_max_right _ _).trans (le_max_left _ _)
    | 1 => exact le_max_right _ _
  have e := acc_value h (hi12 (i 0)) (hi10 (i 1)) (lo12 (i 0)) (lo10 (i 1))
  exact (e.trans (congrArg₂ (Spec.relu A B) (glue_parts (i 0)) (glue2_parts (i 1)))).ge.trans ((le_iSup (fun j => (acc m (hi12 (i 0)) (hi10 (i 1)) j : EReal)) _).trans (up _ _))

/-- The kernel's result array. -/
theorem out_value (h : Cut m A B) (i : S4096x2048.Idx) : out m i = Spec.quant (Spec.scale A B) (Spec.relu A B (i 0) (i 1)) := by
  have e := acc_value' h (hi12 (i 0)) (hi10 (i 1)) (fun a => match a with | 0 => lo12 (i 0) | 1 => lo10 (i 1))
  have e' := e.trans (congrArg₂ (Spec.relu A B) (glue_parts (i 0)) (glue2_parts (i 1)))
  have hs : scale m = Spec.scale A B := (scale_eq m).trans (congrArg (Ideal.div · Spec.top) (peak_eq h))
  exact (outH_value m _ _ _).trans (congrArg₂ Spec.quant hs e')

end Cert.KernelIdeal.Run

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Launch
public import proofs.«01_k».proof.Proof.RefValue
public import proofs.«01_k».proof.Proof.Algebra
public import Idealize.ShloMosaic.Adequacy
public import Idealize.ShloMosaic.Init

@[expose] public section

noncomputable section

namespace Cert.Proof

open Idealize.ShloMosaic Idealize.SL.Sem Cert.Kernel

/-- The kernel's run at the machine's own floats: the two programs are the same text, so the one run serves both. -/
theorem frame_kernel : Cert.quiescent_Kernel := fun m ρ _ =>
  (θ_run Cert.KernelIdeal.defs _ _).mono (fun _ h => ⟨fun c => ⟨(h.1 c).1, (h.1 c).2.1⟩, h.2⟩) (Cert.KernelIdeal.Run.run_main (F := Bits) m ρ)

theorem frame_ideal : Cert.quiescent_KernelIdeal := fun m ρ _ =>
  (θ_run Cert.KernelIdeal.defs _ _).mono (fun _ h => ⟨fun c => ⟨(h.1 c).1, (h.1 c).2.1⟩, h.2⟩) (Cert.KernelIdeal.Run.run_main (F := Ideal) m ρ)

theorem frame_reference : Cert.quiescent_ReferenceIdeal := fun m ρ _ => Cert.ReferenceIdeal.Gen.frame m ρ

/-- At every input, each device's result array is the reference's: both runs end at the one array of `RefValue.lean`. -/
theorem algebraic : Cert.algebraic_KernelIdeal_ReferenceIdeal := fun m g m' g' _ h => by
  have cut : Cert.KernelIdeal.Run.Cut m (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)) :=
    ⟨fun c => (h c).1, fun c => (h c).2⟩
  refine ⟨Cert.ReferenceIdeal.Read.value _ _, ?_, (θ_run Cert.ReferenceIdeal.defs _ _).mono (fun _ hr => hr 0) (Cert.ReferenceIdeal.Read.run m' g')⟩
  exact (θ_run Cert.KernelIdeal.defs _ _).mono
    (fun _ hr c => ⟨(hr.1 c).2.2.trans (funext fun i => Cert.KernelIdeal.Run.out_value cut i), (hr.1 c).1, (hr.1 c).2.1⟩)
    (Cert.KernelIdeal.Run.run_main (F := Ideal) m g)

theorem claim : Cert.Claim := ⟨Cert.Kernel.Gen.facts, Cert.KernelIdeal.Gen.facts, Cert.ReferenceIdeal.Gen.facts,
  frame_kernel, frame_ideal, frame_reference, trivial, algebraic⟩

end Cert.Proof

end
